-- ==== Defs.lean ====
def Pre_GradW2 (m : (ℓ : Loc Cert.GradW2.nD Cert.GradW2.τ Cert.GradW2.sig) → Buf (Elt Bits) ℓ) : Prop :=
  True

def Pre_GradW2Ideal (m : (ℓ : Loc Cert.GradW2Ideal.nD Cert.GradW2Ideal.τ Cert.GradW2Ideal.sig) → Buf (Elt Ideal) ℓ) : Prop :=
  True

def Pre_RefGradW2Ideal (m : (ℓ : Loc Cert.RefGradW2Ideal.nD Cert.RefGradW2Ideal.τ Cert.RefGradW2Ideal.sig) → Buf (Elt Ideal) ℓ) : Prop :=
  True

def Pre_MlpDz (m : (ℓ : Loc Cert.MlpDz.nD Cert.MlpDz.τ Cert.MlpDz.sig) → Buf (Elt Bits) ℓ) : Prop :=
  True

def Pre_MlpDzIdeal (m : (ℓ : Loc Cert.MlpDzIdeal.nD Cert.MlpDzIdeal.τ Cert.MlpDzIdeal.sig) → Buf (Elt Ideal) ℓ) : Prop :=
  True

def Pre_RefMlpDzIdeal (m : (ℓ : Loc Cert.RefMlpDzIdeal.nD Cert.RefMlpDzIdeal.τ Cert.RefMlpDzIdeal.sig) → Buf (Elt Ideal) ℓ) : Prop :=
  True

def Pre_GradW1 (m : (ℓ : Loc Cert.GradW1.nD Cert.GradW1.τ Cert.GradW1.sig) → Buf (Elt Bits) ℓ) : Prop :=
  True

def Pre_GradW1Ideal (m : (ℓ : Loc Cert.GradW1Ideal.nD Cert.GradW1Ideal.τ Cert.GradW1Ideal.sig) → Buf (Elt Ideal) ℓ) : Prop :=
  True

def Pre_RefGradW1Ideal (m : (ℓ : Loc Cert.RefGradW1Ideal.nD Cert.RefGradW1Ideal.τ Cert.RefGradW1Ideal.sig) → Buf (Elt Ideal) ℓ) : Prop :=
  True

def Pre_MlpDn (m : (ℓ : Loc Cert.MlpDn.nD Cert.MlpDn.τ Cert.MlpDn.sig) → Buf (Elt Bits) ℓ) : Prop :=
  True

def Pre_MlpDnIdeal (m : (ℓ : Loc Cert.MlpDnIdeal.nD Cert.MlpDnIdeal.τ Cert.MlpDnIdeal.sig) → Buf (Elt Ideal) ℓ) : Prop :=
  True

def Pre_RefMlpDnIdeal (m : (ℓ : Loc Cert.RefMlpDnIdeal.nD Cert.RefMlpDnIdeal.τ Cert.RefMlpDnIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_RefMixedIdeal (m : (ℓ : Loc Cert.RefMixedIdeal.nD Cert.RefMixedIdeal.τ Cert.RefMixedIdeal.sig) → Buf (Elt Ideal) ℓ) : Prop :=
  True

def Pre_GradWout (m : (ℓ : Loc Cert.GradWout.nD Cert.GradWout.τ Cert.GradWout.sig) → Buf (Elt Bits) ℓ) : Prop :=
  True

def Pre_GradWoutIdeal (m : (ℓ : Loc Cert.GradWoutIdeal.nD Cert.GradWoutIdeal.τ Cert.GradWoutIdeal.sig) → Buf (Elt Ideal) ℓ) : Prop :=
  True

def Pre_RefGradWoutIdeal (m : (ℓ : Loc Cert.RefGradWoutIdeal.nD Cert.RefGradWoutIdeal.τ Cert.RefGradWoutIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_RefInGradIdeal (m : (ℓ : Loc Cert.RefInGradIdeal.nD Cert.RefInGradIdeal.τ Cert.RefInGradIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_RefMlpDownIdeal (m : (ℓ : Loc Cert.RefMlpDownIdeal.nD Cert.RefMlpDownIdeal.τ Cert.RefMlpDownIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_RefNormBwdIdeal (m : (ℓ : Loc Cert.RefNormBwdIdeal.nD Cert.RefNormBwdIdeal.τ Cert.RefNormBwdIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_RefAdamWIdeal (m : (ℓ : Loc Cert.RefAdamWIdeal.nD Cert.RefAdamWIdeal.τ Cert.RefAdamWIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_MlpUpFirst (m : (ℓ : Loc Cert.MlpUpFirst.nD Cert.MlpUpFirst.τ Cert.MlpUpFirst.sig) → Buf (Elt Bits) ℓ) : Prop :=
  True

def Pre_MlpUpFirstIdeal (m : (ℓ : Loc Cert.MlpUpFirstIdeal.nD Cert.MlpUpFirstIdeal.τ Cert.MlpUpFirstIdeal.sig) → Buf (Elt Ideal) ℓ) : Prop :=
  True

def Pre_RefMlpUpFirstIdeal (m : (ℓ : Loc Cert.RefMlpUpFirstIdeal.nD Cert.RefMlpUpFirstIdeal.τ Cert.RefMlpUpFirstIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_RefMlpUpIdeal (m : (ℓ : Loc Cert.RefMlpUpIdeal.nD Cert.RefMlpUpIdeal.τ Cert.RefMlpUpIdeal.sig) → Buf (Elt Ideal) ℓ) : Prop :=
  True

def quiescent_GradW2 [hGradW2 : Cert.GradW2.Facts] : Prop :=
  ∀ (m : (ℓ : Loc Cert.GradW2.nD Cert.GradW2.τ Cert.GradW2.sig) → Buf (Elt Bits) ℓ) (g : Dev Cert.GradW2.nD → PrngReg), Pre_GradW2 m →
    θ_run (Cert.GradW2.defs (F := Bits)) (onTc (τ := Cert.GradW2.τ) (Cert.GradW2.main (F := Bits))) ⟨m, fun _ => 0, g⟩ (fun r => (∀ c : Dev Cert.GradW2.nD,
      r.2.mem ((c.tc : Thread Cert.GradW2.nD Cert.GradW2.τ).loc Cert.GradW2.main_arg0) = m ((c.tc : Thread Cert.GradW2.nD Cert.GradW2.τ).loc Cert.GradW2.main_arg0)
      ∧ r.2.mem ((c.tc : Thread Cert.GradW2.nD Cert.GradW2.τ).loc Cert.GradW2.main_arg1) = m ((c.tc : Thread Cert.GradW2.nD Cert.GradW2.τ).loc Cert.GradW2.main_arg1))
      ∧ r.2.sem = fun _ => 0)

def quiescent_GradW2Ideal [hGradW2Ideal : Cert.GradW2Ideal.Facts] : Prop :=
  ∀ (m : (ℓ : Loc Cert.GradW2Ideal.nD Cert.GradW2Ideal.τ Cert.GradW2Ideal.sig) → Buf (Elt Ideal) ℓ) (g : Dev Cert.GradW2Ideal.nD → PrngReg), Pre_GradW2Ideal m →
    θ_run (Cert.GradW2Ideal.defs (F := Ideal)) (onTc (τ := Cert.GradW2Ideal.τ) (Cert.GradW2Ideal.main (F := Ideal))) ⟨m, fun _ => 0, g⟩ (fun r => (∀ c : Dev Cert.GradW2Ideal.nD,
      r.2.mem ((c.tc : Thread Cert.GradW2Ideal.nD Cert.GradW2Ideal.τ).loc Cert.GradW2Ideal.main_arg0) = m ((c.tc : Thread Cert.GradW2Ideal.nD Cert.GradW2Ideal.τ).loc Cert.GradW2Ideal.main_arg0)
      ∧ r.2.mem ((c.tc : Thread Cert.GradW2Ideal.nD Cert.GradW2Ideal.τ).loc Cert.GradW2Ideal.main_arg1) = m ((c.tc : Thread Cert.GradW2Ideal.nD Cert.GradW2Ideal.τ).loc Cert.GradW2Ideal.main_arg1))
      ∧ r.2.sem = fun _ => 0)

def quiescent_RefGradW2Ideal [hRefGradW2Ideal : Cert.RefGradW2Ideal.Facts] : Prop :=
  ∀ (m : (ℓ : Loc Cert.RefGradW2Ideal.nD Cert.RefGradW2Ideal.τ Cert.RefGradW2Ideal.sig) → Buf (Elt Ideal) ℓ) (g : Dev Cert.RefGradW2Ideal.nD → PrngReg), Pre_RefGradW2Ideal m →
    θ_run (Cert.RefGradW2Ideal.defs (F := Ideal)) (onTc (τ := Cert.RefGradW2Ideal.τ) (Cert.RefGradW2Ideal.main (F := Ideal))) ⟨m, fun _ => 0, g⟩ (fun r => (∀ c : Dev Cert.RefGradW2Ideal.nD,
      r.2.mem ((c.tc : Thread Cert.RefGradW2Ideal.nD Cert.RefGradW2Ideal.τ).loc Cert.RefGradW2Ideal.main_arg0) = m ((c.tc : Thread Cert.RefGradW2Ideal.nD Cert.RefGradW2Ideal.τ).loc Cert.RefGradW2Ideal.main_arg0)
      ∧ r.2.mem ((c.tc : Thread Cert.RefGradW2Ideal.nD Cert.RefGradW2Ideal.τ).loc Cert.RefGradW2Ideal.main_arg1) = m ((c.tc : Thread Cert.RefGradW2Ideal.nD Cert.RefGradW2Ideal.τ).loc Cert.RefGradW2Ideal.main_arg1))
      ∧ r.2.sem = fun _ => 0)

def quiescent_MlpDz [hMlpDz : Cert.MlpDz.Facts] : Prop :=
  ∀ (m : (ℓ : Loc Cert.MlpDz.nD Cert.MlpDz.τ Cert.MlpDz.sig) → Buf (Elt Bits) ℓ) (g : Dev Cert.MlpDz.nD → PrngReg), Pre_MlpDz m →
    θ_run (Cert.MlpDz.defs (F := Bits)) (onTc (τ := Cert.MlpDz.τ) (Cert.MlpDz.main (F := Bits))) ⟨m, fun _ => 0, g⟩ (fun r => (∀ c : Dev Cert.MlpDz.nD,
      r.2.mem ((c.tc : Thread Cert.MlpDz.nD Cert.MlpDz.τ).loc Cert.MlpDz.main_arg0) = m ((c.tc : Thread Cert.MlpDz.nD Cert.MlpDz.τ).loc Cert.MlpDz.main_arg0)
      ∧ r.2.mem ((c.tc : Thread Cert.MlpDz.nD Cert.MlpDz.τ).loc Cert.MlpDz.main_arg1) = m ((c.tc : Thread Cert.MlpDz.nD Cert.MlpDz.τ).loc Cert.MlpDz.main_arg1)
      ∧ r.2.mem ((c.tc : Thread Cert.MlpDz.nD Cert.MlpDz.τ).loc Cert.MlpDz.main_arg2) = m ((c.tc : Thread Cert.MlpDz.nD Cert.MlpDz.τ).loc Cert.MlpDz.main_arg2))
      ∧ r.2.sem = fun _ => 0)

def quiescent_MlpDzIdeal [hMlpDzIdeal : Cert.MlpDzIdeal.Facts] : Prop :=
  ∀ (m : (ℓ : Loc Cert.MlpDzIdeal.nD Cert.MlpDzIdeal.τ Cert.MlpDzIdeal.sig) → Buf (Elt Ideal) ℓ) (g : Dev Cert.MlpDzIdeal.nD → PrngReg), Pre_MlpDzIdeal m →
    θ_run (Cert.MlpDzIdeal.defs (F := Ideal)) (onTc (τ := Cert.MlpDzIdeal.τ) (Cert.MlpDzIdeal.main (F := Ideal))) ⟨m, fun _ => 0, g⟩ (fun r => (∀ c : Dev Cert.MlpDzIdeal.nD,
      r.2.mem ((c.tc : Thread Cert.MlpDzIdeal.nD Cert.MlpDzIdeal.τ).loc Cert.MlpDzIdeal.main_arg0) = m ((c.tc : Thread Cert.MlpDzIdeal.nD Cert.MlpDzIdeal.τ).loc Cert.MlpDzIdeal.main_arg0)
      ∧ r.2.mem ((c.tc : Thread Cert.MlpDzIdeal.nD Cert.MlpDzIdeal.τ).loc Cert.MlpDzIdeal.main_arg1) = m ((c.tc : Thread Cert.MlpDzIdeal.nD Cert.MlpDzIdeal.τ).loc Cert.MlpDzIdeal.main_arg1)
      ∧ r.2.mem ((c.tc : Thread Cert.MlpDzIdeal.nD Cert.MlpDzIdeal.τ).loc Cert.MlpDzIdeal.main_arg2) = m ((c.tc : Thread Cert.MlpDzIdeal.nD Cert.MlpDzIdeal.τ).loc Cert.MlpDzIdeal.main_arg2))
      ∧ r.2.sem = fun _ => 0)

def quiescent_RefMlpDzIdeal [hRefMlpDzIdeal : Cert.RefMlpDzIdeal.Facts] : Prop :=
  ∀ (m : (ℓ : Loc Cert.RefMlpDzIdeal.nD Cert.RefMlpDzIdeal.τ Cert.RefMlpDzIdeal.sig) → Buf (Elt Ideal) ℓ) (g : Dev Cert.RefMlpDzIdeal.nD → PrngReg), Pre_RefMlpDzIdeal m →
    θ_run (Cert.RefMlpDzIdeal.defs (F := Ideal)) (onTc (τ := Cert.RefMlpDzIdeal.τ) (Cert.RefMlpDzIdeal.main (F := Ideal))) ⟨m, fun _ => 0, g⟩ (fun r => (∀ c : Dev Cert.RefMlpDzIdeal.nD,
      r.2.mem ((c.tc : Thread Cert.RefMlpDzIdeal.nD Cert.RefMlpDzIdeal.τ).loc Cert.RefMlpDzIdeal.main_arg0) = m ((c.tc : Thread Cert.RefMlpDzIdeal.nD Cert.RefMlpDzIdeal.τ).loc Cert.RefMlpDzIdeal.main_arg0)
      ∧ r.2.mem ((c.tc : Thread Cert.RefMlpDzIdeal.nD Cert.RefMlpDzIdeal.τ).loc Cert.RefMlpDzIdeal.main_arg1) = m ((c.tc : Thread Cert.RefMlpDzIdeal.nD Cert.RefMlpDzIdeal.τ).loc Cert.RefMlpDzIdeal.main_arg1)
      ∧ r.2.mem ((c.tc : Thread Cert.RefMlpDzIdeal.nD Cert.RefMlpDzIdeal.τ).loc Cert.RefMlpDzIdeal.main_arg2) = m ((c.tc : Thread Cert.RefMlpDzIdeal.nD Cert.RefMlpDzIdeal.τ).loc Cert.RefMlpDzIdeal.main_arg2))
      ∧ r.2.sem = fun _ => 0)

def quiescent_GradW1 [hGradW1 : Cert.GradW1.Facts] : Prop :=
  ∀ (m : (ℓ : Loc Cert.GradW1.nD Cert.GradW1.τ Cert.GradW1.sig) → Buf (Elt Bits) ℓ) (g : Dev Cert.GradW1.nD → PrngReg), Pre_GradW1 m →
    θ_run (Cert.GradW1.defs (F := Bits)) (onTc (τ := Cert.GradW1.τ) (Cert.GradW1.main (F := Bits))) ⟨m, fun _ => 0, g⟩ (fun r => (∀ c : Dev Cert.GradW1.nD,
      r.2.mem ((c.tc : Thread Cert.GradW1.nD Cert.GradW1.τ).loc Cert.GradW1.main_arg0) = m ((c.tc : Thread Cert.GradW1.nD Cert.GradW1.τ).loc Cert.GradW1.main_arg0)
      ∧ r.2.mem ((c.tc : Thread Cert.GradW1.nD Cert.GradW1.τ).loc Cert.GradW1.main_arg1) = m ((c.tc : Thread Cert.GradW1.nD Cert.GradW1.τ).loc Cert.GradW1.main_arg1))
      ∧ r.2.sem = fun _ => 0)

def quiescent_GradW1Ideal [hGradW1Ideal : Cert.GradW1Ideal.Facts] : Prop :=
  ∀ (m : (ℓ : Loc Cert.GradW1Ideal.nD Cert.GradW1Ideal.τ Cert.GradW1Ideal.sig) → Buf (Elt Ideal) ℓ) (g : Dev Cert.GradW1Ideal.nD → PrngReg), Pre_GradW1Ideal m →
    θ_run (Cert.GradW1Ideal.defs (F := Ideal)) (onTc (τ := Cert.GradW1Ideal.τ) (Cert.GradW1Ideal.main (F := Ideal))) ⟨m, fun _ => 0, g⟩ (fun r => (∀ c : Dev Cert.GradW1Ideal.nD,
      r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
      ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1))
      ∧ r.2.sem = fun _ => 0)

def quiescent_RefGradW1Ideal [hRefGradW1Ideal : Cert.RefGradW1Ideal.Facts] : Prop :=
  ∀ (m : (ℓ : Loc Cert.RefGradW1Ideal.nD Cert.RefGradW1Ideal.τ Cert.RefGradW1Ideal.sig) → Buf (Elt Ideal) ℓ) (g : Dev Cert.RefGradW1Ideal.nD → PrngReg), Pre_RefGradW1Ideal m →
    θ_run (Cert.RefGradW1Ideal.defs (F := Ideal)) (onTc (τ := Cert.RefGradW1Ideal.τ) (Cert.RefGradW1Ideal.main (F := Ideal))) ⟨m, fun _ => 0, g⟩ (fun r => (∀ c : Dev Cert.RefGradW1Ideal.nD,
      r.2.mem ((c.tc : Thread Cert.RefGradW1Ideal.nD Cert.RefGradW1Ideal.τ).loc Cert.RefGradW1Ideal.main_arg0) = m ((c.tc : Thread Cert.RefGradW1Ideal.nD Cert.RefGradW1Ideal.τ).loc Cert.RefGradW1Ideal.main_arg0)
      ∧ r.2.mem ((c.tc : Thread Cert.RefGradW1Ideal.nD Cert.RefGradW1Ideal.τ).loc Cert.RefGradW1Ideal.main_arg1) = m ((c.tc : Thread Cert.RefGradW1Ideal.nD Cert.RefGradW1Ideal.τ).loc Cert.RefGradW1Ideal.main_arg1))
      ∧ r.2.sem = fun _ => 0)

def quiescent_MlpDn [hMlpDn : Cert.MlpDn.Facts] : Prop :=
  ∀ (m : (ℓ : Loc Cert.MlpDn.nD Cert.MlpDn.τ Cert.MlpDn.sig) → Buf (Elt Bits) ℓ) (g : Dev Cert.MlpDn.nD → PrngReg), Pre_MlpDn m →
    θ_run (Cert.MlpDn.defs (F := Bits)) (onTc (τ := Cert.MlpDn.τ) (Cert.MlpDn.main (F := Bits))) ⟨m, fun _ => 0, g⟩ (fun r => (∀ c : Dev Cert.MlpDn.nD,
      r.2.mem ((c.tc : Thread Cert.MlpDn.nD Cert.MlpDn.τ).loc Cert.MlpDn.main_arg0) = m ((c.tc : Thread Cert.MlpDn.nD Cert.MlpDn.τ).loc Cert.MlpDn.main_arg0)
      ∧ r.2.mem ((c.tc : Thread Cert.MlpDn.nD Cert.MlpDn.τ).loc Cert.MlpDn.main_arg1) = m ((c.tc : Thread Cert.MlpDn.nD Cert.MlpDn.τ).loc Cert.MlpDn.main_arg1))
      ∧ r.2.sem = fun _ => 0)

def quiescent_MlpDnIdeal [hMlpDnIdeal : Cert.MlpDnIdeal.Facts] : Prop :=
  ∀ (m : (ℓ : Loc Cert.MlpDnIdeal.nD Cert.MlpDnIdeal.τ Cert.MlpDnIdeal.sig) → Buf (Elt Ideal) ℓ) (g : Dev Cert.MlpDnIdeal.nD → PrngReg), Pre_MlpDnIdeal m →
    θ_run (Cert.MlpDnIdeal.defs (F := Ideal)) (onTc (τ := Cert.MlpDnIdeal.τ) (Cert.MlpDnIdeal.main (F := Ideal))) ⟨m, fun _ => 0, g⟩ (fun r => (∀ c : Dev Cert.MlpDnIdeal.nD,
      r.2.mem ((c.tc : Thread Cert.MlpDnIdeal.nD Cert.MlpDnIdeal.τ).loc Cert.MlpDnIdeal.main_arg0) = m ((c.tc : Thread Cert.MlpDnIdeal.nD Cert.MlpDnIdeal.τ).loc Cert.MlpDnIdeal.main_arg0)
      ∧ r.2.mem ((c.tc : Thread Cert.MlpDnIdeal.nD Cert.MlpDnIdeal.τ).loc Cert.MlpDnIdeal.main_arg1) = m ((c.tc : Thread Cert.MlpDnIdeal.nD Cert.MlpDnIdeal.τ).loc Cert.MlpDnIdeal.main_arg1))
      ∧ r.2.sem = fun _ => 0)

def quiescent_RefMlpDnIdeal [hRefMlpDnIdeal : Cert.RefMlpDnIdeal.Facts] : Prop :=
  ∀ (m : (ℓ : Loc Cert.RefMlpDnIdeal.nD Cert.RefMlpDnIdeal.τ Cert.RefMlpDnIdeal.sig) → Buf (Elt Ideal) ℓ) (g : Dev Cert.RefMlpDnIdeal.nD → PrngReg), Pre_RefMlpDnIdeal m →
    θ_run (Cert.RefMlpDnIdeal.defs (F := Ideal)) (onTc (τ := Cert.RefMlpDnIdeal.τ) (Cert.RefMlpDnIdeal.main (F := Ideal))) ⟨m, fun _ => 0, g⟩ (fun r => (∀ c : Dev Cert.RefMlpDnIdeal.nD,
      r.2.mem ((c.tc : Thread Cert.RefMlpDnIdeal.nD Cert.RefMlpDnIdeal.τ).loc Cert.RefMlpDnIdeal.main_arg0) = m ((c.tc : Thread Cert.RefMlpDnIdeal.nD Cert.RefMlpDnIdeal.τ).loc Cert.RefMlpDnIdeal.main_arg0)
      ∧ r.2.mem ((c.tc : Thread Cert.RefMlpDnIdeal.nD Cert.RefMlpDnIdeal.τ).loc Cert.RefMlpDnIdeal.main_arg1) = m ((c.tc : Thread Cert.RefMlpDnIdeal.nD Cert.RefMlpDnIdeal.τ).loc Cert.RefMlpDnIdeal.main_arg1))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1))
      ∧ r.2.sem = fun _ => 0)

def quiescent_RefMixedIdeal [hRefMixedIdeal : Cert.RefMixedIdeal.Facts] : Prop :=
  ∀ (m : (ℓ : Loc Cert.RefMixedIdeal.nD Cert.RefMixedIdeal.τ Cert.RefMixedIdeal.sig) → Buf (Elt Ideal) ℓ) (g : Dev Cert.RefMixedIdeal.nD → PrngReg), Pre_RefMixedIdeal m →
    θ_run (Cert.RefMixedIdeal.defs (F := Ideal)) (onTc (τ := Cert.RefMixedIdeal.τ) (Cert.RefMixedIdeal.main (F := Ideal))) ⟨m, fun _ => 0, g⟩ (fun r => (∀ c : Dev Cert.RefMixedIdeal.nD,
      r.2.mem ((c.tc : Thread Cert.RefMixedIdeal.nD Cert.RefMixedIdeal.τ).loc Cert.RefMixedIdeal.main_arg0) = m ((c.tc : Thread Cert.RefMixedIdeal.nD Cert.RefMixedIdeal.τ).loc Cert.RefMixedIdeal.main_arg0)
      ∧ r.2.mem ((c.tc : Thread Cert.RefMixedIdeal.nD Cert.RefMixedIdeal.τ).loc Cert.RefMixedIdeal.main_arg1) = m ((c.tc : Thread Cert.RefMixedIdeal.nD Cert.RefMixedIdeal.τ).loc Cert.RefMixedIdeal.main_arg1))
      ∧ r.2.sem = fun _ => 0)

def quiescent_GradWout [hGradWout : Cert.GradWout.Facts] : Prop :=
  ∀ (m : (ℓ : Loc Cert.GradWout.nD Cert.GradWout.τ Cert.GradWout.sig) → Buf (Elt Bits) ℓ) (g : Dev Cert.GradWout.nD → PrngReg), Pre_GradWout m →
    θ_run (Cert.GradWout.defs (F := Bits)) (onTc (τ := Cert.GradWout.τ) (Cert.GradWout.main (F := Bits))) ⟨m, fun _ => 0, g⟩ (fun r => (∀ c : Dev Cert.GradWout.nD,
      r.2.mem ((c.tc : Thread Cert.GradWout.nD Cert.GradWout.τ).loc Cert.GradWout.main_arg0) = m ((c.tc : Thread Cert.GradWout.nD Cert.GradWout.τ).loc Cert.GradWout.main_arg0)
      ∧ r.2.mem ((c.tc : Thread Cert.GradWout.nD Cert.GradWout.τ).loc Cert.GradWout.main_arg1) = m ((c.tc : Thread Cert.GradWout.nD Cert.GradWout.τ).loc Cert.GradWout.main_arg1)
      ∧ r.2.mem ((c.tc : Thread Cert.GradWout.nD Cert.GradWout.τ).loc Cert.GradWout.main_arg2) = m ((c.tc : Thread Cert.GradWout.nD Cert.GradWout.τ).loc Cert.GradWout.main_arg2))
      ∧ r.2.sem = fun _ => 0)

def quiescent_GradWoutIdeal [hGradWoutIdeal : Cert.GradWoutIdeal.Facts] : Prop :=
  ∀ (m : (ℓ : Loc Cert.GradWoutIdeal.nD Cert.GradWoutIdeal.τ Cert.GradWoutIdeal.sig) → Buf (Elt Ideal) ℓ) (g : Dev Cert.GradWoutIdeal.nD → PrngReg), Pre_GradWoutIdeal m →
    θ_run (Cert.GradWoutIdeal.defs (F := Ideal)) (onTc (τ := Cert.GradWoutIdeal.τ) (Cert.GradWoutIdeal.main (F := Ideal))) ⟨m, fun _ => 0, g⟩ (fun r => (∀ c : Dev Cert.GradWoutIdeal.nD,
      r.2.mem ((c.tc : Thread Cert.GradWoutIdeal.nD Cert.GradWoutIdeal.τ).loc Cert.GradWoutIdeal.main_arg0) = m ((c.tc : Thread Cert.GradWoutIdeal.nD Cert.GradWoutIdeal.τ).loc Cert.GradWoutIdeal.main_arg0)
      ∧ r.2.mem ((c.tc : Thread Cert.GradWoutIdeal.nD Cert.GradWoutIdeal.τ).loc Cert.GradWoutIdeal.main_arg1) = m ((c.tc : Thread Cert.GradWoutIdeal.nD Cert.GradWoutIdeal.τ).loc Cert.GradWoutIdeal.main_arg1)
      ∧ r.2.mem ((c.tc : Thread Cert.GradWoutIdeal.nD Cert.GradWoutIdeal.τ).loc Cert.GradWoutIdeal.main_arg2) = m ((c.tc : Thread Cert.GradWoutIdeal.nD Cert.GradWoutIdeal.τ).loc Cert.GradWoutIdeal.main_arg2))
      ∧ r.2.sem = fun _ => 0)

def quiescent_RefGradWoutIdeal [hRefGradWoutIdeal : Cert.RefGradWoutIdeal.Facts] : Prop :=
  ∀ (m : (ℓ : Loc Cert.RefGradWoutIdeal.nD Cert.RefGradWoutIdeal.τ Cert.RefGradWoutIdeal.sig) → Buf (Elt Ideal) ℓ) (g : Dev Cert.RefGradWoutIdeal.nD → PrngReg), Pre_RefGradWoutIdeal m →
    θ_run (Cert.RefGradWoutIdeal.defs (F := Ideal)) (onTc (τ := Cert.RefGradWoutIdeal.τ) (Cert.RefGradWoutIdeal.main (F := Ideal))) ⟨m, fun _ => 0, g⟩ (fun r => (∀ c : Dev Cert.RefGradWoutIdeal.nD,
      r.2.mem ((c.tc : Thread Cert.RefGradWoutIdeal.nD Cert.RefGradWoutIdeal.τ).loc Cert.RefGradWoutIdeal.main_arg0) = m ((c.tc : Thread Cert.RefGradWoutIdeal.nD Cert.RefGradWoutIdeal.τ).loc Cert.RefGradWoutIdeal.main_arg0)
      ∧ r.2.mem ((c.tc : Thread Cert.RefGradWoutIdeal.nD Cert.RefGradWoutIdeal.τ).loc Cert.RefGradWoutIdeal.main_arg1) = m ((c.tc : Thread Cert.RefGradWoutIdeal.nD Cert.RefGradWoutIdeal.τ).loc Cert.RefGradWoutIdeal.main_arg1)
      ∧ r.2.mem ((c.tc : Thread Cert.RefGradWoutIdeal.nD Cert.RefGradWoutIdeal.τ).loc Cert.RefGradWoutIdeal.main_arg2) = m ((c.tc : Thread Cert.RefGradWoutIdeal.nD Cert.RefGradWoutIdeal.τ).loc Cert.RefGradWoutIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5)
      ∧ r.2.mem ((c.tc : Thread Cert.InGrad.nD Cert.InGrad.τ).loc Cert.InGrad.main_arg6) = m ((c.tc : Thread Cert.InGrad.nD Cert.InGrad.τ).loc Cert.InGrad.main_arg6))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6))
      ∧ r.2.sem = fun _ => 0)

def quiescent_RefInGradIdeal [hRefInGradIdeal : Cert.RefInGradIdeal.Facts] : Prop :=
  ∀ (m : (ℓ : Loc Cert.RefInGradIdeal.nD Cert.RefInGradIdeal.τ Cert.RefInGradIdeal.sig) → Buf (Elt Ideal) ℓ) (g : Dev Cert.RefInGradIdeal.nD → PrngReg), Pre_RefInGradIdeal m →
    θ_run (Cert.RefInGradIdeal.defs (F := Ideal)) (onTc (τ := Cert.RefInGradIdeal.τ) (Cert.RefInGradIdeal.main (F := Ideal))) ⟨m, fun _ => 0, g⟩ (fun r => (∀ c : Dev Cert.RefInGradIdeal.nD,
      r.2.mem ((c.tc : Thread Cert.RefInGradIdeal.nD Cert.RefInGradIdeal.τ).loc Cert.RefInGradIdeal.main_arg0) = m ((c.tc : Thread Cert.RefInGradIdeal.nD Cert.RefInGradIdeal.τ).loc Cert.RefInGradIdeal.main_arg0)
      ∧ r.2.mem ((c.tc : Thread Cert.RefInGradIdeal.nD Cert.RefInGradIdeal.τ).loc Cert.RefInGradIdeal.main_arg1) = m ((c.tc : Thread Cert.RefInGradIdeal.nD Cert.RefInGradIdeal.τ).loc Cert.RefInGradIdeal.main_arg1)
      ∧ r.2.mem ((c.tc : Thread Cert.RefInGradIdeal.nD Cert.RefInGradIdeal.τ).loc Cert.RefInGradIdeal.main_arg2) = m ((c.tc : Thread Cert.RefInGradIdeal.nD Cert.RefInGradIdeal.τ).loc Cert.RefInGradIdeal.main_arg2)
      ∧ r.2.mem ((c.tc : Thread Cert.RefInGradIdeal.nD Cert.RefInGradIdeal.τ).loc Cert.RefInGradIdeal.main_arg3) = m ((c.tc : Thread Cert.RefInGradIdeal.nD Cert.RefInGradIdeal.τ).loc Cert.RefInGradIdeal.main_arg3)
      ∧ r.2.mem ((c.tc : Thread Cert.RefInGradIdeal.nD Cert.RefInGradIdeal.τ).loc Cert.RefInGradIdeal.main_arg4) = m ((c.tc : Thread Cert.RefInGradIdeal.nD Cert.RefInGradIdeal.τ).loc Cert.RefInGradIdeal.main_arg4)
      ∧ r.2.mem ((c.tc : Thread Cert.RefInGradIdeal.nD Cert.RefInGradIdeal.τ).loc Cert.RefInGradIdeal.main_arg5) = m ((c.tc : Thread Cert.RefInGradIdeal.nD Cert.RefInGradIdeal.τ).loc Cert.RefInGradIdeal.main_arg5)
      ∧ r.2.mem ((c.tc : Thread Cert.RefInGradIdeal.nD Cert.RefInGradIdeal.τ).loc Cert.RefInGradIdeal.main_arg6) = m ((c.tc : Thread Cert.RefInGradIdeal.nD Cert.RefInGradIdeal.τ).loc Cert.RefInGradIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_RefMlpDownIdeal [hRefMlpDownIdeal : Cert.RefMlpDownIdeal.Facts] : Prop :=
  ∀ (m : (ℓ : Loc Cert.RefMlpDownIdeal.nD Cert.RefMlpDownIdeal.τ Cert.RefMlpDownIdeal.sig) → Buf (Elt Ideal) ℓ) (g : Dev Cert.RefMlpDownIdeal.nD → PrngReg), Pre_RefMlpDownIdeal m →
    θ_run (Cert.RefMlpDownIdeal.defs (F := Ideal)) (onTc (τ := Cert.RefMlpDownIdeal.τ) (Cert.RefMlpDownIdeal.main (F := Ideal))) ⟨m, fun _ => 0, g⟩ (fun r => (∀ c : Dev Cert.RefMlpDownIdeal.nD,
      r.2.mem ((c.tc : Thread Cert.RefMlpDownIdeal.nD Cert.RefMlpDownIdeal.τ).loc Cert.RefMlpDownIdeal.main_arg0) = m ((c.tc : Thread Cert.RefMlpDownIdeal.nD Cert.RefMlpDownIdeal.τ).loc Cert.RefMlpDownIdeal.main_arg0)
      ∧ r.2.mem ((c.tc : Thread Cert.RefMlpDownIdeal.nD Cert.RefMlpDownIdeal.τ).loc Cert.RefMlpDownIdeal.main_arg1) = m ((c.tc : Thread Cert.RefMlpDownIdeal.nD Cert.RefMlpDownIdeal.τ).loc Cert.RefMlpDownIdeal.main_arg1)
      ∧ r.2.mem ((c.tc : Thread Cert.RefMlpDownIdeal.nD Cert.RefMlpDownIdeal.τ).loc Cert.RefMlpDownIdeal.main_arg2) = m ((c.tc : Thread Cert.RefMlpDownIdeal.nD Cert.RefMlpDownIdeal.τ).loc Cert.RefMlpDownIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_RefNormBwdIdeal [hRefNormBwdIdeal : Cert.RefNormBwdIdeal.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2)
      ∧ r.2.mem ((c.tc : Thread Cert.RefNormBwdIdeal.nD Cert.RefNormBwdIdeal.τ).loc Cert.RefNormBwdIdeal.main_arg3) = m ((c.tc : Thread Cert.RefNormBwdIdeal.nD Cert.RefNormBwdIdeal.τ).loc Cert.RefNormBwdIdeal.main_arg3))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_RefAdamWIdeal [hRefAdamWIdeal : Cert.RefAdamWIdeal.Facts] : Prop :=
  ∀ (m : (ℓ : Loc Cert.RefAdamWIdeal.nD Cert.RefAdamWIdeal.τ Cert.RefAdamWIdeal.sig) → Buf (Elt Ideal) ℓ) (g : Dev Cert.RefAdamWIdeal.nD → PrngReg), Pre_RefAdamWIdeal m →
    θ_run (Cert.RefAdamWIdeal.defs (F := Ideal)) (onTc (τ := Cert.RefAdamWIdeal.τ) (Cert.RefAdamWIdeal.main (F := Ideal))) ⟨m, fun _ => 0, g⟩ (fun r => (∀ c : Dev Cert.RefAdamWIdeal.nD,
      r.2.mem ((c.tc : Thread Cert.RefAdamWIdeal.nD Cert.RefAdamWIdeal.τ).loc Cert.RefAdamWIdeal.main_arg0) = m ((c.tc : Thread Cert.RefAdamWIdeal.nD Cert.RefAdamWIdeal.τ).loc Cert.RefAdamWIdeal.main_arg0)
      ∧ r.2.mem ((c.tc : Thread Cert.RefAdamWIdeal.nD Cert.RefAdamWIdeal.τ).loc Cert.RefAdamWIdeal.main_arg1) = m ((c.tc : Thread Cert.RefAdamWIdeal.nD Cert.RefAdamWIdeal.τ).loc Cert.RefAdamWIdeal.main_arg1)
      ∧ r.2.mem ((c.tc : Thread Cert.RefAdamWIdeal.nD Cert.RefAdamWIdeal.τ).loc Cert.RefAdamWIdeal.main_arg2) = m ((c.tc : Thread Cert.RefAdamWIdeal.nD Cert.RefAdamWIdeal.τ).loc Cert.RefAdamWIdeal.main_arg2)
      ∧ r.2.mem ((c.tc : Thread Cert.RefAdamWIdeal.nD Cert.RefAdamWIdeal.τ).loc Cert.RefAdamWIdeal.main_arg3) = m ((c.tc : Thread Cert.RefAdamWIdeal.nD Cert.RefAdamWIdeal.τ).loc Cert.RefAdamWIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3)
      ∧ r.2.mem ((c.tc : Thread Cert.RefAdamSmallIdeal.nD Cert.RefAdamSmallIdeal.τ).loc Cert.RefAdamSmallIdeal.main_arg4) = m ((c.tc : Thread Cert.RefAdamSmallIdeal.nD Cert.RefAdamSmallIdeal.τ).loc Cert.RefAdamSmallIdeal.main_arg4)
      ∧ r.2.mem ((c.tc : Thread Cert.RefAdamSmallIdeal.nD Cert.RefAdamSmallIdeal.τ).loc Cert.RefAdamSmallIdeal.main_arg5) = m ((c.tc : Thread Cert.RefAdamSmallIdeal.nD Cert.RefAdamSmallIdeal.τ).loc Cert.RefAdamSmallIdeal.main_arg5)
      ∧ r.2.mem ((c.tc : Thread Cert.RefAdamSmallIdeal.nD Cert.RefAdamSmallIdeal.τ).loc Cert.RefAdamSmallIdeal.main_arg6) = m ((c.tc : Thread Cert.RefAdamSmallIdeal.nD Cert.RefAdamSmallIdeal.τ).loc Cert.RefAdamSmallIdeal.main_arg6)
      ∧ r.2.mem ((c.tc : Thread Cert.RefAdamSmallIdeal.nD Cert.RefAdamSmallIdeal.τ).loc Cert.RefAdamSmallIdeal.main_arg7) = m ((c.tc : Thread Cert.RefAdamSmallIdeal.nD Cert.RefAdamSmallIdeal.τ).loc Cert.RefAdamSmallIdeal.main_arg7)
      ∧ r.2.mem ((c.tc : Thread Cert.RefAdamSmallIdeal.nD Cert.RefAdamSmallIdeal.τ).loc Cert.RefAdamSmallIdeal.main_arg8) = m ((c.tc : Thread Cert.RefAdamSmallIdeal.nD Cert.RefAdamSmallIdeal.τ).loc Cert.RefAdamSmallIdeal.main_arg8)
      ∧ r.2.mem ((c.tc : Thread Cert.RefAdamSmallIdeal.nD Cert.RefAdamSmallIdeal.τ).loc Cert.RefAdamSmallIdeal.main_arg9) = m ((c.tc : Thread Cert.RefAdamSmallIdeal.nD Cert.RefAdamSmallIdeal.τ).loc Cert.RefAdamSmallIdeal.main_arg9)
      ∧ r.2.mem ((c.tc : Thread Cert.RefAdamSmallIdeal.nD Cert.RefAdamSmallIdeal.τ).loc Cert.RefAdamSmallIdeal.main_arg10) = m ((c.tc : Thread Cert.RefAdamSmallIdeal.nD Cert.RefAdamSmallIdeal.τ).loc Cert.RefAdamSmallIdeal.main_arg10)
      ∧ r.2.mem ((c.tc : Thread Cert.RefAdamSmallIdeal.nD Cert.RefAdamSmallIdeal.τ).loc Cert.RefAdamSmallIdeal.main_arg11) = m ((c.tc : Thread Cert.RefAdamSmallIdeal.nD Cert.RefAdamSmallIdeal.τ).loc Cert.RefAdamSmallIdeal.main_arg11)
      ∧ r.2.mem ((c.tc : Thread Cert.RefAdamSmallIdeal.nD Cert.RefAdamSmallIdeal.τ).loc Cert.RefAdamSmallIdeal.main_arg12) = m ((c.tc : Thread Cert.RefAdamSmallIdeal.nD Cert.RefAdamSmallIdeal.τ).loc Cert.RefAdamSmallIdeal.main_arg12)
      ∧ r.2.mem ((c.tc : Thread Cert.RefAdamSmallIdeal.nD Cert.RefAdamSmallIdeal.τ).loc Cert.RefAdamSmallIdeal.main_arg13) = m ((c.tc : Thread Cert.RefAdamSmallIdeal.nD Cert.RefAdamSmallIdeal.τ).loc Cert.RefAdamSmallIdeal.main_arg13)
      ∧ r.2.mem ((c.tc : Thread Cert.RefAdamSmallIdeal.nD Cert.RefAdamSmallIdeal.τ).loc Cert.RefAdamSmallIdeal.main_arg14) = m ((c.tc : Thread Cert.RefAdamSmallIdeal.nD Cert.RefAdamSmallIdeal.τ).loc Cert.RefAdamSmallIdeal.main_arg14)
      ∧ r.2.mem ((c.tc : Thread Cert.RefAdamSmallIdeal.nD Cert.RefAdamSmallIdeal.τ).loc Cert.RefAdamSmallIdeal.main_arg15) = m ((c.tc : Thread Cert.RefAdamSmallIdeal.nD Cert.RefAdamSmallIdeal.τ).loc Cert.RefAdamSmallIdeal.main_arg15)
      ∧ r.2.mem ((c.tc : Thread Cert.RefAdamSmallIdeal.nD Cert.RefAdamSmallIdeal.τ).loc Cert.RefAdamSmallIdeal.main_arg16) = m ((c.tc : Thread Cert.RefAdamSmallIdeal.nD Cert.RefAdamSmallIdeal.τ).loc Cert.RefAdamSmallIdeal.main_arg16)
      ∧ r.2.mem ((c.tc : Thread Cert.RefAdamSmallIdeal.nD Cert.RefAdamSmallIdeal.τ).loc Cert.RefAdamSmallIdeal.main_arg17) = m ((c.tc : Thread Cert.RefAdamSmallIdeal.nD Cert.RefAdamSmallIdeal.τ).loc Cert.RefAdamSmallIdeal.main_arg17)
      ∧ r.2.mem ((c.tc : Thread Cert.RefAdamSmallIdeal.nD Cert.RefAdamSmallIdeal.τ).loc Cert.RefAdamSmallIdeal.main_arg18) = m ((c.tc : Thread Cert.RefAdamSmallIdeal.nD Cert.RefAdamSmallIdeal.τ).loc Cert.RefAdamSmallIdeal.main_arg18)
      ∧ r.2.mem ((c.tc : Thread Cert.RefAdamSmallIdeal.nD Cert.RefAdamSmallIdeal.τ).loc Cert.RefAdamSmallIdeal.main_arg19) = m ((c.tc : Thread Cert.RefAdamSmallIdeal.nD Cert.RefAdamSmallIdeal.τ).loc Cert.RefAdamSmallIdeal.main_arg19)
      ∧ r.2.mem ((c.tc : Thread Cert.RefAdamSmallIdeal.nD Cert.RefAdamSmallIdeal.τ).loc Cert.RefAdamSmallIdeal.main_arg20) = m ((c.tc : Thread Cert.RefAdamSmallIdeal.nD Cert.RefAdamSmallIdeal.τ).loc Cert.RefAdamSmallIdeal.main_arg20)
      ∧ r.2.mem ((c.tc : Thread Cert.RefAdamSmallIdeal.nD Cert.RefAdamSmallIdeal.τ).loc Cert.RefAdamSmallIdeal.main_arg21) = m ((c.tc : Thread Cert.RefAdamSmallIdeal.nD Cert.RefAdamSmallIdeal.τ).loc Cert.RefAdamSmallIdeal.main_arg21)
      ∧ r.2.mem ((c.tc : Thread Cert.RefAdamSmallIdeal.nD Cert.RefAdamSmallIdeal.τ).loc Cert.RefAdamSmallIdeal.main_arg22) = m ((c.tc : Thread Cert.RefAdamSmallIdeal.nD Cert.RefAdamSmallIdeal.τ).loc Cert.RefAdamSmallIdeal.main_arg22)
      ∧ r.2.mem ((c.tc : Thread Cert.RefAdamSmallIdeal.nD Cert.RefAdamSmallIdeal.τ).loc Cert.RefAdamSmallIdeal.main_arg23) = m ((c.tc : Thread Cert.RefAdamSmallIdeal.nD Cert.RefAdamSmallIdeal.τ).loc Cert.RefAdamSmallIdeal.main_arg23)
      ∧ r.2.mem ((c.tc : Thread Cert.RefAdamSmallIdeal.nD Cert.RefAdamSmallIdeal.τ).loc Cert.RefAdamSmallIdeal.main_arg24) = m ((c.tc : Thread Cert.RefAdamSmallIdeal.nD Cert.RefAdamSmallIdeal.τ).loc Cert.RefAdamSmallIdeal.main_arg24)
      ∧ r.2.mem ((c.tc : Thread Cert.RefAdamSmallIdeal.nD Cert.RefAdamSmallIdeal.τ).loc Cert.RefAdamSmallIdeal.main_arg25) = m ((c.tc : Thread Cert.RefAdamSmallIdeal.nD Cert.RefAdamSmallIdeal.τ).loc Cert.RefAdamSmallIdeal.main_arg25)
      ∧ r.2.mem ((c.tc : Thread Cert.RefAdamSmallIdeal.nD Cert.RefAdamSmallIdeal.τ).loc Cert.RefAdamSmallIdeal.main_arg26) = m ((c.tc : Thread Cert.RefAdamSmallIdeal.nD Cert.RefAdamSmallIdeal.τ).loc Cert.RefAdamSmallIdeal.main_arg26)
      ∧ r.2.mem ((c.tc : Thread Cert.RefAdamSmallIdeal.nD Cert.RefAdamSmallIdeal.τ).loc Cert.RefAdamSmallIdeal.main_arg27) = m ((c.tc : Thread Cert.RefAdamSmallIdeal.nD Cert.RefAdamSmallIdeal.τ).loc Cert.RefAdamSmallIdeal.main_arg27)
      ∧ r.2.mem ((c.tc : Thread Cert.RefAdamSmallIdeal.nD Cert.RefAdamSmallIdeal.τ).loc Cert.RefAdamSmallIdeal.main_arg28) = m ((c.tc : Thread Cert.RefAdamSmallIdeal.nD Cert.RefAdamSmallIdeal.τ).loc Cert.RefAdamSmallIdeal.main_arg28)
      ∧ r.2.mem ((c.tc : Thread Cert.RefAdamSmallIdeal.nD Cert.RefAdamSmallIdeal.τ).loc Cert.RefAdamSmallIdeal.main_arg29) = m ((c.tc : Thread Cert.RefAdamSmallIdeal.nD Cert.RefAdamSmallIdeal.τ).loc Cert.RefAdamSmallIdeal.main_arg29)
      ∧ r.2.mem ((c.tc : Thread Cert.RefAdamSmallIdeal.nD Cert.RefAdamSmallIdeal.τ).loc Cert.RefAdamSmallIdeal.main_arg30) = m ((c.tc : Thread Cert.RefAdamSmallIdeal.nD Cert.RefAdamSmallIdeal.τ).loc Cert.RefAdamSmallIdeal.main_arg30)
      ∧ r.2.mem ((c.tc : Thread Cert.RefAdamSmallIdeal.nD Cert.RefAdamSmallIdeal.τ).loc Cert.RefAdamSmallIdeal.main_arg31) = m ((c.tc : Thread Cert.RefAdamSmallIdeal.nD Cert.RefAdamSmallIdeal.τ).loc Cert.RefAdamSmallIdeal.main_arg31)
      ∧ r.2.mem ((c.tc : Thread Cert.RefAdamSmallIdeal.nD Cert.RefAdamSmallIdeal.τ).loc Cert.RefAdamSmallIdeal.main_arg32) = m ((c.tc : Thread Cert.RefAdamSmallIdeal.nD Cert.RefAdamSmallIdeal.τ).loc Cert.RefAdamSmallIdeal.main_arg32)
      ∧ r.2.mem ((c.tc : Thread Cert.RefAdamSmallIdeal.nD Cert.RefAdamSmallIdeal.τ).loc Cert.RefAdamSmallIdeal.main_arg33) = m ((c.tc : Thread Cert.RefAdamSmallIdeal.nD Cert.RefAdamSmallIdeal.τ).loc Cert.RefAdamSmallIdeal.main_arg33)
      ∧ r.2.mem ((c.tc : Thread Cert.RefAdamSmallIdeal.nD Cert.RefAdamSmallIdeal.τ).loc Cert.RefAdamSmallIdeal.main_arg34) = m ((c.tc : Thread Cert.RefAdamSmallIdeal.nD Cert.RefAdamSmallIdeal.τ).loc Cert.RefAdamSmallIdeal.main_arg34)
      ∧ r.2.mem ((c.tc : Thread Cert.RefAdamSmallIdeal.nD Cert.RefAdamSmallIdeal.τ).loc Cert.RefAdamSmallIdeal.main_arg35) = m ((c.tc : Thread Cert.RefAdamSmallIdeal.nD Cert.RefAdamSmallIdeal.τ).loc Cert.RefAdamSmallIdeal.main_arg35))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1))
      ∧ r.2.sem = fun _ => 0)

def quiescent_MlpUpFirst [hMlpUpFirst : Cert.MlpUpFirst.Facts] : Prop :=
  ∀ (m : (ℓ : Loc Cert.MlpUpFirst.nD Cert.MlpUpFirst.τ Cert.MlpUpFirst.sig) → Buf (Elt Bits) ℓ) (g : Dev Cert.MlpUpFirst.nD → PrngReg), Pre_MlpUpFirst m →
    θ_run (Cert.MlpUpFirst.defs (F := Bits)) (onTc (τ := Cert.MlpUpFirst.τ) (Cert.MlpUpFirst.main (F := Bits))) ⟨m, fun _ => 0, g⟩ (fun r => (∀ c : Dev Cert.MlpUpFirst.nD,
      r.2.mem ((c.tc : Thread Cert.MlpUpFirst.nD Cert.MlpUpFirst.τ).loc Cert.MlpUpFirst.main_arg0) = m ((c.tc : Thread Cert.MlpUpFirst.nD Cert.MlpUpFirst.τ).loc Cert.MlpUpFirst.main_arg0)
      ∧ r.2.mem ((c.tc : Thread Cert.MlpUpFirst.nD Cert.MlpUpFirst.τ).loc Cert.MlpUpFirst.main_arg1) = m ((c.tc : Thread Cert.MlpUpFirst.nD Cert.MlpUpFirst.τ).loc Cert.MlpUpFirst.main_arg1))
      ∧ r.2.sem = fun _ => 0)

def quiescent_MlpUpFirstIdeal [hMlpUpFirstIdeal : Cert.MlpUpFirstIdeal.Facts] : Prop :=
  ∀ (m : (ℓ : Loc Cert.MlpUpFirstIdeal.nD Cert.MlpUpFirstIdeal.τ Cert.MlpUpFirstIdeal.sig) → Buf (Elt Ideal) ℓ) (g : Dev Cert.MlpUpFirstIdeal.nD → PrngReg), Pre_MlpUpFirstIdeal m →
    θ_run (Cert.MlpUpFirstIdeal.defs (F := Ideal)) (onTc (τ := Cert.MlpUpFirstIdeal.τ) (Cert.MlpUpFirstIdeal.main (F := Ideal))) ⟨m, fun _ => 0, g⟩ (fun r => (∀ c : Dev Cert.MlpUpFirstIdeal.nD,
      r.2.mem ((c.tc : Thread Cert.MlpUpFirstIdeal.nD Cert.MlpUpFirstIdeal.τ).loc Cert.MlpUpFirstIdeal.main_arg0) = m ((c.tc : Thread Cert.MlpUpFirstIdeal.nD Cert.MlpUpFirstIdeal.τ).loc Cert.MlpUpFirstIdeal.main_arg0)
      ∧ r.2.mem ((c.tc : Thread Cert.MlpUpFirstIdeal.nD Cert.MlpUpFirstIdeal.τ).loc Cert.MlpUpFirstIdeal.main_arg1) = m ((c.tc : Thread Cert.MlpUpFirstIdeal.nD Cert.MlpUpFirstIdeal.τ).loc Cert.MlpUpFirstIdeal.main_arg1))
      ∧ r.2.sem = fun _ => 0)

def quiescent_RefMlpUpFirstIdeal [hRefMlpUpFirstIdeal : Cert.RefMlpUpFirstIdeal.Facts] : Prop :=
  ∀ (m : (ℓ : Loc Cert.RefMlpUpFirstIdeal.nD Cert.RefMlpUpFirstIdeal.τ Cert.RefMlpUpFirstIdeal.sig) → Buf (Elt Ideal) ℓ) (g : Dev Cert.RefMlpUpFirstIdeal.nD → PrngReg), Pre_RefMlpUpFirstIdeal m →
    θ_run (Cert.RefMlpUpFirstIdeal.defs (F := Ideal)) (onTc (τ := Cert.RefMlpUpFirstIdeal.τ) (Cert.RefMlpUpFirstIdeal.main (F := Ideal))) ⟨m, fun _ => 0, g⟩ (fun r => (∀ c : Dev Cert.RefMlpUpFirstIdeal.nD,
      r.2.mem ((c.tc : Thread Cert.RefMlpUpFirstIdeal.nD Cert.RefMlpUpFirstIdeal.τ).loc Cert.RefMlpUpFirstIdeal.main_arg0) = m ((c.tc : Thread Cert.RefMlpUpFirstIdeal.nD Cert.RefMlpUpFirstIdeal.τ).loc Cert.RefMlpUpFirstIdeal.main_arg0)
      ∧ r.2.mem ((c.tc : Thread Cert.RefMlpUpFirstIdeal.nD Cert.RefMlpUpFirstIdeal.τ).loc Cert.RefMlpUpFirstIdeal.main_arg1) = m ((c.tc : Thread Cert.RefMlpUpFirstIdeal.nD Cert.RefMlpUpFirstIdeal.τ).loc Cert.RefMlpUpFirstIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_RefMlpUpIdeal [hRefMlpUpIdeal : Cert.RefMlpUpIdeal.Facts] : Prop :=
  ∀ (m : (ℓ : Loc Cert.RefMlpUpIdeal.nD Cert.RefMlpUpIdeal.τ Cert.RefMlpUpIdeal.sig) → Buf (Elt Ideal) ℓ) (g : Dev Cert.RefMlpUpIdeal.nD → PrngReg), Pre_RefMlpUpIdeal m →
    θ_run (Cert.RefMlpUpIdeal.defs (F := Ideal)) (onTc (τ := Cert.RefMlpUpIdeal.τ) (Cert.RefMlpUpIdeal.main (F := Ideal))) ⟨m, fun _ => 0, g⟩ (fun r => (∀ c : Dev Cert.RefMlpUpIdeal.nD,
      r.2.mem ((c.tc : Thread Cert.RefMlpUpIdeal.nD Cert.RefMlpUpIdeal.τ).loc Cert.RefMlpUpIdeal.main_arg0) = m ((c.tc : Thread Cert.RefMlpUpIdeal.nD Cert.RefMlpUpIdeal.τ).loc Cert.RefMlpUpIdeal.main_arg0)
      ∧ r.2.mem ((c.tc : Thread Cert.RefMlpUpIdeal.nD Cert.RefMlpUpIdeal.τ).loc Cert.RefMlpUpIdeal.main_arg1) = m ((c.tc : Thread Cert.RefMlpUpIdeal.nD Cert.RefMlpUpIdeal.τ).loc Cert.RefMlpUpIdeal.main_arg1))
      ∧ r.2.sem = fun _ => 0)

def preserves_GradW2_GradW2Ideal : Prop :=
  True

def algebraic_GradW2Ideal_RefGradW2Ideal [hGradW2Ideal : Cert.GradW2Ideal.Facts] [hRefGradW2Ideal : Cert.RefGradW2Ideal.Facts] : Prop :=
  ∀ (m : (ℓ : Loc Cert.GradW2Ideal.nD Cert.GradW2Ideal.τ Cert.GradW2Ideal.sig) → Buf (Elt Ideal) ℓ) (g : Dev Cert.GradW2Ideal.nD → PrngReg)
    (m' : (ℓ : Loc Cert.RefGradW2Ideal.nD Cert.RefGradW2Ideal.τ Cert.RefGradW2Ideal.sig) → Buf (Elt Ideal) ℓ) (g' : Dev Cert.RefGradW2Ideal.nD → PrngReg), Pre_GradW2Ideal m →
    (∀ c : Dev Cert.GradW2Ideal.nD,
      m' ((c.tc : Thread Cert.RefGradW2Ideal.nD Cert.RefGradW2Ideal.τ).loc Cert.RefGradW2Ideal.main_arg0) = m ((c.tc : Thread Cert.GradW2Ideal.nD Cert.GradW2Ideal.τ).loc Cert.GradW2Ideal.main_arg0)
      ∧ m' ((c.tc : Thread Cert.RefGradW2Ideal.nD Cert.RefGradW2Ideal.τ).loc Cert.RefGradW2Ideal.main_arg1) = m ((c.tc : Thread Cert.GradW2Ideal.nD Cert.GradW2Ideal.τ).loc Cert.GradW2Ideal.main_arg1)) →
    ∃ (v0 : (c : Dev Cert.GradW2Ideal.nD) → Buf (Elt Ideal) ((c.tc : Thread Cert.GradW2Ideal.nD Cert.GradW2Ideal.τ).loc Cert.GradW2Ideal.main_v3)),
      θ_run (Cert.GradW2Ideal.defs (F := Ideal)) (onTc (τ := Cert.GradW2Ideal.τ) (Cert.GradW2Ideal.main (F := Ideal))) ⟨m, fun _ => 0, g⟩ (fun r => ∀ c : Dev Cert.GradW2Ideal.nD,
          r.2.mem ((c.tc : Thread Cert.GradW2Ideal.nD Cert.GradW2Ideal.τ).loc Cert.GradW2Ideal.main_v3) = v0 c
          ∧ r.2.mem ((c.tc : Thread Cert.GradW2Ideal.nD Cert.GradW2Ideal.τ).loc Cert.GradW2Ideal.main_arg0) = m ((c.tc : Thread Cert.GradW2Ideal.nD Cert.GradW2Ideal.τ).loc Cert.GradW2Ideal.main_arg0)
          ∧ r.2.mem ((c.tc : Thread Cert.GradW2Ideal.nD Cert.GradW2Ideal.τ).loc Cert.GradW2Ideal.main_arg1) = m ((c.tc : Thread Cert.GradW2Ideal.nD Cert.GradW2Ideal.τ).loc Cert.GradW2Ideal.main_arg1))
      ∧ θ_run (Cert.RefGradW2Ideal.defs (F := Ideal)) (onTc (τ := Cert.RefGradW2Ideal.τ) (Cert.RefGradW2Ideal.main (F := Ideal))) ⟨m', fun _ => 0, g'⟩ (fun r => ∀ c : Dev Cert.RefGradW2Ideal.nD,
          r.2.mem ((c.tc : Thread Cert.RefGradW2Ideal.nD Cert.RefGradW2Ideal.τ).loc Cert.RefGradW2Ideal.main_v6) = v0 c
          ∧ r.2.mem ((c.tc : Thread Cert.RefGradW2Ideal.nD Cert.RefGradW2Ideal.τ).loc Cert.RefGradW2Ideal.main_arg0) = m' ((c.tc : Thread Cert.RefGradW2Ideal.nD Cert.RefGradW2Ideal.τ).loc Cert.RefGradW2Ideal.main_arg0)
          ∧ r.2.mem ((c.tc : Thread Cert.RefGradW2Ideal.nD Cert.RefGradW2Ideal.τ).loc Cert.RefGradW2Ideal.main_arg1) = m' ((c.tc : Thread Cert.RefGradW2Ideal.nD Cert.RefGradW2Ideal.τ).loc Cert.RefGradW2Ideal.main_arg1))

def preserves_MlpDz_MlpDzIdeal : Prop :=
  True

def algebraic_MlpDzIdeal_RefMlpDzIdeal [hMlpDzIdeal : Cert.MlpDzIdeal.Facts] [hRefMlpDzIdeal : Cert.RefMlpDzIdeal.Facts] : Prop :=
  ∀ (m : (ℓ : Loc Cert.MlpDzIdeal.nD Cert.MlpDzIdeal.τ Cert.MlpDzIdeal.sig) → Buf (Elt Ideal) ℓ) (g : Dev Cert.MlpDzIdeal.nD → PrngReg)
    (m' : (ℓ : Loc Cert.RefMlpDzIdeal.nD Cert.RefMlpDzIdeal.τ Cert.RefMlpDzIdeal.sig) → Buf (Elt Ideal) ℓ) (g' : Dev Cert.RefMlpDzIdeal.nD → PrngReg), Pre_MlpDzIdeal m →
    (∀ c : Dev Cert.MlpDzIdeal.nD,
      m' ((c.tc : Thread Cert.RefMlpDzIdeal.nD Cert.RefMlpDzIdeal.τ).loc Cert.RefMlpDzIdeal.main_arg0) = m ((c.tc : Thread Cert.MlpDzIdeal.nD Cert.MlpDzIdeal.τ).loc Cert.MlpDzIdeal.main_arg0)
      ∧ m' ((c.tc : Thread Cert.RefMlpDzIdeal.nD Cert.RefMlpDzIdeal.τ).loc Cert.RefMlpDzIdeal.main_arg1) = m ((c.tc : Thread Cert.MlpDzIdeal.nD Cert.MlpDzIdeal.τ).loc Cert.MlpDzIdeal.main_arg1)
      ∧ m' ((c.tc : Thread Cert.RefMlpDzIdeal.nD Cert.RefMlpDzIdeal.τ).loc Cert.RefMlpDzIdeal.main_arg2) = m ((c.tc : Thread Cert.MlpDzIdeal.nD Cert.MlpDzIdeal.τ).loc Cert.MlpDzIdeal.main_arg2)) →
    ∃ (v0 : (c : Dev Cert.MlpDzIdeal.nD) → Buf (Elt Ideal) ((c.tc : Thread Cert.MlpDzIdeal.nD Cert.MlpDzIdeal.τ).loc Cert.MlpDzIdeal.main_v3)),
      θ_run (Cert.MlpDzIdeal.defs (F := Ideal)) (onTc (τ := Cert.MlpDzIdeal.τ) (Cert.MlpDzIdeal.main (F := Ideal))) ⟨m, fun _ => 0, g⟩ (fun r => ∀ c : Dev Cert.MlpDzIdeal.nD,
          r.2.mem ((c.tc : Thread Cert.MlpDzIdeal.nD Cert.MlpDzIdeal.τ).loc Cert.MlpDzIdeal.main_v3) = v0 c
          ∧ r.2.mem ((c.tc : Thread Cert.MlpDzIdeal.nD Cert.MlpDzIdeal.τ).loc Cert.MlpDzIdeal.main_arg0) = m ((c.tc : Thread Cert.MlpDzIdeal.nD Cert.MlpDzIdeal.τ).loc Cert.MlpDzIdeal.main_arg0)
          ∧ r.2.mem ((c.tc : Thread Cert.MlpDzIdeal.nD Cert.MlpDzIdeal.τ).loc Cert.MlpDzIdeal.main_arg1) = m ((c.tc : Thread Cert.MlpDzIdeal.nD Cert.MlpDzIdeal.τ).loc Cert.MlpDzIdeal.main_arg1)
          ∧ r.2.mem ((c.tc : Thread Cert.MlpDzIdeal.nD Cert.MlpDzIdeal.τ).loc Cert.MlpDzIdeal.main_arg2) = m ((c.tc : Thread Cert.MlpDzIdeal.nD Cert.MlpDzIdeal.τ).loc Cert.MlpDzIdeal.main_arg2))
      ∧ θ_run (Cert.RefMlpDzIdeal.defs (F := Ideal)) (onTc (τ := Cert.RefMlpDzIdeal.τ) (Cert.RefMlpDzIdeal.main (F := Ideal))) ⟨m', fun _ => 0, g'⟩ (fun r => ∀ c : Dev Cert.RefMlpDzIdeal.nD,
          r.2.mem ((c.tc : Thread Cert.RefMlpDzIdeal.nD Cert.RefMlpDzIdeal.τ).loc Cert.RefMlpDzIdeal.main_v14) = v0 c
          ∧ r.2.mem ((c.tc : Thread Cert.RefMlpDzIdeal.nD Cert.RefMlpDzIdeal.τ).loc Cert.RefMlpDzIdeal.main_arg0) = m' ((c.tc : Thread Cert.RefMlpDzIdeal.nD Cert.RefMlpDzIdeal.τ).loc Cert.RefMlpDzIdeal.main_arg0)
          ∧ r.2.mem ((c.tc : Thread Cert.RefMlpDzIdeal.nD Cert.RefMlpDzIdeal.τ).loc Cert.RefMlpDzIdeal.main_arg1) = m' ((c.tc : Thread Cert.RefMlpDzIdeal.nD Cert.RefMlpDzIdeal.τ).loc Cert.RefMlpDzIdeal.main_arg1)
          ∧ r.2.mem ((c.tc : Thread Cert.RefMlpDzIdeal.nD Cert.RefMlpDzIdeal.τ).loc Cert.RefMlpDzIdeal.main_arg2) = m' ((c.tc : Thread Cert.RefMlpDzIdeal.nD Cert.RefMlpDzIdeal.τ).loc Cert.RefMlpDzIdeal.main_arg2))

def preserves_GradW1_GradW1Ideal : Prop :=
  True

def algebraic_GradW1Ideal_RefGradW1Ideal [hGradW1Ideal : Cert.GradW1Ideal.Facts] [hRefGradW1Ideal : Cert.RefGradW1Ideal.Facts] : Prop :=
  ∀ (m : (ℓ : Loc Cert.GradW1Ideal.nD Cert.GradW1Ideal.τ Cert.GradW1Ideal.sig) → Buf (Elt Ideal) ℓ) (g : Dev Cert.GradW1Ideal.nD → PrngReg)
    (m' : (ℓ : Loc Cert.RefGradW1Ideal.nD Cert.RefGradW1Ideal.τ Cert.RefGradW1Ideal.sig) → Buf (Elt Ideal) ℓ) (g' : Dev Cert.RefGradW1Ideal.nD → PrngReg), Pre_GradW1Ideal m →
    (∀ c : Dev Cert.GradW1Ideal.nD,
      m' ((c.tc : Thread Cert.RefGradW1Ideal.nD Cert.RefGradW1Ideal.τ).loc Cert.RefGradW1Ideal.main_arg0) = m ((c.tc : Thread Cert.GradW1Ideal.nD Cert.GradW1Ideal.τ).loc Cert.GradW1Ideal.main_arg0)
      ∧ m' ((c.tc : Thread Cert.RefGradW1Ideal.nD Cert.RefGradW1Ideal.τ).loc Cert.RefGradW1Ideal.main_arg1) = m ((c.tc : Thread Cert.GradW1Ideal.nD Cert.GradW1Ideal.τ).loc Cert.GradW1Ideal.main_arg1)) →
    ∃ (v0 : (c : Dev Cert.GradW1Ideal.nD) → Buf (Elt Ideal) ((c.tc : Thread Cert.GradW1Ideal.nD Cert.GradW1Ideal.τ).loc Cert.GradW1Ideal.main_v1)),
      θ_run (Cert.GradW1Ideal.defs (F := Ideal)) (onTc (τ := Cert.GradW1Ideal.τ) (Cert.GradW1Ideal.main (F := Ideal))) ⟨m, fun _ => 0, g⟩ (fun r => ∀ c : Dev Cert.GradW1Ideal.nD,
          r.2.mem ((c.tc : Thread Cert.GradW1Ideal.nD Cert.GradW1Ideal.τ).loc Cert.GradW1Ideal.main_v1) = v0 c
          ∧ r.2.mem ((c.tc : Thread Cert.GradW1Ideal.nD Cert.GradW1Ideal.τ).loc Cert.GradW1Ideal.main_arg0) = m ((c.tc : Thread Cert.GradW1Ideal.nD Cert.GradW1Ideal.τ).loc Cert.GradW1Ideal.main_arg0)
          ∧ r.2.mem ((c.tc : Thread Cert.GradW1Ideal.nD Cert.GradW1Ideal.τ).loc Cert.GradW1Ideal.main_arg1) = m ((c.tc : Thread Cert.GradW1Ideal.nD Cert.GradW1Ideal.τ).loc Cert.GradW1Ideal.main_arg1))
      ∧ θ_run (Cert.RefGradW1Ideal.defs (F := Ideal)) (onTc (τ := Cert.RefGradW1Ideal.τ) (Cert.RefGradW1Ideal.main (F := Ideal))) ⟨m', fun _ => 0, g'⟩ (fun r => ∀ c : Dev Cert.RefGradW1Ideal.nD,
          r.2.mem ((c.tc : Thread Cert.RefGradW1Ideal.nD Cert.RefGradW1Ideal.τ).loc Cert.RefGradW1Ideal.main_v7) = v0 c
          ∧ r.2.mem ((c.tc : Thread Cert.RefGradW1Ideal.nD Cert.RefGradW1Ideal.τ).loc Cert.RefGradW1Ideal.main_arg0) = m' ((c.tc : Thread Cert.RefGradW1Ideal.nD Cert.RefGradW1Ideal.τ).loc Cert.RefGradW1Ideal.main_arg0)
          ∧ r.2.mem ((c.tc : Thread Cert.RefGradW1Ideal.nD Cert.RefGradW1Ideal.τ).loc Cert.RefGradW1Ideal.main_arg1) = m' ((c.tc : Thread Cert.RefGradW1Ideal.nD Cert.RefGradW1Ideal.τ).loc Cert.RefGradW1Ideal.main_arg1))

def preserves_MlpDn_MlpDnIdeal : Prop :=
  True

def algebraic_MlpDnIdeal_RefMlpDnIdeal [hMlpDnIdeal : Cert.MlpDnIdeal.Facts] [hRefMlpDnIdeal : Cert.RefMlpDnIdeal.Facts] : Prop :=
  ∀ (m : (ℓ : Loc Cert.MlpDnIdeal.nD Cert.MlpDnIdeal.τ Cert.MlpDnIdeal.sig) → Buf (Elt Ideal) ℓ) (g : Dev Cert.MlpDnIdeal.nD → PrngReg)
    (m' : (ℓ : Loc Cert.RefMlpDnIdeal.nD Cert.RefMlpDnIdeal.τ Cert.RefMlpDnIdeal.sig) → Buf (Elt Ideal) ℓ) (g' : Dev Cert.RefMlpDnIdeal.nD → PrngReg), Pre_MlpDnIdeal m →
    (∀ c : Dev Cert.MlpDnIdeal.nD,
      m' ((c.tc : Thread Cert.RefMlpDnIdeal.nD Cert.RefMlpDnIdeal.τ).loc Cert.RefMlpDnIdeal.main_arg0) = m ((c.tc : Thread Cert.MlpDnIdeal.nD Cert.MlpDnIdeal.τ).loc Cert.MlpDnIdeal.main_arg0)
      ∧ m' ((c.tc : Thread Cert.RefMlpDnIdeal.nD Cert.RefMlpDnIdeal.τ).loc Cert.RefMlpDnIdeal.main_arg1) = m ((c.tc : Thread Cert.MlpDnIdeal.nD Cert.MlpDnIdeal.τ).loc Cert.MlpDnIdeal.main_arg1)) →
    ∃ (v0 : (c : Dev Cert.MlpDnIdeal.nD) → Buf (Elt Ideal) ((c.tc : Thread Cert.MlpDnIdeal.nD Cert.MlpDnIdeal.τ).loc Cert.MlpDnIdeal.main_v3)),
      θ_run (Cert.MlpDnIdeal.defs (F := Ideal)) (onTc (τ := Cert.MlpDnIdeal.τ) (Cert.MlpDnIdeal.main (F := Ideal))) ⟨m, fun _ => 0, g⟩ (fun r => ∀ c : Dev Cert.MlpDnIdeal.nD,
          r.2.mem ((c.tc : Thread Cert.MlpDnIdeal.nD Cert.MlpDnIdeal.τ).loc Cert.MlpDnIdeal.main_v3) = v0 c
          ∧ r.2.mem ((c.tc : Thread Cert.MlpDnIdeal.nD Cert.MlpDnIdeal.τ).loc Cert.MlpDnIdeal.main_arg0) = m ((c.tc : Thread Cert.MlpDnIdeal.nD Cert.MlpDnIdeal.τ).loc Cert.MlpDnIdeal.main_arg0)
          ∧ r.2.mem ((c.tc : Thread Cert.MlpDnIdeal.nD Cert.MlpDnIdeal.τ).loc Cert.MlpDnIdeal.main_arg1) = m ((c.tc : Thread Cert.MlpDnIdeal.nD Cert.MlpDnIdeal.τ).loc Cert.MlpDnIdeal.main_arg1))
      ∧ θ_run (Cert.RefMlpDnIdeal.defs (F := Ideal)) (onTc (τ := Cert.RefMlpDnIdeal.τ) (Cert.RefMlpDnIdeal.main (F := Ideal))) ⟨m', fun _ => 0, g'⟩ (fun r => ∀ c : Dev Cert.RefMlpDnIdeal.nD,
          r.2.mem ((c.tc : Thread Cert.RefMlpDnIdeal.nD Cert.RefMlpDnIdeal.τ).loc Cert.RefMlpDnIdeal.main_v4) = v0 c
          ∧ r.2.mem ((c.tc : Thread Cert.RefMlpDnIdeal.nD Cert.RefMlpDnIdeal.τ).loc Cert.RefMlpDnIdeal.main_arg0) = m' ((c.tc : Thread Cert.RefMlpDnIdeal.nD Cert.RefMlpDnIdeal.τ).loc Cert.RefMlpDnIdeal.main_arg0)
          ∧ r.2.mem ((c.tc : Thread Cert.RefMlpDnIdeal.nD Cert.RefMlpDnIdeal.τ).loc Cert.RefMlpDnIdeal.main_arg1) = m' ((c.tc : Thread Cert.RefMlpDnIdeal.nD Cert.RefMlpDnIdeal.τ).loc Cert.RefMlpDnIdeal.main_arg1))

def preserves_Mixed_MixedIdeal : Prop :=
  True

def algebraic_MixedIdeal_RefMixedIdeal [hMixedIdeal : Cert.MixedIdeal.Facts] [hRefMixedIdeal : Cert.RefMixedIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.RefMixedIdeal.nD Cert.RefMixedIdeal.τ Cert.RefMixedIdeal.sig) → Buf (Elt Ideal) ℓ) (g' : Dev Cert.RefMixedIdeal.nD → PrngReg), Pre_MixedIdeal m →
    (∀ c : Dev Cert.MixedIdeal.nD,
      m' ((c.tc : Thread Cert.RefMixedIdeal.nD Cert.RefMixedIdeal.τ).loc Cert.RefMixedIdeal.main_arg0) = m ((c.tc : Thread Cert.MixedIdeal.nD Cert.MixedIdeal.τ).loc Cert.MixedIdeal.main_arg0)
      ∧ m' ((c.tc : Thread Cert.RefMixedIdeal.nD Cert.RefMixedIdeal.τ).loc Cert.RefMixedIdeal.main_arg1) = m ((c.tc : Thread Cert.MixedIdeal.nD Cert.MixedIdeal.τ).loc Cert.MixedIdeal.main_arg1)) →
    ∃ (v0 : (c : Dev Cert.MixedIdeal.nD) → Buf (Elt Ideal) ((c.tc : Thread Cert.MixedIdeal.nD Cert.MixedIdeal.τ).loc Cert.MixedIdeal.main_v0)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1))
      ∧ θ_run (Cert.RefMixedIdeal.defs (F := Ideal)) (onTc (τ := Cert.RefMixedIdeal.τ) (Cert.RefMixedIdeal.main (F := Ideal))) ⟨m', fun _ => 0, g'⟩ (fun r => ∀ c : Dev Cert.RefMixedIdeal.nD,
          r.2.mem ((c.tc : Thread Cert.RefMixedIdeal.nD Cert.RefMixedIdeal.τ).loc Cert.RefMixedIdeal.main_v4) = v0 c
          ∧ r.2.mem ((c.tc : Thread Cert.RefMixedIdeal.nD Cert.RefMixedIdeal.τ).loc Cert.RefMixedIdeal.main_arg0) = m' ((c.tc : Thread Cert.RefMixedIdeal.nD Cert.RefMixedIdeal.τ).loc Cert.RefMixedIdeal.main_arg0)
          ∧ r.2.mem ((c.tc : Thread Cert.RefMixedIdeal.nD Cert.RefMixedIdeal.τ).loc Cert.RefMixedIdeal.main_arg1) = m' ((c.tc : Thread Cert.RefMixedIdeal.nD Cert.RefMixedIdeal.τ).loc Cert.RefMixedIdeal.main_arg1))

def preserves_GradWout_GradWoutIdeal : Prop :=
  True

def algebraic_GradWoutIdeal_RefGradWoutIdeal [hGradWoutIdeal : Cert.GradWoutIdeal.Facts] [hRefGradWoutIdeal : Cert.RefGradWoutIdeal.Facts] : Prop :=
  ∀ (m : (ℓ : Loc Cert.GradWoutIdeal.nD Cert.GradWoutIdeal.τ Cert.GradWoutIdeal.sig) → Buf (Elt Ideal) ℓ) (g : Dev Cert.GradWoutIdeal.nD → PrngReg)
    (m' : (ℓ : Loc Cert.RefGradWoutIdeal.nD Cert.RefGradWoutIdeal.τ Cert.RefGradWoutIdeal.sig) → Buf (Elt Ideal) ℓ) (g' : Dev Cert.RefGradWoutIdeal.nD → PrngReg), Pre_GradWoutIdeal m →
    (∀ c : Dev Cert.GradWoutIdeal.nD,
      m' ((c.tc : Thread Cert.RefGradWoutIdeal.nD Cert.RefGradWoutIdeal.τ).loc Cert.RefGradWoutIdeal.main_arg0) = m ((c.tc : Thread Cert.GradWoutIdeal.nD Cert.GradWoutIdeal.τ).loc Cert.GradWoutIdeal.main_arg0)
      ∧ m' ((c.tc : Thread Cert.RefGradWoutIdeal.nD Cert.RefGradWoutIdeal.τ).loc Cert.RefGradWoutIdeal.main_arg1) = m ((c.tc : Thread Cert.GradWoutIdeal.nD Cert.GradWoutIdeal.τ).loc Cert.GradWoutIdeal.main_arg1)
      ∧ m' ((c.tc : Thread Cert.RefGradWoutIdeal.nD Cert.RefGradWoutIdeal.τ).loc Cert.RefGradWoutIdeal.main_arg2) = m ((c.tc : Thread Cert.GradWoutIdeal.nD Cert.GradWoutIdeal.τ).loc Cert.GradWoutIdeal.main_arg2)) →
    ∃ (v0 : (c : Dev Cert.GradWoutIdeal.nD) → Buf (Elt Ideal) ((c.tc : Thread Cert.GradWoutIdeal.nD Cert.GradWoutIdeal.τ).loc Cert.GradWoutIdeal.main_v0)),
      θ_run (Cert.GradWoutIdeal.defs (F := Ideal)) (onTc (τ := Cert.GradWoutIdeal.τ) (Cert.GradWoutIdeal.main (F := Ideal))) ⟨m, fun _ => 0, g⟩ (fun r => ∀ c : Dev Cert.GradWoutIdeal.nD,
          r.2.mem ((c.tc : Thread Cert.GradWoutIdeal.nD Cert.GradWoutIdeal.τ).loc Cert.GradWoutIdeal.main_v0) = v0 c
          ∧ r.2.mem ((c.tc : Thread Cert.GradWoutIdeal.nD Cert.GradWoutIdeal.τ).loc Cert.GradWoutIdeal.main_arg0) = m ((c.tc : Thread Cert.GradWoutIdeal.nD Cert.GradWoutIdeal.τ).loc Cert.GradWoutIdeal.main_arg0)
          ∧ r.2.mem ((c.tc : Thread Cert.GradWoutIdeal.nD Cert.GradWoutIdeal.τ).loc Cert.GradWoutIdeal.main_arg1) = m ((c.tc : Thread Cert.GradWoutIdeal.nD Cert.GradWoutIdeal.τ).loc Cert.GradWoutIdeal.main_arg1)
          ∧ r.2.mem ((c.tc : Thread Cert.GradWoutIdeal.nD Cert.GradWoutIdeal.τ).loc Cert.GradWoutIdeal.main_arg2) = m ((c.tc : Thread Cert.GradWoutIdeal.nD Cert.GradWoutIdeal.τ).loc Cert.GradWoutIdeal.main_arg2))
      ∧ θ_run (Cert.RefGradWoutIdeal.defs (F := Ideal)) (onTc (τ := Cert.RefGradWoutIdeal.τ) (Cert.RefGradWoutIdeal.main (F := Ideal))) ⟨m', fun _ => 0, g'⟩ (fun r => ∀ c : Dev Cert.RefGradWoutIdeal.nD,
          r.2.mem ((c.tc : Thread Cert.RefGradWoutIdeal.nD Cert.RefGradWoutIdeal.τ).loc Cert.RefGradWoutIdeal.main_v7) = v0 c
          ∧ r.2.mem ((c.tc : Thread Cert.RefGradWoutIdeal.nD Cert.RefGradWoutIdeal.τ).loc Cert.RefGradWoutIdeal.main_arg0) = m' ((c.tc : Thread Cert.RefGradWoutIdeal.nD Cert.RefGradWoutIdeal.τ).loc Cert.RefGradWoutIdeal.main_arg0)
          ∧ r.2.mem ((c.tc : Thread Cert.RefGradWoutIdeal.nD Cert.RefGradWoutIdeal.τ).loc Cert.RefGradWoutIdeal.main_arg1) = m' ((c.tc : Thread Cert.RefGradWoutIdeal.nD Cert.RefGradWoutIdeal.τ).loc Cert.RefGradWoutIdeal.main_arg1)
          ∧ r.2.mem ((c.tc : Thread Cert.RefGradWoutIdeal.nD Cert.RefGradWoutIdeal.τ).loc Cert.RefGradWoutIdeal.main_arg2) = m' ((c.tc : Thread Cert.RefGradWoutIdeal.nD Cert.RefGradWoutIdeal.τ).loc Cert.RefGradWoutIdeal.main_arg2))

def preserves_InGrad_InGradIdeal : Prop :=
  True

def algebraic_InGradIdeal_RefInGradIdeal [hInGradIdeal : Cert.InGradIdeal.Facts] [hRefInGradIdeal : Cert.RefInGradIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.RefInGradIdeal.nD Cert.RefInGradIdeal.τ Cert.RefInGradIdeal.sig) → Buf (Elt Ideal) ℓ) (g' : Dev Cert.RefInGradIdeal.nD → PrngReg), Pre_InGradIdeal m →
    (∀ c : Dev Cert.InGradIdeal.nD,
      m' ((c.tc : Thread Cert.RefInGradIdeal.nD Cert.RefInGradIdeal.τ).loc Cert.RefInGradIdeal.main_arg0) = m ((c.tc : Thread Cert.InGradIdeal.nD Cert.InGradIdeal.τ).loc Cert.InGradIdeal.main_arg0)
      ∧ m' ((c.tc : Thread Cert.RefInGradIdeal.nD Cert.RefInGradIdeal.τ).loc Cert.RefInGradIdeal.main_arg1) = m ((c.tc : Thread Cert.InGradIdeal.nD Cert.InGradIdeal.τ).loc Cert.InGradIdeal.main_arg1)
      ∧ m' ((c.tc : Thread Cert.RefInGradIdeal.nD Cert.RefInGradIdeal.τ).loc Cert.RefInGradIdeal.main_arg2) = m ((c.tc : Thread Cert.InGradIdeal.nD Cert.InGradIdeal.τ).loc Cert.InGradIdeal.main_arg2)
      ∧ m' ((c.tc : Thread Cert.RefInGradIdeal.nD Cert.RefInGradIdeal.τ).loc Cert.RefInGradIdeal.main_arg3) = m ((c.tc : Thread Cert.InGradIdeal.nD Cert.InGradIdeal.τ).loc Cert.InGradIdeal.main_arg3)
      ∧ m' ((c.tc : Thread Cert.RefInGradIdeal.nD Cert.RefInGradIdeal.τ).loc Cert.RefInGradIdeal.main_arg4) = m ((c.tc : Thread Cert.InGradIdeal.nD Cert.InGradIdeal.τ).loc Cert.InGradIdeal.main_arg4)
      ∧ m' ((c.tc : Thread Cert.RefInGradIdeal.nD Cert.RefInGradIdeal.τ).loc Cert.RefInGradIdeal.main_arg5) = m ((c.tc : Thread Cert.InGradIdeal.nD Cert.InGradIdeal.τ).loc Cert.InGradIdeal.main_arg5)
      ∧ m' ((c.tc : Thread Cert.RefInGradIdeal.nD Cert.RefInGradIdeal.τ).loc Cert.RefInGradIdeal.main_arg6) = m ((c.tc : Thread Cert.InGradIdeal.nD Cert.InGradIdeal.τ).loc Cert.InGradIdeal.main_arg6)) →
    ∃ (v0 : (c : Dev Cert.InGradIdeal.nD) → Buf (Elt Ideal) ((c.tc : Thread Cert.InGradIdeal.nD Cert.InGradIdeal.τ).loc Cert.InGradIdeal.main_v23)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v23) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6))
      ∧ θ_run (Cert.RefInGradIdeal.defs (F := Ideal)) (onTc (τ := Cert.RefInGradIdeal.τ) (Cert.RefInGradIdeal.main (F := Ideal))) ⟨m', fun _ => 0, g'⟩ (fun r => ∀ c : Dev Cert.RefInGradIdeal.nD,
          r.2.mem ((c.tc : Thread Cert.RefInGradIdeal.nD Cert.RefInGradIdeal.τ).loc Cert.RefInGradIdeal.main_v16) = v0 c
          ∧ r.2.mem ((c.tc : Thread Cert.RefInGradIdeal.nD Cert.RefInGradIdeal.τ).loc Cert.RefInGradIdeal.main_arg0) = m' ((c.tc : Thread Cert.RefInGradIdeal.nD Cert.RefInGradIdeal.τ).loc Cert.RefInGradIdeal.main_arg0)
          ∧ r.2.mem ((c.tc : Thread Cert.RefInGradIdeal.nD Cert.RefInGradIdeal.τ).loc Cert.RefInGradIdeal.main_arg1) = m' ((c.tc : Thread Cert.RefInGradIdeal.nD Cert.RefInGradIdeal.τ).loc Cert.RefInGradIdeal.main_arg1)
          ∧ r.2.mem ((c.tc : Thread Cert.RefInGradIdeal.nD Cert.RefInGradIdeal.τ).loc Cert.RefInGradIdeal.main_arg2) = m' ((c.tc : Thread Cert.RefInGradIdeal.nD Cert.RefInGradIdeal.τ).loc Cert.RefInGradIdeal.main_arg2)
          ∧ r.2.mem ((c.tc : Thread Cert.RefInGradIdeal.nD Cert.RefInGradIdeal.τ).loc Cert.RefInGradIdeal.main_arg3) = m' ((c.tc : Thread Cert.RefInGradIdeal.nD Cert.RefInGradIdeal.τ).loc Cert.RefInGradIdeal.main_arg3)
          ∧ r.2.mem ((c.tc : Thread Cert.RefInGradIdeal.nD Cert.RefInGradIdeal.τ).loc Cert.RefInGradIdeal.main_arg4) = m' ((c.tc : Thread Cert.RefInGradIdeal.nD Cert.RefInGradIdeal.τ).loc Cert.RefInGradIdeal.main_arg4)
          ∧ r.2.mem ((c.tc : Thread Cert.RefInGradIdeal.nD Cert.RefInGradIdeal.τ).loc Cert.RefInGradIdeal.main_arg5) = m' ((c.tc : Thread Cert.RefInGradIdeal.nD Cert.RefInGradIdeal.τ).loc Cert.RefInGradIdeal.main_arg5)
          ∧ r.2.mem ((c.tc : Thread Cert.RefInGradIdeal.nD Cert.RefInGradIdeal.τ).loc Cert.RefInGradIdeal.main_arg6) = m' ((c.tc : Thread Cert.RefInGradIdeal.nD Cert.RefInGradIdeal.τ).loc Cert.RefInGradIdeal.main_arg6))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v4) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3))

def preserves_MlpDown_MlpDownIdeal : Prop :=
  True

def algebraic_MlpDownIdeal_RefMlpDownIdeal [hMlpDownIdeal : Cert.MlpDownIdeal.Facts] [hRefMlpDownIdeal : Cert.RefMlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.RefMlpDownIdeal.nD Cert.RefMlpDownIdeal.τ Cert.RefMlpDownIdeal.sig) → Buf (Elt Ideal) ℓ) (g' : Dev Cert.RefMlpDownIdeal.nD → PrngReg), Pre_MlpDownIdeal m →
    (∀ c : Dev Cert.MlpDownIdeal.nD,
      m' ((c.tc : Thread Cert.RefMlpDownIdeal.nD Cert.RefMlpDownIdeal.τ).loc Cert.RefMlpDownIdeal.main_arg0) = m ((c.tc : Thread Cert.MlpDownIdeal.nD Cert.MlpDownIdeal.τ).loc Cert.MlpDownIdeal.main_arg0)
      ∧ m' ((c.tc : Thread Cert.RefMlpDownIdeal.nD Cert.RefMlpDownIdeal.τ).loc Cert.RefMlpDownIdeal.main_arg1) = m ((c.tc : Thread Cert.MlpDownIdeal.nD Cert.MlpDownIdeal.τ).loc Cert.MlpDownIdeal.main_arg1)
      ∧ m' ((c.tc : Thread Cert.RefMlpDownIdeal.nD Cert.RefMlpDownIdeal.τ).loc Cert.RefMlpDownIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.RefMlpDownIdeal.defs (F := Ideal)) (onTc (τ := Cert.RefMlpDownIdeal.τ) (Cert.RefMlpDownIdeal.main (F := Ideal))) ⟨m', fun _ => 0, g'⟩ (fun r => ∀ c : Dev Cert.RefMlpDownIdeal.nD,
          r.2.mem ((c.tc : Thread Cert.RefMlpDownIdeal.nD Cert.RefMlpDownIdeal.τ).loc Cert.RefMlpDownIdeal.main_v3) = v0 c
          ∧ r.2.mem ((c.tc : Thread Cert.RefMlpDownIdeal.nD Cert.RefMlpDownIdeal.τ).loc Cert.RefMlpDownIdeal.main_arg0) = m' ((c.tc : Thread Cert.RefMlpDownIdeal.nD Cert.RefMlpDownIdeal.τ).loc Cert.RefMlpDownIdeal.main_arg0)
          ∧ r.2.mem ((c.tc : Thread Cert.RefMlpDownIdeal.nD Cert.RefMlpDownIdeal.τ).loc Cert.RefMlpDownIdeal.main_arg1) = m' ((c.tc : Thread Cert.RefMlpDownIdeal.nD Cert.RefMlpDownIdeal.τ).loc Cert.RefMlpDownIdeal.main_arg1)
          ∧ r.2.mem ((c.tc : Thread Cert.RefMlpDownIdeal.nD Cert.RefMlpDownIdeal.τ).loc Cert.RefMlpDownIdeal.main_arg2) = m' ((c.tc : Thread Cert.RefMlpDownIdeal.nD Cert.RefMlpDownIdeal.τ).loc Cert.RefMlpDownIdeal.main_arg2))

def preserves_NormBwd_NormBwdIdeal : Prop :=
  True

def algebraic_NormBwdIdeal_RefNormBwdIdeal [hNormBwdIdeal : Cert.NormBwdIdeal.Facts] [hRefNormBwdIdeal : Cert.RefNormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.RefNormBwdIdeal.nD Cert.RefNormBwdIdeal.τ Cert.RefNormBwdIdeal.sig) → Buf (Elt Ideal) ℓ) (g' : Dev Cert.RefNormBwdIdeal.nD → PrngReg), Pre_NormBwdIdeal m →
    (∀ c : Dev Cert.NormBwdIdeal.nD,
      m' ((c.tc : Thread Cert.RefNormBwdIdeal.nD Cert.RefNormBwdIdeal.τ).loc Cert.RefNormBwdIdeal.main_arg0) = m ((c.tc : Thread Cert.NormBwdIdeal.nD Cert.NormBwdIdeal.τ).loc Cert.NormBwdIdeal.main_arg0)
      ∧ m' ((c.tc : Thread Cert.RefNormBwdIdeal.nD Cert.RefNormBwdIdeal.τ).loc Cert.RefNormBwdIdeal.main_arg1) = m ((c.tc : Thread Cert.NormBwdIdeal.nD Cert.NormBwdIdeal.τ).loc Cert.NormBwdIdeal.main_arg1)
      ∧ m' ((c.tc : Thread Cert.RefNormBwdIdeal.nD Cert.RefNormBwdIdeal.τ).loc Cert.RefNormBwdIdeal.main_arg2) = m ((c.tc : Thread Cert.NormBwdIdeal.nD Cert.NormBwdIdeal.τ).loc Cert.NormBwdIdeal.main_arg2)
      ∧ m' ((c.tc : Thread Cert.RefNormBwdIdeal.nD Cert.RefNormBwdIdeal.τ).loc Cert.RefNormBwdIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.RefNormBwdIdeal.defs (F := Ideal)) (onTc (τ := Cert.RefNormBwdIdeal.τ) (Cert.RefNormBwdIdeal.main (F := Ideal))) ⟨m', fun _ => 0, g'⟩ (fun r => ∀ c : Dev Cert.RefNormBwdIdeal.nD,
          r.2.mem ((c.tc : Thread Cert.RefNormBwdIdeal.nD Cert.RefNormBwdIdeal.τ).loc Cert.RefNormBwdIdeal.main_v36) = v0 c
          ∧ r.2.mem ((c.tc : Thread Cert.RefNormBwdIdeal.nD Cert.RefNormBwdIdeal.τ).loc Cert.RefNormBwdIdeal.main_v17) = v1 c
          ∧ r.2.mem ((c.tc : Thread Cert.RefNormBwdIdeal.nD Cert.RefNormBwdIdeal.τ).loc Cert.RefNormBwdIdeal.main_arg0) = m' ((c.tc : Thread Cert.RefNormBwdIdeal.nD Cert.RefNormBwdIdeal.τ).loc Cert.RefNormBwdIdeal.main_arg0)
          ∧ r.2.mem ((c.tc : Thread Cert.RefNormBwdIdeal.nD Cert.RefNormBwdIdeal.τ).loc Cert.RefNormBwdIdeal.main_arg1) = m' ((c.tc : Thread Cert.RefNormBwdIdeal.nD Cert.RefNormBwdIdeal.τ).loc Cert.RefNormBwdIdeal.main_arg1)
          ∧ r.2.mem ((c.tc : Thread Cert.RefNormBwdIdeal.nD Cert.RefNormBwdIdeal.τ).loc Cert.RefNormBwdIdeal.main_arg2) = m' ((c.tc : Thread Cert.RefNormBwdIdeal.nD Cert.RefNormBwdIdeal.τ).loc Cert.RefNormBwdIdeal.main_arg2)
          ∧ r.2.mem ((c.tc : Thread Cert.RefNormBwdIdeal.nD Cert.RefNormBwdIdeal.τ).loc Cert.RefNormBwdIdeal.main_arg3) = m' ((c.tc : Thread Cert.RefNormBwdIdeal.nD Cert.RefNormBwdIdeal.τ).loc Cert.RefNormBwdIdeal.main_arg3))

def preserves_AdamW_AdamWIdeal : Prop :=
  True

def algebraic_AdamWIdeal_RefAdamWIdeal [hAdamWIdeal : Cert.AdamWIdeal.Facts] [hRefAdamWIdeal : Cert.RefAdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.RefAdamWIdeal.nD Cert.RefAdamWIdeal.τ Cert.RefAdamWIdeal.sig) → Buf (Elt Ideal) ℓ) (g' : Dev Cert.RefAdamWIdeal.nD → PrngReg), Pre_AdamWIdeal m →
    (∀ c : Dev Cert.AdamWIdeal.nD,
      m' ((c.tc : Thread Cert.RefAdamWIdeal.nD Cert.RefAdamWIdeal.τ).loc Cert.RefAdamWIdeal.main_arg0) = m ((c.tc : Thread Cert.AdamWIdeal.nD Cert.AdamWIdeal.τ).loc Cert.AdamWIdeal.main_arg0)
      ∧ m' ((c.tc : Thread Cert.RefAdamWIdeal.nD Cert.RefAdamWIdeal.τ).loc Cert.RefAdamWIdeal.main_arg1) = m ((c.tc : Thread Cert.AdamWIdeal.nD Cert.AdamWIdeal.τ).loc Cert.AdamWIdeal.main_arg1)
      ∧ m' ((c.tc : Thread Cert.RefAdamWIdeal.nD Cert.RefAdamWIdeal.τ).loc Cert.RefAdamWIdeal.main_arg2) = m ((c.tc : Thread Cert.AdamWIdeal.nD Cert.AdamWIdeal.τ).loc Cert.AdamWIdeal.main_arg2)
      ∧ m' ((c.tc : Thread Cert.RefAdamWIdeal.nD Cert.RefAdamWIdeal.τ).loc Cert.RefAdamWIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v1_0)) (v1 : (c : Dev Cert.AdamWIdeal.nD) → Buf (Elt Ideal) ((c.tc : Thread Cert.AdamWIdeal.nD Cert.AdamWIdeal.τ).loc Cert.AdamWIdeal.main_v1_1)) (v2 : (c : Dev Cert.AdamWIdeal.nD) → Buf (Elt Ideal) ((c.tc : Thread Cert.AdamWIdeal.nD Cert.AdamWIdeal.τ).loc Cert.AdamWIdeal.main_v1_2)) (v3 : (c : Dev Cert.AdamWIdeal.nD) → Buf (Elt Ideal) ((c.tc : Thread Cert.AdamWIdeal.nD Cert.AdamWIdeal.τ).loc Cert.AdamWIdeal.main_v1_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v1_0) = v0 c
          ∧ r.2.mem ((c.tc : Thread Cert.AdamWIdeal.nD Cert.AdamWIdeal.τ).loc Cert.AdamWIdeal.main_v1_1) = v1 c
          ∧ r.2.mem ((c.tc : Thread Cert.AdamWIdeal.nD Cert.AdamWIdeal.τ).loc Cert.AdamWIdeal.main_v1_2) = v2 c
          ∧ r.2.mem ((c.tc : Thread Cert.AdamWIdeal.nD Cert.AdamWIdeal.τ).loc Cert.AdamWIdeal.main_v1_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.RefAdamWIdeal.defs (F := Ideal)) (onTc (τ := Cert.RefAdamWIdeal.τ) (Cert.RefAdamWIdeal.main (F := Ideal))) ⟨m', fun _ => 0, g'⟩ (fun r => ∀ c : Dev Cert.RefAdamWIdeal.nD,
          r.2.mem ((c.tc : Thread Cert.RefAdamWIdeal.nD Cert.RefAdamWIdeal.τ).loc Cert.RefAdamWIdeal.main_arg1) = v0 c
          ∧ r.2.mem ((c.tc : Thread Cert.RefAdamWIdeal.nD Cert.RefAdamWIdeal.τ).loc Cert.RefAdamWIdeal.main_v23) = v1 c
          ∧ r.2.mem ((c.tc : Thread Cert.RefAdamWIdeal.nD Cert.RefAdamWIdeal.τ).loc Cert.RefAdamWIdeal.main_v4) = v2 c
          ∧ r.2.mem ((c.tc : Thread Cert.RefAdamWIdeal.nD Cert.RefAdamWIdeal.τ).loc Cert.RefAdamWIdeal.main_v10) = v3 c
          ∧ r.2.mem ((c.tc : Thread Cert.RefAdamWIdeal.nD Cert.RefAdamWIdeal.τ).loc Cert.RefAdamWIdeal.main_arg0) = m' ((c.tc : Thread Cert.RefAdamWIdeal.nD Cert.RefAdamWIdeal.τ).loc Cert.RefAdamWIdeal.main_arg0)
          ∧ r.2.mem ((c.tc : Thread Cert.RefAdamWIdeal.nD Cert.RefAdamWIdeal.τ).loc Cert.RefAdamWIdeal.main_arg1) = m' ((c.tc : Thread Cert.RefAdamWIdeal.nD Cert.RefAdamWIdeal.τ).loc Cert.RefAdamWIdeal.main_arg1)
          ∧ r.2.mem ((c.tc : Thread Cert.RefAdamWIdeal.nD Cert.RefAdamWIdeal.τ).loc Cert.RefAdamWIdeal.main_arg2) = m' ((c.tc : Thread Cert.RefAdamWIdeal.nD Cert.RefAdamWIdeal.τ).loc Cert.RefAdamWIdeal.main_arg2)
          ∧ r.2.mem ((c.tc : Thread Cert.RefAdamWIdeal.nD Cert.RefAdamWIdeal.τ).loc Cert.RefAdamWIdeal.main_arg3) = m' ((c.tc : Thread Cert.RefAdamWIdeal.nD Cert.RefAdamWIdeal.τ).loc Cert.RefAdamWIdeal.main_arg3))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_arg1) = v0 c
          ∧ r.2.mem ((c.tc : Thread Cert.RefAdamInIdeal.nD Cert.RefAdamInIdeal.τ).loc Cert.RefAdamInIdeal.main_v23) = v1 c
          ∧ r.2.mem ((c.tc : Thread Cert.RefAdamInIdeal.nD Cert.RefAdamInIdeal.τ).loc Cert.RefAdamInIdeal.main_v4) = v2 c
          ∧ r.2.mem ((c.tc : Thread Cert.RefAdamInIdeal.nD Cert.RefAdamInIdeal.τ).loc Cert.RefAdamInIdeal.main_v10) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_arg1) = v0 c
          ∧ r.2.mem ((c.tc : Thread Cert.RefAdamOutIdeal.nD Cert.RefAdamOutIdeal.τ).loc Cert.RefAdamOutIdeal.main_v23) = v1 c
          ∧ r.2.mem ((c.tc : Thread Cert.RefAdamOutIdeal.nD Cert.RefAdamOutIdeal.τ).loc Cert.RefAdamOutIdeal.main_v4) = v2 c
          ∧ r.2.mem ((c.tc : Thread Cert.RefAdamOutIdeal.nD Cert.RefAdamOutIdeal.τ).loc Cert.RefAdamOutIdeal.main_v10) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)
      ∧ m' ((c.tc : Thread Cert.RefAdamSmallIdeal.nD Cert.RefAdamSmallIdeal.τ).loc Cert.RefAdamSmallIdeal.main_arg4) = m ((c.tc : Thread Cert.AdamSmallIdeal.nD Cert.AdamSmallIdeal.τ).loc Cert.AdamSmallIdeal.main_arg4)
      ∧ m' ((c.tc : Thread Cert.RefAdamSmallIdeal.nD Cert.RefAdamSmallIdeal.τ).loc Cert.RefAdamSmallIdeal.main_arg5) = m ((c.tc : Thread Cert.AdamSmallIdeal.nD Cert.AdamSmallIdeal.τ).loc Cert.AdamSmallIdeal.main_arg5)
      ∧ m' ((c.tc : Thread Cert.RefAdamSmallIdeal.nD Cert.RefAdamSmallIdeal.τ).loc Cert.RefAdamSmallIdeal.main_arg6) = m ((c.tc : Thread Cert.AdamSmallIdeal.nD Cert.AdamSmallIdeal.τ).loc Cert.AdamSmallIdeal.main_arg6)
      ∧ m' ((c.tc : Thread Cert.RefAdamSmallIdeal.nD Cert.RefAdamSmallIdeal.τ).loc Cert.RefAdamSmallIdeal.main_arg7) = m ((c.tc : Thread Cert.AdamSmallIdeal.nD Cert.AdamSmallIdeal.τ).loc Cert.AdamSmallIdeal.main_arg7)
      ∧ m' ((c.tc : Thread Cert.RefAdamSmallIdeal.nD Cert.RefAdamSmallIdeal.τ).loc Cert.RefAdamSmallIdeal.main_arg8) = m ((c.tc : Thread Cert.AdamSmallIdeal.nD Cert.AdamSmallIdeal.τ).loc Cert.AdamSmallIdeal.main_arg8)
      ∧ m' ((c.tc : Thread Cert.RefAdamSmallIdeal.nD Cert.RefAdamSmallIdeal.τ).loc Cert.RefAdamSmallIdeal.main_arg9) = m ((c.tc : Thread Cert.AdamSmallIdeal.nD Cert.AdamSmallIdeal.τ).loc Cert.AdamSmallIdeal.main_arg9)
      ∧ m' ((c.tc : Thread Cert.RefAdamSmallIdeal.nD Cert.RefAdamSmallIdeal.τ).loc Cert.RefAdamSmallIdeal.main_arg10) = m ((c.tc : Thread Cert.AdamSmallIdeal.nD Cert.AdamSmallIdeal.τ).loc Cert.AdamSmallIdeal.main_arg10)
      ∧ m' ((c.tc : Thread Cert.RefAdamSmallIdeal.nD Cert.RefAdamSmallIdeal.τ).loc Cert.RefAdamSmallIdeal.main_arg11) = m ((c.tc : Thread Cert.AdamSmallIdeal.nD Cert.AdamSmallIdeal.τ).loc Cert.AdamSmallIdeal.main_arg11)
      ∧ m' ((c.tc : Thread Cert.RefAdamSmallIdeal.nD Cert.RefAdamSmallIdeal.τ).loc Cert.RefAdamSmallIdeal.main_arg12) = m ((c.tc : Thread Cert.AdamSmallIdeal.nD Cert.AdamSmallIdeal.τ).loc Cert.AdamSmallIdeal.main_arg12)
      ∧ m' ((c.tc : Thread Cert.RefAdamSmallIdeal.nD Cert.RefAdamSmallIdeal.τ).loc Cert.RefAdamSmallIdeal.main_arg13) = m ((c.tc : Thread Cert.AdamSmallIdeal.nD Cert.AdamSmallIdeal.τ).loc Cert.AdamSmallIdeal.main_arg13)
      ∧ m' ((c.tc : Thread Cert.RefAdamSmallIdeal.nD Cert.RefAdamSmallIdeal.τ).loc Cert.RefAdamSmallIdeal.main_arg14) = m ((c.tc : Thread Cert.AdamSmallIdeal.nD Cert.AdamSmallIdeal.τ).loc Cert.AdamSmallIdeal.main_arg14)
      ∧ m' ((c.tc : Thread Cert.RefAdamSmallIdeal.nD Cert.RefAdamSmallIdeal.τ).loc Cert.RefAdamSmallIdeal.main_arg15) = m ((c.tc : Thread Cert.AdamSmallIdeal.nD Cert.AdamSmallIdeal.τ).loc Cert.AdamSmallIdeal.main_arg15)
      ∧ m' ((c.tc : Thread Cert.RefAdamSmallIdeal.nD Cert.RefAdamSmallIdeal.τ).loc Cert.RefAdamSmallIdeal.main_arg16) = m ((c.tc : Thread Cert.AdamSmallIdeal.nD Cert.AdamSmallIdeal.τ).loc Cert.AdamSmallIdeal.main_arg16)
      ∧ m' ((c.tc : Thread Cert.RefAdamSmallIdeal.nD Cert.RefAdamSmallIdeal.τ).loc Cert.RefAdamSmallIdeal.main_arg17) = m ((c.tc : Thread Cert.AdamSmallIdeal.nD Cert.AdamSmallIdeal.τ).loc Cert.AdamSmallIdeal.main_arg17)
      ∧ m' ((c.tc : Thread Cert.RefAdamSmallIdeal.nD Cert.RefAdamSmallIdeal.τ).loc Cert.RefAdamSmallIdeal.main_arg18) = m ((c.tc : Thread Cert.AdamSmallIdeal.nD Cert.AdamSmallIdeal.τ).loc Cert.AdamSmallIdeal.main_arg18)
      ∧ m' ((c.tc : Thread Cert.RefAdamSmallIdeal.nD Cert.RefAdamSmallIdeal.τ).loc Cert.RefAdamSmallIdeal.main_arg19) = m ((c.tc : Thread Cert.AdamSmallIdeal.nD Cert.AdamSmallIdeal.τ).loc Cert.AdamSmallIdeal.main_arg19)
      ∧ m' ((c.tc : Thread Cert.RefAdamSmallIdeal.nD Cert.RefAdamSmallIdeal.τ).loc Cert.RefAdamSmallIdeal.main_arg20) = m ((c.tc : Thread Cert.AdamSmallIdeal.nD Cert.AdamSmallIdeal.τ).loc Cert.AdamSmallIdeal.main_arg20)
      ∧ m' ((c.tc : Thread Cert.RefAdamSmallIdeal.nD Cert.RefAdamSmallIdeal.τ).loc Cert.RefAdamSmallIdeal.main_arg21) = m ((c.tc : Thread Cert.AdamSmallIdeal.nD Cert.AdamSmallIdeal.τ).loc Cert.AdamSmallIdeal.main_arg21)
      ∧ m' ((c.tc : Thread Cert.RefAdamSmallIdeal.nD Cert.RefAdamSmallIdeal.τ).loc Cert.RefAdamSmallIdeal.main_arg22) = m ((c.tc : Thread Cert.AdamSmallIdeal.nD Cert.AdamSmallIdeal.τ).loc Cert.AdamSmallIdeal.main_arg22)
      ∧ m' ((c.tc : Thread Cert.RefAdamSmallIdeal.nD Cert.RefAdamSmallIdeal.τ).loc Cert.RefAdamSmallIdeal.main_arg23) = m ((c.tc : Thread Cert.AdamSmallIdeal.nD Cert.AdamSmallIdeal.τ).loc Cert.AdamSmallIdeal.main_arg23)
      ∧ m' ((c.tc : Thread Cert.RefAdamSmallIdeal.nD Cert.RefAdamSmallIdeal.τ).loc Cert.RefAdamSmallIdeal.main_arg24) = m ((c.tc : Thread Cert.AdamSmallIdeal.nD Cert.AdamSmallIdeal.τ).loc Cert.AdamSmallIdeal.main_arg24)
      ∧ m' ((c.tc : Thread Cert.RefAdamSmallIdeal.nD Cert.RefAdamSmallIdeal.τ).loc Cert.RefAdamSmallIdeal.main_arg25) = m ((c.tc : Thread Cert.AdamSmallIdeal.nD Cert.AdamSmallIdeal.τ).loc Cert.AdamSmallIdeal.main_arg25)
      ∧ m' ((c.tc : Thread Cert.RefAdamSmallIdeal.nD Cert.RefAdamSmallIdeal.τ).loc Cert.RefAdamSmallIdeal.main_arg26) = m ((c.tc : Thread Cert.AdamSmallIdeal.nD Cert.AdamSmallIdeal.τ).loc Cert.AdamSmallIdeal.main_arg26)
      ∧ m' ((c.tc : Thread Cert.RefAdamSmallIdeal.nD Cert.RefAdamSmallIdeal.τ).loc Cert.RefAdamSmallIdeal.main_arg27) = m ((c.tc : Thread Cert.AdamSmallIdeal.nD Cert.AdamSmallIdeal.τ).loc Cert.AdamSmallIdeal.main_arg27)
      ∧ m' ((c.tc : Thread Cert.RefAdamSmallIdeal.nD Cert.RefAdamSmallIdeal.τ).loc Cert.RefAdamSmallIdeal.main_arg28) = m ((c.tc : Thread Cert.AdamSmallIdeal.nD Cert.AdamSmallIdeal.τ).loc Cert.AdamSmallIdeal.main_arg28)
      ∧ m' ((c.tc : Thread Cert.RefAdamSmallIdeal.nD Cert.RefAdamSmallIdeal.τ).loc Cert.RefAdamSmallIdeal.main_arg29) = m ((c.tc : Thread Cert.AdamSmallIdeal.nD Cert.AdamSmallIdeal.τ).loc Cert.AdamSmallIdeal.main_arg29)
      ∧ m' ((c.tc : Thread Cert.RefAdamSmallIdeal.nD Cert.RefAdamSmallIdeal.τ).loc Cert.RefAdamSmallIdeal.main_arg30) = m ((c.tc : Thread Cert.AdamSmallIdeal.nD Cert.AdamSmallIdeal.τ).loc Cert.AdamSmallIdeal.main_arg30)
      ∧ m' ((c.tc : Thread Cert.RefAdamSmallIdeal.nD Cert.RefAdamSmallIdeal.τ).loc Cert.RefAdamSmallIdeal.main_arg31) = m ((c.tc : Thread Cert.AdamSmallIdeal.nD Cert.AdamSmallIdeal.τ).loc Cert.AdamSmallIdeal.main_arg31)
      ∧ m' ((c.tc : Thread Cert.RefAdamSmallIdeal.nD Cert.RefAdamSmallIdeal.τ).loc Cert.RefAdamSmallIdeal.main_arg32) = m ((c.tc : Thread Cert.AdamSmallIdeal.nD Cert.AdamSmallIdeal.τ).loc Cert.AdamSmallIdeal.main_arg32)
      ∧ m' ((c.tc : Thread Cert.RefAdamSmallIdeal.nD Cert.RefAdamSmallIdeal.τ).loc Cert.RefAdamSmallIdeal.main_arg33) = m ((c.tc : Thread Cert.AdamSmallIdeal.nD Cert.AdamSmallIdeal.τ).loc Cert.AdamSmallIdeal.main_arg33)
      ∧ m' ((c.tc : Thread Cert.RefAdamSmallIdeal.nD Cert.RefAdamSmallIdeal.τ).loc Cert.RefAdamSmallIdeal.main_arg34) = m ((c.tc : Thread Cert.AdamSmallIdeal.nD Cert.AdamSmallIdeal.τ).loc Cert.AdamSmallIdeal.main_arg34)
      ∧ m' ((c.tc : Thread Cert.RefAdamSmallIdeal.nD Cert.RefAdamSmallIdeal.τ).loc Cert.RefAdamSmallIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v1_0)) (v1 : (c : Dev Cert.AdamSmallIdeal.nD) → Buf (Elt Ideal) ((c.tc : Thread Cert.AdamSmallIdeal.nD Cert.AdamSmallIdeal.τ).loc Cert.AdamSmallIdeal.main_v1_1)) (v2 : (c : Dev Cert.AdamSmallIdeal.nD) → Buf (Elt Ideal) ((c.tc : Thread Cert.AdamSmallIdeal.nD Cert.AdamSmallIdeal.τ).loc Cert.AdamSmallIdeal.main_v1_2)) (v3 : (c : Dev Cert.AdamSmallIdeal.nD) → Buf (Elt Ideal) ((c.tc : Thread Cert.AdamSmallIdeal.nD Cert.AdamSmallIdeal.τ).loc Cert.AdamSmallIdeal.main_v1_3)) (v4 : (c : Dev Cert.AdamSmallIdeal.nD) → Buf (Elt Ideal) ((c.tc : Thread Cert.AdamSmallIdeal.nD Cert.AdamSmallIdeal.τ).loc Cert.AdamSmallIdeal.main_v1_4)) (v5 : (c : Dev Cert.AdamSmallIdeal.nD) → Buf (Elt Ideal) ((c.tc : Thread Cert.AdamSmallIdeal.nD Cert.AdamSmallIdeal.τ).loc Cert.AdamSmallIdeal.main_v1_5)) (v6 : (c : Dev Cert.AdamSmallIdeal.nD) → Buf (Elt Ideal) ((c.tc : Thread Cert.AdamSmallIdeal.nD Cert.AdamSmallIdeal.τ).loc Cert.AdamSmallIdeal.main_v1_6)) (v7 : (c : Dev Cert.AdamSmallIdeal.nD) → Buf (Elt Ideal) ((c.tc : Thread Cert.AdamSmallIdeal.nD Cert.AdamSmallIdeal.τ).loc Cert.AdamSmallIdeal.main_v1_7)) (v8 : (c : Dev Cert.AdamSmallIdeal.nD) → Buf (Elt Ideal) ((c.tc : Thread Cert.AdamSmallIdeal.nD Cert.AdamSmallIdeal.τ).loc Cert.AdamSmallIdeal.main_v1_8)) (v9 : (c : Dev Cert.AdamSmallIdeal.nD) → Buf (Elt Ideal) ((c.tc : Thread Cert.AdamSmallIdeal.nD Cert.AdamSmallIdeal.τ).loc Cert.AdamSmallIdeal.main_v1_9)) (v10 : (c : Dev Cert.AdamSmallIdeal.nD) → Buf (Elt Ideal) ((c.tc : Thread Cert.AdamSmallIdeal.nD Cert.AdamSmallIdeal.τ).loc Cert.AdamSmallIdeal.main_v1_10)) (v11 : (c : Dev Cert.AdamSmallIdeal.nD) → Buf (Elt Ideal) ((c.tc : Thread Cert.AdamSmallIdeal.nD Cert.AdamSmallIdeal.τ).loc Cert.AdamSmallIdeal.main_v1_11)) (v12 : (c : Dev Cert.AdamSmallIdeal.nD) → Buf (Elt Ideal) ((c.tc : Thread Cert.AdamSmallIdeal.nD Cert.AdamSmallIdeal.τ).loc Cert.AdamSmallIdeal.main_v1_12)) (v13 : (c : Dev Cert.AdamSmallIdeal.nD) → Buf (Elt Ideal) ((c.tc : Thread Cert.AdamSmallIdeal.nD Cert.AdamSmallIdeal.τ).loc Cert.AdamSmallIdeal.main_v1_13)) (v14 : (c : Dev Cert.AdamSmallIdeal.nD) → Buf (Elt Ideal) ((c.tc : Thread Cert.AdamSmallIdeal.nD Cert.AdamSmallIdeal.τ).loc Cert.AdamSmallIdeal.main_v1_14)) (v15 : (c : Dev Cert.AdamSmallIdeal.nD) → Buf (Elt Ideal) ((c.tc : Thread Cert.AdamSmallIdeal.nD Cert.AdamSmallIdeal.τ).loc Cert.AdamSmallIdeal.main_v1_15)) (v16 : (c : Dev Cert.AdamSmallIdeal.nD) → Buf (Elt Ideal) ((c.tc : Thread Cert.AdamSmallIdeal.nD Cert.AdamSmallIdeal.τ).loc Cert.AdamSmallIdeal.main_v1_16)) (v17 : (c : Dev Cert.AdamSmallIdeal.nD) → Buf (Elt Ideal) ((c.tc : Thread Cert.AdamSmallIdeal.nD Cert.AdamSmallIdeal.τ).loc Cert.AdamSmallIdeal.main_v1_17)) (v18 : (c : Dev Cert.AdamSmallIdeal.nD) → Buf (Elt Ideal) ((c.tc : Thread Cert.AdamSmallIdeal.nD Cert.AdamSmallIdeal.τ).loc Cert.AdamSmallIdeal.main_v1_18)) (v19 : (c : Dev Cert.AdamSmallIdeal.nD) → Buf (Elt Ideal) ((c.tc : Thread Cert.AdamSmallIdeal.nD Cert.AdamSmallIdeal.τ).loc Cert.AdamSmallIdeal.main_v1_19)) (v20 : (c : Dev Cert.AdamSmallIdeal.nD) → Buf (Elt Ideal) ((c.tc : Thread Cert.AdamSmallIdeal.nD Cert.AdamSmallIdeal.τ).loc Cert.AdamSmallIdeal.main_v1_20)) (v21 : (c : Dev Cert.AdamSmallIdeal.nD) → Buf (Elt Ideal) ((c.tc : Thread Cert.AdamSmallIdeal.nD Cert.AdamSmallIdeal.τ).loc Cert.AdamSmallIdeal.main_v1_21)) (v22 : (c : Dev Cert.AdamSmallIdeal.nD) → Buf (Elt Ideal) ((c.tc : Thread Cert.AdamSmallIdeal.nD Cert.AdamSmallIdeal.τ).loc Cert.AdamSmallIdeal.main_v1_22)) (v23 : (c : Dev Cert.AdamSmallIdeal.nD) → Buf (Elt Ideal) ((c.tc : Thread Cert.AdamSmallIdeal.nD Cert.AdamSmallIdeal.τ).loc Cert.AdamSmallIdeal.main_v1_23)) (v24 : (c : Dev Cert.AdamSmallIdeal.nD) → Buf (Elt Ideal) ((c.tc : Thread Cert.AdamSmallIdeal.nD Cert.AdamSmallIdeal.τ).loc Cert.AdamSmallIdeal.main_v1_24)) (v25 : (c : Dev Cert.AdamSmallIdeal.nD) → Buf (Elt Ideal) ((c.tc : Thread Cert.AdamSmallIdeal.nD Cert.AdamSmallIdeal.τ).loc Cert.AdamSmallIdeal.main_v1_25)) (v26 : (c : Dev Cert.AdamSmallIdeal.nD) → Buf (Elt Ideal) ((c.tc : Thread Cert.AdamSmallIdeal.nD Cert.AdamSmallIdeal.τ).loc Cert.AdamSmallIdeal.main_v1_26)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v1_0) = v0 c
          ∧ r.2.mem ((c.tc : Thread Cert.AdamSmallIdeal.nD Cert.AdamSmallIdeal.τ).loc Cert.AdamSmallIdeal.main_v1_1) = v1 c
          ∧ r.2.mem ((c.tc : Thread Cert.AdamSmallIdeal.nD Cert.AdamSmallIdeal.τ).loc Cert.AdamSmallIdeal.main_v1_2) = v2 c
          ∧ r.2.mem ((c.tc : Thread Cert.AdamSmallIdeal.nD Cert.AdamSmallIdeal.τ).loc Cert.AdamSmallIdeal.main_v1_3) = v3 c
          ∧ r.2.mem ((c.tc : Thread Cert.AdamSmallIdeal.nD Cert.AdamSmallIdeal.τ).loc Cert.AdamSmallIdeal.main_v1_4) = v4 c
          ∧ r.2.mem ((c.tc : Thread Cert.AdamSmallIdeal.nD Cert.AdamSmallIdeal.τ).loc Cert.AdamSmallIdeal.main_v1_5) = v5 c
          ∧ r.2.mem ((c.tc : Thread Cert.AdamSmallIdeal.nD Cert.AdamSmallIdeal.τ).loc Cert.AdamSmallIdeal.main_v1_6) = v6 c
          ∧ r.2.mem ((c.tc : Thread Cert.AdamSmallIdeal.nD Cert.AdamSmallIdeal.τ).loc Cert.AdamSmallIdeal.main_v1_7) = v7 c
          ∧ r.2.mem ((c.tc : Thread Cert.AdamSmallIdeal.nD Cert.AdamSmallIdeal.τ).loc Cert.AdamSmallIdeal.main_v1_8) = v8 c
          ∧ r.2.mem ((c.tc : Thread Cert.AdamSmallIdeal.nD Cert.AdamSmallIdeal.τ).loc Cert.AdamSmallIdeal.main_v1_9) = v9 c
          ∧ r.2.mem ((c.tc : Thread Cert.AdamSmallIdeal.nD Cert.AdamSmallIdeal.τ).loc Cert.AdamSmallIdeal.main_v1_10) = v10 c
          ∧ r.2.mem ((c.tc : Thread Cert.AdamSmallIdeal.nD Cert.AdamSmallIdeal.τ).loc Cert.AdamSmallIdeal.main_v1_11) = v11 c
          ∧ r.2.mem ((c.tc : Thread Cert.AdamSmallIdeal.nD Cert.AdamSmallIdeal.τ).loc Cert.AdamSmallIdeal.main_v1_12) = v12 c
          ∧ r.2.mem ((c.tc : Thread Cert.AdamSmallIdeal.nD Cert.AdamSmallIdeal.τ).loc Cert.AdamSmallIdeal.main_v1_13) = v13 c
          ∧ r.2.mem ((c.tc : Thread Cert.AdamSmallIdeal.nD Cert.AdamSmallIdeal.τ).loc Cert.AdamSmallIdeal.main_v1_14) = v14 c
          ∧ r.2.mem ((c.tc : Thread Cert.AdamSmallIdeal.nD Cert.AdamSmallIdeal.τ).loc Cert.AdamSmallIdeal.main_v1_15) = v15 c
          ∧ r.2.mem ((c.tc : Thread Cert.AdamSmallIdeal.nD Cert.AdamSmallIdeal.τ).loc Cert.AdamSmallIdeal.main_v1_16) = v16 c
          ∧ r.2.mem ((c.tc : Thread Cert.AdamSmallIdeal.nD Cert.AdamSmallIdeal.τ).loc Cert.AdamSmallIdeal.main_v1_17) = v17 c
          ∧ r.2.mem ((c.tc : Thread Cert.AdamSmallIdeal.nD Cert.AdamSmallIdeal.τ).loc Cert.AdamSmallIdeal.main_v1_18) = v18 c
          ∧ r.2.mem ((c.tc : Thread Cert.AdamSmallIdeal.nD Cert.AdamSmallIdeal.τ).loc Cert.AdamSmallIdeal.main_v1_19) = v19 c
          ∧ r.2.mem ((c.tc : Thread Cert.AdamSmallIdeal.nD Cert.AdamSmallIdeal.τ).loc Cert.AdamSmallIdeal.main_v1_20) = v20 c
          ∧ r.2.mem ((c.tc : Thread Cert.AdamSmallIdeal.nD Cert.AdamSmallIdeal.τ).loc Cert.AdamSmallIdeal.main_v1_21) = v21 c
          ∧ r.2.mem ((c.tc : Thread Cert.AdamSmallIdeal.nD Cert.AdamSmallIdeal.τ).loc Cert.AdamSmallIdeal.main_v1_22) = v22 c
          ∧ r.2.mem ((c.tc : Thread Cert.AdamSmallIdeal.nD Cert.AdamSmallIdeal.τ).loc Cert.AdamSmallIdeal.main_v1_23) = v23 c
          ∧ r.2.mem ((c.tc : Thread Cert.AdamSmallIdeal.nD Cert.AdamSmallIdeal.τ).loc Cert.AdamSmallIdeal.main_v1_24) = v24 c
          ∧ r.2.mem ((c.tc : Thread Cert.AdamSmallIdeal.nD Cert.AdamSmallIdeal.τ).loc Cert.AdamSmallIdeal.main_v1_25) = v25 c
          ∧ r.2.mem ((c.tc : Thread Cert.AdamSmallIdeal.nD Cert.AdamSmallIdeal.τ).loc Cert.AdamSmallIdeal.main_v1_26) = v26 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v23) = v0 c
          ∧ r.2.mem ((c.tc : Thread Cert.RefAdamSmallIdeal.nD Cert.RefAdamSmallIdeal.τ).loc Cert.RefAdamSmallIdeal.main_v47) = v1 c
          ∧ r.2.mem ((c.tc : Thread Cert.RefAdamSmallIdeal.nD Cert.RefAdamSmallIdeal.τ).loc Cert.RefAdamSmallIdeal.main_v71) = v2 c
          ∧ r.2.mem ((c.tc : Thread Cert.RefAdamSmallIdeal.nD Cert.RefAdamSmallIdeal.τ).loc Cert.RefAdamSmallIdeal.main_v95) = v3 c
          ∧ r.2.mem ((c.tc : Thread Cert.RefAdamSmallIdeal.nD Cert.RefAdamSmallIdeal.τ).loc Cert.RefAdamSmallIdeal.main_v119) = v4 c
          ∧ r.2.mem ((c.tc : Thread Cert.RefAdamSmallIdeal.nD Cert.RefAdamSmallIdeal.τ).loc Cert.RefAdamSmallIdeal.main_v143) = v5 c
          ∧ r.2.mem ((c.tc : Thread Cert.RefAdamSmallIdeal.nD Cert.RefAdamSmallIdeal.τ).loc Cert.RefAdamSmallIdeal.main_v167) = v6 c
          ∧ r.2.mem ((c.tc : Thread Cert.RefAdamSmallIdeal.nD Cert.RefAdamSmallIdeal.τ).loc Cert.RefAdamSmallIdeal.main_v191) = v7 c
          ∧ r.2.mem ((c.tc : Thread Cert.RefAdamSmallIdeal.nD Cert.RefAdamSmallIdeal.τ).loc Cert.RefAdamSmallIdeal.main_v215) = v8 c
          ∧ r.2.mem ((c.tc : Thread Cert.RefAdamSmallIdeal.nD Cert.RefAdamSmallIdeal.τ).loc Cert.RefAdamSmallIdeal.main_v4) = v9 c
          ∧ r.2.mem ((c.tc : Thread Cert.RefAdamSmallIdeal.nD Cert.RefAdamSmallIdeal.τ).loc Cert.RefAdamSmallIdeal.main_v28) = v10 c
          ∧ r.2.mem ((c.tc : Thread Cert.RefAdamSmallIdeal.nD Cert.RefAdamSmallIdeal.τ).loc Cert.RefAdamSmallIdeal.main_v52) = v11 c
          ∧ r.2.mem ((c.tc : Thread Cert.RefAdamSmallIdeal.nD Cert.RefAdamSmallIdeal.τ).loc Cert.RefAdamSmallIdeal.main_v76) = v12 c
          ∧ r.2.mem ((c.tc : Thread Cert.RefAdamSmallIdeal.nD Cert.RefAdamSmallIdeal.τ).loc Cert.RefAdamSmallIdeal.main_v100) = v13 c
          ∧ r.2.mem ((c.tc : Thread Cert.RefAdamSmallIdeal.nD Cert.RefAdamSmallIdeal.τ).loc Cert.RefAdamSmallIdeal.main_v124) = v14 c
          ∧ r.2.mem ((c.tc : Thread Cert.RefAdamSmallIdeal.nD Cert.RefAdamSmallIdeal.τ).loc Cert.RefAdamSmallIdeal.main_v148) = v15 c
          ∧ r.2.mem ((c.tc : Thread Cert.RefAdamSmallIdeal.nD Cert.RefAdamSmallIdeal.τ).loc Cert.RefAdamSmallIdeal.main_v172) = v16 c
          ∧ r.2.mem ((c.tc : Thread Cert.RefAdamSmallIdeal.nD Cert.RefAdamSmallIdeal.τ).loc Cert.RefAdamSmallIdeal.main_v196) = v17 c
          ∧ r.2.mem ((c.tc : Thread Cert.RefAdamSmallIdeal.nD Cert.RefAdamSmallIdeal.τ).loc Cert.RefAdamSmallIdeal.main_v10) = v18 c
          ∧ r.2.mem ((c.tc : Thread Cert.RefAdamSmallIdeal.nD Cert.RefAdamSmallIdeal.τ).loc Cert.RefAdamSmallIdeal.main_v34) = v19 c
          ∧ r.2.mem ((c.tc : Thread Cert.RefAdamSmallIdeal.nD Cert.RefAdamSmallIdeal.τ).loc Cert.RefAdamSmallIdeal.main_v58) = v20 c
          ∧ r.2.mem ((c.tc : Thread Cert.RefAdamSmallIdeal.nD Cert.RefAdamSmallIdeal.τ).loc Cert.RefAdamSmallIdeal.main_v82) = v21 c
          ∧ r.2.mem ((c.tc : Thread Cert.RefAdamSmallIdeal.nD Cert.RefAdamSmallIdeal.τ).loc Cert.RefAdamSmallIdeal.main_v106) = v22 c
          ∧ r.2.mem ((c.tc : Thread Cert.RefAdamSmallIdeal.nD Cert.RefAdamSmallIdeal.τ).loc Cert.RefAdamSmallIdeal.main_v130) = v23 c
          ∧ r.2.mem ((c.tc : Thread Cert.RefAdamSmallIdeal.nD Cert.RefAdamSmallIdeal.τ).loc Cert.RefAdamSmallIdeal.main_v154) = v24 c
          ∧ r.2.mem ((c.tc : Thread Cert.RefAdamSmallIdeal.nD Cert.RefAdamSmallIdeal.τ).loc Cert.RefAdamSmallIdeal.main_v178) = v25 c
          ∧ r.2.mem ((c.tc : Thread Cert.RefAdamSmallIdeal.nD Cert.RefAdamSmallIdeal.τ).loc Cert.RefAdamSmallIdeal.main_v202) = v26 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3)
          ∧ r.2.mem ((c.tc : Thread Cert.RefAdamSmallIdeal.nD Cert.RefAdamSmallIdeal.τ).loc Cert.RefAdamSmallIdeal.main_arg4) = m' ((c.tc : Thread Cert.RefAdamSmallIdeal.nD Cert.RefAdamSmallIdeal.τ).loc Cert.RefAdamSmallIdeal.main_arg4)
          ∧ r.2.mem ((c.tc : Thread Cert.RefAdamSmallIdeal.nD Cert.RefAdamSmallIdeal.τ).loc Cert.RefAdamSmallIdeal.main_arg5) = m' ((c.tc : Thread Cert.RefAdamSmallIdeal.nD Cert.RefAdamSmallIdeal.τ).loc Cert.RefAdamSmallIdeal.main_arg5)
          ∧ r.2.mem ((c.tc : Thread Cert.RefAdamSmallIdeal.nD Cert.RefAdamSmallIdeal.τ).loc Cert.RefAdamSmallIdeal.main_arg6) = m' ((c.tc : Thread Cert.RefAdamSmallIdeal.nD Cert.RefAdamSmallIdeal.τ).loc Cert.RefAdamSmallIdeal.main_arg6)
          ∧ r.2.mem ((c.tc : Thread Cert.RefAdamSmallIdeal.nD Cert.RefAdamSmallIdeal.τ).loc Cert.RefAdamSmallIdeal.main_arg7) = m' ((c.tc : Thread Cert.RefAdamSmallIdeal.nD Cert.RefAdamSmallIdeal.τ).loc Cert.RefAdamSmallIdeal.main_arg7)
          ∧ r.2.mem ((c.tc : Thread Cert.RefAdamSmallIdeal.nD Cert.RefAdamSmallIdeal.τ).loc Cert.RefAdamSmallIdeal.main_arg8) = m' ((c.tc : Thread Cert.RefAdamSmallIdeal.nD Cert.RefAdamSmallIdeal.τ).loc Cert.RefAdamSmallIdeal.main_arg8)
          ∧ r.2.mem ((c.tc : Thread Cert.RefAdamSmallIdeal.nD Cert.RefAdamSmallIdeal.τ).loc Cert.RefAdamSmallIdeal.main_arg9) = m' ((c.tc : Thread Cert.RefAdamSmallIdeal.nD Cert.RefAdamSmallIdeal.τ).loc Cert.RefAdamSmallIdeal.main_arg9)
          ∧ r.2.mem ((c.tc : Thread Cert.RefAdamSmallIdeal.nD Cert.RefAdamSmallIdeal.τ).loc Cert.RefAdamSmallIdeal.main_arg10) = m' ((c.tc : Thread Cert.RefAdamSmallIdeal.nD Cert.RefAdamSmallIdeal.τ).loc Cert.RefAdamSmallIdeal.main_arg10)
          ∧ r.2.mem ((c.tc : Thread Cert.RefAdamSmallIdeal.nD Cert.RefAdamSmallIdeal.τ).loc Cert.RefAdamSmallIdeal.main_arg11) = m' ((c.tc : Thread Cert.RefAdamSmallIdeal.nD Cert.RefAdamSmallIdeal.τ).loc Cert.RefAdamSmallIdeal.main_arg11)
          ∧ r.2.mem ((c.tc : Thread Cert.RefAdamSmallIdeal.nD Cert.RefAdamSmallIdeal.τ).loc Cert.RefAdamSmallIdeal.main_arg12) = m' ((c.tc : Thread Cert.RefAdamSmallIdeal.nD Cert.RefAdamSmallIdeal.τ).loc Cert.RefAdamSmallIdeal.main_arg12)
          ∧ r.2.mem ((c.tc : Thread Cert.RefAdamSmallIdeal.nD Cert.RefAdamSmallIdeal.τ).loc Cert.RefAdamSmallIdeal.main_arg13) = m' ((c.tc : Thread Cert.RefAdamSmallIdeal.nD Cert.RefAdamSmallIdeal.τ).loc Cert.RefAdamSmallIdeal.main_arg13)
          ∧ r.2.mem ((c.tc : Thread Cert.RefAdamSmallIdeal.nD Cert.RefAdamSmallIdeal.τ).loc Cert.RefAdamSmallIdeal.main_arg14) = m' ((c.tc : Thread Cert.RefAdamSmallIdeal.nD Cert.RefAdamSmallIdeal.τ).loc Cert.RefAdamSmallIdeal.main_arg14)
          ∧ r.2.mem ((c.tc : Thread Cert.RefAdamSmallIdeal.nD Cert.RefAdamSmallIdeal.τ).loc Cert.RefAdamSmallIdeal.main_arg15) = m' ((c.tc : Thread Cert.RefAdamSmallIdeal.nD Cert.RefAdamSmallIdeal.τ).loc Cert.RefAdamSmallIdeal.main_arg15)
          ∧ r.2.mem ((c.tc : Thread Cert.RefAdamSmallIdeal.nD Cert.RefAdamSmallIdeal.τ).loc Cert.RefAdamSmallIdeal.main_arg16) = m' ((c.tc : Thread Cert.RefAdamSmallIdeal.nD Cert.RefAdamSmallIdeal.τ).loc Cert.RefAdamSmallIdeal.main_arg16)
          ∧ r.2.mem ((c.tc : Thread Cert.RefAdamSmallIdeal.nD Cert.RefAdamSmallIdeal.τ).loc Cert.RefAdamSmallIdeal.main_arg17) = m' ((c.tc : Thread Cert.RefAdamSmallIdeal.nD Cert.RefAdamSmallIdeal.τ).loc Cert.RefAdamSmallIdeal.main_arg17)
          ∧ r.2.mem ((c.tc : Thread Cert.RefAdamSmallIdeal.nD Cert.RefAdamSmallIdeal.τ).loc Cert.RefAdamSmallIdeal.main_arg18) = m' ((c.tc : Thread Cert.RefAdamSmallIdeal.nD Cert.RefAdamSmallIdeal.τ).loc Cert.RefAdamSmallIdeal.main_arg18)
          ∧ r.2.mem ((c.tc : Thread Cert.RefAdamSmallIdeal.nD Cert.RefAdamSmallIdeal.τ).loc Cert.RefAdamSmallIdeal.main_arg19) = m' ((c.tc : Thread Cert.RefAdamSmallIdeal.nD Cert.RefAdamSmallIdeal.τ).loc Cert.RefAdamSmallIdeal.main_arg19)
          ∧ r.2.mem ((c.tc : Thread Cert.RefAdamSmallIdeal.nD Cert.RefAdamSmallIdeal.τ).loc Cert.RefAdamSmallIdeal.main_arg20) = m' ((c.tc : Thread Cert.RefAdamSmallIdeal.nD Cert.RefAdamSmallIdeal.τ).loc Cert.RefAdamSmallIdeal.main_arg20)
          ∧ r.2.mem ((c.tc : Thread Cert.RefAdamSmallIdeal.nD Cert.RefAdamSmallIdeal.τ).loc Cert.RefAdamSmallIdeal.main_arg21) = m' ((c.tc : Thread Cert.RefAdamSmallIdeal.nD Cert.RefAdamSmallIdeal.τ).loc Cert.RefAdamSmallIdeal.main_arg21)
          ∧ r.2.mem ((c.tc : Thread Cert.RefAdamSmallIdeal.nD Cert.RefAdamSmallIdeal.τ).loc Cert.RefAdamSmallIdeal.main_arg22) = m' ((c.tc : Thread Cert.RefAdamSmallIdeal.nD Cert.RefAdamSmallIdeal.τ).loc Cert.RefAdamSmallIdeal.main_arg22)
          ∧ r.2.mem ((c.tc : Thread Cert.RefAdamSmallIdeal.nD Cert.RefAdamSmallIdeal.τ).loc Cert.RefAdamSmallIdeal.main_arg23) = m' ((c.tc : Thread Cert.RefAdamSmallIdeal.nD Cert.RefAdamSmallIdeal.τ).loc Cert.RefAdamSmallIdeal.main_arg23)
          ∧ r.2.mem ((c.tc : Thread Cert.RefAdamSmallIdeal.nD Cert.RefAdamSmallIdeal.τ).loc Cert.RefAdamSmallIdeal.main_arg24) = m' ((c.tc : Thread Cert.RefAdamSmallIdeal.nD Cert.RefAdamSmallIdeal.τ).loc Cert.RefAdamSmallIdeal.main_arg24)
          ∧ r.2.mem ((c.tc : Thread Cert.RefAdamSmallIdeal.nD Cert.RefAdamSmallIdeal.τ).loc Cert.RefAdamSmallIdeal.main_arg25) = m' ((c.tc : Thread Cert.RefAdamSmallIdeal.nD Cert.RefAdamSmallIdeal.τ).loc Cert.RefAdamSmallIdeal.main_arg25)
          ∧ r.2.mem ((c.tc : Thread Cert.RefAdamSmallIdeal.nD Cert.RefAdamSmallIdeal.τ).loc Cert.RefAdamSmallIdeal.main_arg26) = m' ((c.tc : Thread Cert.RefAdamSmallIdeal.nD Cert.RefAdamSmallIdeal.τ).loc Cert.RefAdamSmallIdeal.main_arg26)
          ∧ r.2.mem ((c.tc : Thread Cert.RefAdamSmallIdeal.nD Cert.RefAdamSmallIdeal.τ).loc Cert.RefAdamSmallIdeal.main_arg27) = m' ((c.tc : Thread Cert.RefAdamSmallIdeal.nD Cert.RefAdamSmallIdeal.τ).loc Cert.RefAdamSmallIdeal.main_arg27)
          ∧ r.2.mem ((c.tc : Thread Cert.RefAdamSmallIdeal.nD Cert.RefAdamSmallIdeal.τ).loc Cert.RefAdamSmallIdeal.main_arg28) = m' ((c.tc : Thread Cert.RefAdamSmallIdeal.nD Cert.RefAdamSmallIdeal.τ).loc Cert.RefAdamSmallIdeal.main_arg28)
          ∧ r.2.mem ((c.tc : Thread Cert.RefAdamSmallIdeal.nD Cert.RefAdamSmallIdeal.τ).loc Cert.RefAdamSmallIdeal.main_arg29) = m' ((c.tc : Thread Cert.RefAdamSmallIdeal.nD Cert.RefAdamSmallIdeal.τ).loc Cert.RefAdamSmallIdeal.main_arg29)
          ∧ r.2.mem ((c.tc : Thread Cert.RefAdamSmallIdeal.nD Cert.RefAdamSmallIdeal.τ).loc Cert.RefAdamSmallIdeal.main_arg30) = m' ((c.tc : Thread Cert.RefAdamSmallIdeal.nD Cert.RefAdamSmallIdeal.τ).loc Cert.RefAdamSmallIdeal.main_arg30)
          ∧ r.2.mem ((c.tc : Thread Cert.RefAdamSmallIdeal.nD Cert.RefAdamSmallIdeal.τ).loc Cert.RefAdamSmallIdeal.main_arg31) = m' ((c.tc : Thread Cert.RefAdamSmallIdeal.nD Cert.RefAdamSmallIdeal.τ).loc Cert.RefAdamSmallIdeal.main_arg31)
          ∧ r.2.mem ((c.tc : Thread Cert.RefAdamSmallIdeal.nD Cert.RefAdamSmallIdeal.τ).loc Cert.RefAdamSmallIdeal.main_arg32) = m' ((c.tc : Thread Cert.RefAdamSmallIdeal.nD Cert.RefAdamSmallIdeal.τ).loc Cert.RefAdamSmallIdeal.main_arg32)
          ∧ r.2.mem ((c.tc : Thread Cert.RefAdamSmallIdeal.nD Cert.RefAdamSmallIdeal.τ).loc Cert.RefAdamSmallIdeal.main_arg33) = m' ((c.tc : Thread Cert.RefAdamSmallIdeal.nD Cert.RefAdamSmallIdeal.τ).loc Cert.RefAdamSmallIdeal.main_arg33)
          ∧ r.2.mem ((c.tc : Thread Cert.RefAdamSmallIdeal.nD Cert.RefAdamSmallIdeal.τ).loc Cert.RefAdamSmallIdeal.main_arg34) = m' ((c.tc : Thread Cert.RefAdamSmallIdeal.nD Cert.RefAdamSmallIdeal.τ).loc Cert.RefAdamSmallIdeal.main_arg34)
          ∧ r.2.mem ((c.tc : Thread Cert.RefAdamSmallIdeal.nD Cert.RefAdamSmallIdeal.τ).loc Cert.RefAdamSmallIdeal.main_arg35) = m' ((c.tc : Thread Cert.RefAdamSmallIdeal.nD Cert.RefAdamSmallIdeal.τ).loc Cert.RefAdamSmallIdeal.main_arg35))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v19)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v19) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v15) = v0 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1))

def preserves_MlpUpFirst_MlpUpFirstIdeal : Prop :=
  True

def algebraic_MlpUpFirstIdeal_RefMlpUpFirstIdeal_on_first_half [hMlpUpFirstIdeal : Cert.MlpUpFirstIdeal.Facts] [hRefMlpUpFirstIdeal : Cert.RefMlpUpFirstIdeal.Facts] [hOn_first_half : Cert.On_first_half.Facts] : Prop :=
  ∀ (m : (ℓ : Loc Cert.MlpUpFirstIdeal.nD Cert.MlpUpFirstIdeal.τ Cert.MlpUpFirstIdeal.sig) → Buf (Elt Ideal) ℓ) (g : Dev Cert.MlpUpFirstIdeal.nD → PrngReg)
    (m' : (ℓ : Loc Cert.RefMlpUpFirstIdeal.nD Cert.RefMlpUpFirstIdeal.τ Cert.RefMlpUpFirstIdeal.sig) → Buf (Elt Ideal) ℓ) (g' : Dev Cert.RefMlpUpFirstIdeal.nD → PrngReg), Pre_MlpUpFirstIdeal m →
    (∀ c : Dev Cert.MlpUpFirstIdeal.nD,
      m' ((c.tc : Thread Cert.RefMlpUpFirstIdeal.nD Cert.RefMlpUpFirstIdeal.τ).loc Cert.RefMlpUpFirstIdeal.main_arg0) = m ((c.tc : Thread Cert.MlpUpFirstIdeal.nD Cert.MlpUpFirstIdeal.τ).loc Cert.MlpUpFirstIdeal.main_arg0)
      ∧ m' ((c.tc : Thread Cert.RefMlpUpFirstIdeal.nD Cert.RefMlpUpFirstIdeal.τ).loc Cert.RefMlpUpFirstIdeal.main_arg1) = m ((c.tc : Thread Cert.MlpUpFirstIdeal.nD Cert.MlpUpFirstIdeal.τ).loc Cert.MlpUpFirstIdeal.main_arg1)) →
    ∃ (v0 : (c : Dev Cert.MlpUpFirstIdeal.nD) → Buf (Elt Ideal) ((c.tc : Thread Cert.MlpUpFirstIdeal.nD Cert.MlpUpFirstIdeal.τ).loc Cert.MlpUpFirstIdeal.main_v3_0)) (v1 : (c : Dev Cert.MlpUpFirstIdeal.nD) → Buf (Elt Ideal) ((c.tc : Thread Cert.MlpUpFirstIdeal.nD Cert.MlpUpFirstIdeal.τ).loc Cert.MlpUpFirstIdeal.main_v3_1)),
      θ_run (Cert.MlpUpFirstIdeal.defs (F := Ideal)) (onTc (τ := Cert.MlpUpFirstIdeal.τ) (Cert.MlpUpFirstIdeal.main (F := Ideal))) ⟨m, fun _ => 0, g⟩ (fun r => ∀ c : Dev Cert.MlpUpFirstIdeal.nD,
          (∀ i : (⟨2, ![2176, 8192]⟩ : Shape).Idx, (Cert.On_first_half.fn (F := Ideal) (m ((c.tc : Thread Cert.MlpUpFirstIdeal.nD Cert.MlpUpFirstIdeal.τ).loc Cert.MlpUpFirstIdeal.main_arg0)) (m ((c.tc : Thread Cert.MlpUpFirstIdeal.nD Cert.MlpUpFirstIdeal.τ).loc Cert.MlpUpFirstIdeal.main_arg1))).1 i = 1#1 → r.2.mem ((c.tc : Thread Cert.MlpUpFirstIdeal.nD Cert.MlpUpFirstIdeal.τ).loc Cert.MlpUpFirstIdeal.main_v3_0) i = v0 c i)
          ∧ (∀ i : (⟨2, ![2176, 8192]⟩ : Shape).Idx, (Cert.On_first_half.fn (F := Ideal) (m ((c.tc : Thread Cert.MlpUpFirstIdeal.nD Cert.MlpUpFirstIdeal.τ).loc Cert.MlpUpFirstIdeal.main_arg0)) (m ((c.tc : Thread Cert.MlpUpFirstIdeal.nD Cert.MlpUpFirstIdeal.τ).loc Cert.MlpUpFirstIdeal.main_arg1))).2 i = 1#1 → r.2.mem ((c.tc : Thread Cert.MlpUpFirstIdeal.nD Cert.MlpUpFirstIdeal.τ).loc Cert.MlpUpFirstIdeal.main_v3_1) i = v1 c i)
          ∧ r.2.mem ((c.tc : Thread Cert.MlpUpFirstIdeal.nD Cert.MlpUpFirstIdeal.τ).loc Cert.MlpUpFirstIdeal.main_arg0) = m ((c.tc : Thread Cert.MlpUpFirstIdeal.nD Cert.MlpUpFirstIdeal.τ).loc Cert.MlpUpFirstIdeal.main_arg0)
          ∧ r.2.mem ((c.tc : Thread Cert.MlpUpFirstIdeal.nD Cert.MlpUpFirstIdeal.τ).loc Cert.MlpUpFirstIdeal.main_arg1) = m ((c.tc : Thread Cert.MlpUpFirstIdeal.nD Cert.MlpUpFirstIdeal.τ).loc Cert.MlpUpFirstIdeal.main_arg1))
      ∧ θ_run (Cert.RefMlpUpFirstIdeal.defs (F := Ideal)) (onTc (τ := Cert.RefMlpUpFirstIdeal.τ) (Cert.RefMlpUpFirstIdeal.main (F := Ideal))) ⟨m', fun _ => 0, g'⟩ (fun r => ∀ c : Dev Cert.RefMlpUpFirstIdeal.nD,
          (∀ i : (⟨2, ![2176, 8192]⟩ : Shape).Idx, (Cert.On_first_half.fn (F := Ideal) (m ((c.tc : Thread Cert.MlpUpFirstIdeal.nD Cert.MlpUpFirstIdeal.τ).loc Cert.MlpUpFirstIdeal.main_arg0)) (m ((c.tc : Thread Cert.MlpUpFirstIdeal.nD Cert.MlpUpFirstIdeal.τ).loc Cert.MlpUpFirstIdeal.main_arg1))).1 i = 1#1 → r.2.mem ((c.tc : Thread Cert.RefMlpUpFirstIdeal.nD Cert.RefMlpUpFirstIdeal.τ).loc Cert.RefMlpUpFirstIdeal.main_v4) i = v0 c i)
          ∧ (∀ i : (⟨2, ![2176, 8192]⟩ : Shape).Idx, (Cert.On_first_half.fn (F := Ideal) (m ((c.tc : Thread Cert.MlpUpFirstIdeal.nD Cert.MlpUpFirstIdeal.τ).loc Cert.MlpUpFirstIdeal.main_arg0)) (m ((c.tc : Thread Cert.MlpUpFirstIdeal.nD Cert.MlpUpFirstIdeal.τ).loc Cert.MlpUpFirstIdeal.main_arg1))).2 i = 1#1 → r.2.mem ((c.tc : Thread Cert.RefMlpUpFirstIdeal.nD Cert.RefMlpUpFirstIdeal.τ).loc Cert.RefMlpUpFirstIdeal.main_v6) i = v1 c i)
          ∧ r.2.mem ((c.tc : Thread Cert.RefMlpUpFirstIdeal.nD Cert.RefMlpUpFirstIdeal.τ).loc Cert.RefMlpUpFirstIdeal.main_arg0) = m' ((c.tc : Thread Cert.RefMlpUpFirstIdeal.nD Cert.RefMlpUpFirstIdeal.τ).loc Cert.RefMlpUpFirstIdeal.main_arg0)
          ∧ r.2.mem ((c.tc : Thread Cert.RefMlpUpFirstIdeal.nD Cert.RefMlpUpFirstIdeal.τ).loc Cert.RefMlpUpFirstIdeal.main_arg1) = m' ((c.tc : Thread Cert.RefMlpUpFirstIdeal.nD Cert.RefMlpUpFirstIdeal.τ).loc Cert.RefMlpUpFirstIdeal.main_arg1))

def preserves_MlpUp_MlpUpIdeal : Prop :=
  True

def algebraic_MlpUpIdeal_RefMlpUpIdeal [hMlpUpIdeal : Cert.MlpUpIdeal.Facts] [hRefMlpUpIdeal : Cert.RefMlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.RefMlpUpIdeal.nD Cert.RefMlpUpIdeal.τ Cert.RefMlpUpIdeal.sig) → Buf (Elt Ideal) ℓ) (g' : Dev Cert.RefMlpUpIdeal.nD → PrngReg), Pre_MlpUpIdeal m →
    (∀ c : Dev Cert.MlpUpIdeal.nD,
      m' ((c.tc : Thread Cert.RefMlpUpIdeal.nD Cert.RefMlpUpIdeal.τ).loc Cert.RefMlpUpIdeal.main_arg0) = m ((c.tc : Thread Cert.MlpUpIdeal.nD Cert.MlpUpIdeal.τ).loc Cert.MlpUpIdeal.main_arg0)
      ∧ m' ((c.tc : Thread Cert.RefMlpUpIdeal.nD Cert.RefMlpUpIdeal.τ).loc Cert.RefMlpUpIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v10_0)) (v1 : (c : Dev Cert.MlpUpIdeal.nD) → Buf (Elt Ideal) ((c.tc : Thread Cert.MlpUpIdeal.nD Cert.MlpUpIdeal.τ).loc Cert.MlpUpIdeal.main_v10_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v10_0) = v0 c
          ∧ r.2.mem ((c.tc : Thread Cert.MlpUpIdeal.nD Cert.MlpUpIdeal.τ).loc Cert.MlpUpIdeal.main_v10_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.RefMlpUpIdeal.defs (F := Ideal)) (onTc (τ := Cert.RefMlpUpIdeal.τ) (Cert.RefMlpUpIdeal.main (F := Ideal))) ⟨m', fun _ => 0, g'⟩ (fun r => ∀ c : Dev Cert.RefMlpUpIdeal.nD,
          r.2.mem ((c.tc : Thread Cert.RefMlpUpIdeal.nD Cert.RefMlpUpIdeal.τ).loc Cert.RefMlpUpIdeal.main_v4) = v0 c
          ∧ r.2.mem ((c.tc : Thread Cert.RefMlpUpIdeal.nD Cert.RefMlpUpIdeal.τ).loc Cert.RefMlpUpIdeal.main_v6) = v1 c
          ∧ r.2.mem ((c.tc : Thread Cert.RefMlpUpIdeal.nD Cert.RefMlpUpIdeal.τ).loc Cert.RefMlpUpIdeal.main_arg0) = m' ((c.tc : Thread Cert.RefMlpUpIdeal.nD Cert.RefMlpUpIdeal.τ).loc Cert.RefMlpUpIdeal.main_arg0)
          ∧ r.2.mem ((c.tc : Thread Cert.RefMlpUpIdeal.nD Cert.RefMlpUpIdeal.τ).loc Cert.RefMlpUpIdeal.main_arg1) = m' ((c.tc : Thread Cert.RefMlpUpIdeal.nD Cert.RefMlpUpIdeal.τ).loc Cert.RefMlpUpIdeal.main_arg1))

def Claim : Prop :=
  ∃ (hGradW2 : Cert.GradW2.Facts) (hGradW2Ideal : Cert.GradW2Ideal.Facts) (hRefGradW2Ideal : Cert.RefGradW2Ideal.Facts) (hMlpDz : Cert.MlpDz.Facts) (hMlpDzIdeal : Cert.MlpDzIdeal.Facts) (hRefMlpDzIdeal : Cert.RefMlpDzIdeal.Facts) (hGradW1 : Cert.GradW1.Facts) (hGradW1Ideal : Cert.GradW1Ideal.Facts) (hRefGradW1Ideal : Cert.RefGradW1Ideal.Facts) (hMlpDn : Cert.MlpDn.Facts) (hMlpDnIdeal : Cert.MlpDnIdeal.Facts) (hRefMlpDnIdeal : Cert.RefMlpDnIdeal.Facts) (hMixed : Cert.Mixed.Facts) (hMixedIdeal : Cert.MixedIdeal.Facts) (hRefMixedIdeal : Cert.RefMixedIdeal.Facts) (hGradWout : Cert.GradWout.Facts) (hGradWoutIdeal : Cert.GradWoutIdeal.Facts) (hRefGradWoutIdeal : Cert.RefGradWoutIdeal.Facts) (hInGrad : Cert.InGrad.Facts) (hInGradIdeal : Cert.InGradIdeal.Facts) (hRefInGradIdeal : Cert.RefInGradIdeal.Facts) (hOutProj : Cert.OutProj.Facts) (hOutProjIdeal : Cert.OutProjIdeal.Facts) (hRefOutProjIdeal : Cert.RefOutProjIdeal.Facts) (hMlpDown : Cert.MlpDown.Facts) (hMlpDownIdeal : Cert.MlpDownIdeal.Facts) (hRefMlpDownIdeal : Cert.RefMlpDownIdeal.Facts) (hNormBwd : Cert.NormBwd.Facts) (hNormBwdIdeal : Cert.NormBwdIdeal.Facts) (hRefNormBwdIdeal : Cert.RefNormBwdIdeal.Facts) (hAdamW : Cert.AdamW.Facts) (hAdamWIdeal : Cert.AdamWIdeal.Facts) (hRefAdamWIdeal : Cert.RefAdamWIdeal.Facts) (hAdamIn : Cert.AdamIn.Facts) (hAdamInIdeal : Cert.AdamInIdeal.Facts) (hRefAdamInIdeal : Cert.RefAdamInIdeal.Facts) (hAdamOut : Cert.AdamOut.Facts) (hAdamOutIdeal : Cert.AdamOutIdeal.Facts) (hRefAdamOutIdeal : Cert.RefAdamOutIdeal.Facts) (hAdamSmall : Cert.AdamSmall.Facts) (hAdamSmallIdeal : Cert.AdamSmallIdeal.Facts) (hRefAdamSmallIdeal : Cert.RefAdamSmallIdeal.Facts) (hInProj : Cert.InProj.Facts) (hInProjIdeal : Cert.InProjIdeal.Facts) (hRefInProjIdeal : Cert.RefInProjIdeal.Facts) (hMlpUpFirst : Cert.MlpUpFirst.Facts) (hMlpUpFirstIdeal : Cert.MlpUpFirstIdeal.Facts) (hRefMlpUpFirstIdeal : Cert.RefMlpUpFirstIdeal.Facts) (hMlpUp : Cert.MlpUp.Facts) (hMlpUpIdeal : Cert.MlpUpIdeal.Facts) (hRefMlpUpIdeal : Cert.RefMlpUpIdeal.Facts) (hOn_first_half : Cert.On_first_half.Facts),
    quiescent_GradW2 (hGradW2 := hGradW2)
    ∧ quiescent_GradW2Ideal (hGradW2Ideal := hGradW2Ideal)
    ∧ quiescent_RefGradW2Ideal (hRefGradW2Ideal := hRefGradW2Ideal)
    ∧ quiescent_MlpDz (hMlpDz := hMlpDz)
    ∧ quiescent_MlpDzIdeal (hMlpDzIdeal := hMlpDzIdeal)
    ∧ quiescent_RefMlpDzIdeal (hRefMlpDzIdeal := hRefMlpDzIdeal)
    ∧ quiescent_GradW1 (hGradW1 := hGradW1)
    ∧ quiescent_GradW1Ideal (hGradW1Ideal := hGradW1Ideal)
    ∧ quiescent_RefGradW1Ideal (hRefGradW1Ideal := hRefGradW1Ideal)
    ∧ quiescent_MlpDn (hMlpDn := hMlpDn)
    ∧ quiescent_MlpDnIdeal (hMlpDnIdeal := hMlpDnIdeal)
    ∧ quiescent_RefMlpDnIdeal (hRefMlpDnIdeal := hRefMlpDnIdeal)
    ∧ quiescent_Mixed (hMixed := hMixed)
    ∧ quiescent_MixedIdeal (hMixedIdeal := hMixedIdeal)
    ∧ quiescent_RefMixedIdeal (hRefMixedIdeal := hRefMixedIdeal)
    ∧ quiescent_GradWout (hGradWout := hGradWout)
    ∧ quiescent_GradWoutIdeal (hGradWoutIdeal := hGradWoutIdeal)
    ∧ quiescent_RefGradWoutIdeal (hRefGradWoutIdeal := hRefGradWoutIdeal)
    ∧ quiescent_InGrad (hInGrad := hInGrad)
    ∧ quiescent_InGradIdeal (hInGradIdeal := hInGradIdeal)
    ∧ quiescent_RefInGradIdeal (hRefInGradIdeal := hRefInGradIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_MlpDown (hMlpDown := hMlpDown)
    ∧ quiescent_MlpDownIdeal (hMlpDownIdeal := hMlpDownIdeal)
    ∧ quiescent_RefMlpDownIdeal (hRefMlpDownIdeal := hRefMlpDownIdeal)
    ∧ quiescent_NormBwd (hNormBwd := hNormBwd)
    ∧ quiescent_NormBwdIdeal (hNormBwdIdeal := hNormBwdIdeal)
    ∧ quiescent_RefNormBwdIdeal (hRefNormBwdIdeal := hRefNormBwdIdeal)
    ∧ quiescent_AdamW (hAdamW := hAdamW)
    ∧ quiescent_AdamWIdeal (hAdamWIdeal := hAdamWIdeal)
    ∧ quiescent_RefAdamWIdeal (hRefAdamWIdeal := hRefAdamWIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_InProj (hInProj := hInProj)
    ∧ quiescent_InProjIdeal (hInProjIdeal := hInProjIdeal)
    ∧ quiescent_RefInProjIdeal (hRefInProjIdeal := hRefInProjIdeal)
    ∧ quiescent_MlpUpFirst (hMlpUpFirst := hMlpUpFirst)
    ∧ quiescent_MlpUpFirstIdeal (hMlpUpFirstIdeal := hMlpUpFirstIdeal)
    ∧ quiescent_RefMlpUpFirstIdeal (hRefMlpUpFirstIdeal := hRefMlpUpFirstIdeal)
    ∧ quiescent_MlpUp (hMlpUp := hMlpUp)
    ∧ quiescent_MlpUpIdeal (hMlpUpIdeal := hMlpUpIdeal)
    ∧ quiescent_RefMlpUpIdeal (hRefMlpUpIdeal := hRefMlpUpIdeal)
    ∧ preserves_GradW2_GradW2Ideal
    ∧ algebraic_GradW2Ideal_RefGradW2Ideal (hGradW2Ideal := hGradW2Ideal) (hRefGradW2Ideal := hRefGradW2Ideal)
    ∧ preserves_MlpDz_MlpDzIdeal
    ∧ algebraic_MlpDzIdeal_RefMlpDzIdeal (hMlpDzIdeal := hMlpDzIdeal) (hRefMlpDzIdeal := hRefMlpDzIdeal)
    ∧ preserves_GradW1_GradW1Ideal
    ∧ algebraic_GradW1Ideal_RefGradW1Ideal (hGradW1Ideal := hGradW1Ideal) (hRefGradW1Ideal := hRefGradW1Ideal)
    ∧ preserves_MlpDn_MlpDnIdeal
    ∧ algebraic_MlpDnIdeal_RefMlpDnIdeal (hMlpDnIdeal := hMlpDnIdeal) (hRefMlpDnIdeal := hRefMlpDnIdeal)
    ∧ preserves_Mixed_MixedIdeal
    ∧ algebraic_MixedIdeal_RefMixedIdeal (hMixedIdeal := hMixedIdeal) (hRefMixedIdeal := hRefMixedIdeal)
    ∧ preserves_GradWout_GradWoutIdeal
    ∧ algebraic_GradWoutIdeal_RefGradWoutIdeal (hGradWoutIdeal := hGradWoutIdeal) (hRefGradWoutIdeal := hRefGradWoutIdeal)
    ∧ preserves_InGrad_InGradIdeal
    ∧ algebraic_InGradIdeal_RefInGradIdeal (hInGradIdeal := hInGradIdeal) (hRefInGradIdeal := hRefInGradIdeal)
    ∧ preserves_OutProj_OutProjIdeal
    ∧ algebraic_OutProjIdeal_RefOutProjIdeal (hOutProjIdeal := hOutProjIdeal) (hRefOutProjIdeal := hRefOutProjIdeal)
    ∧ preserves_MlpDown_MlpDownIdeal
    ∧ algebraic_MlpDownIdeal_RefMlpDownIdeal (hMlpDownIdeal := hMlpDownIdeal) (hRefMlpDownIdeal := hRefMlpDownIdeal)
    ∧ preserves_NormBwd_NormBwdIdeal
    ∧ algebraic_NormBwdIdeal_RefNormBwdIdeal (hNormBwdIdeal := hNormBwdIdeal) (hRefNormBwdIdeal := hRefNormBwdIdeal)
    ∧ preserves_AdamW_AdamWIdeal
    ∧ algebraic_AdamWIdeal_RefAdamWIdeal (hAdamWIdeal := hAdamWIdeal) (hRefAdamWIdeal := hRefAdamWIdeal)
    ∧ preserves_AdamIn_AdamInIdeal
    ∧ algebraic_AdamInIdeal_RefAdamInIdeal (hAdamInIdeal := hAdamInIdeal) (hRefAdamInIdeal := hRefAdamInIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_InProj_InProjIdeal
    ∧ algebraic_InProjIdeal_RefInProjIdeal (hInProjIdeal := hInProjIdeal) (hRefInProjIdeal := hRefInProjIdeal)
    ∧ preserves_MlpUpFirst_MlpUpFirstIdeal
    ∧ algebraic_MlpUpFirstIdeal_RefMlpUpFirstIdeal_on_first_half (hMlpUpFirstIdeal := hMlpUpFirstIdeal) (hRefMlpUpFirstIdeal := hRefMlpUpFirstIdeal) (hOn_first_half := hOn_first_half)
    ∧ preserves_MlpUp_MlpUpIdeal
    ∧ algebraic_MlpUpIdeal_RefMlpUpIdeal (hMlpUpIdeal := hMlpUpIdeal) (hRefMlpUpIdeal := hRefMlpUpIdeal)
-- ==== On_first_half.lean ====
abbrev S2176x2048 : Shape := ⟨2, ![2176, 2048]⟩
abbrev S2048x8192 : Shape := ⟨2, ![2048, 8192]⟩
abbrev S2176x8192 : Shape := ⟨2, ![2176, 8192]⟩
abbrev S_ : Shape := ⟨0, ![]⟩

class Facts : Prop where
  bcast_S_S2176x8192 : S_.BroadcastsInDim S2176x8192 (![] : Fin 0 → Fin S2176x8192.rank)

variable [Facts]

def fn {F : FTy → Type} [FloatOps F] (main_arg0 : FVec F S2176x2048 .bf16) (main_arg1 : FVec F S2048x8192 .bf16) : IVec S2176x8192 1 × IVec S2176x8192 1 :=
  let main_v0 : IVec S2176x8192 32 := iotaInDim S2176x8192 32 1
  let main_c : IVec S_ 32 := constantI S_ 32 4096#32
  let main_v1 : IVec S2176x8192 32 := broadcastInDim S2176x8192 ![] bcast_S_S2176x8192 main_c
  let main_v2 : IVec S2176x8192 1 := cmpi .slt main_v0 main_v1
  (main_v2, main_v2)
-- ==== GradW2.lean ====
abbrev S2176x8192 : Shape := ⟨2, ![2176, 8192]⟩
abbrev S2176x2048 : Shape := ⟨2, ![2176, 2048]⟩
abbrev S_ : Shape := ⟨0, ![]⟩
abbrev S8192x2048 : Shape := ⟨2, ![8192, 2048]⟩
abbrev S2176x1024 : Shape := ⟨2, ![2176, 1024]⟩
abbrev S1024x2048 : Shape := ⟨2, ![1024, 2048]⟩

abbrev nBuf : Space → Nat
  | .hbm => 8
  | .vmem => 5
  | .smem => 0
  | _ => 0

abbrev bufTy : (tb : Table) → Fin (tcTables nBuf tb) → BufTy
  | .hbm, ⟨0, _⟩ => ⟨S2176x8192, .f32⟩
  | .hbm, ⟨1, _⟩ => ⟨S2176x2048, .bf16⟩
  | .hbm, ⟨2, _⟩ => ⟨S_, .f32⟩
  | .hbm, ⟨3, _⟩ => ⟨S2176x8192, .f32⟩
  | .hbm, ⟨4, _⟩ => ⟨S2176x8192, .f32⟩
  | .hbm, ⟨5, _⟩ => ⟨S2176x8192, .f32⟩
  | .hbm, ⟨6, _⟩ => ⟨S2176x8192, .bf16⟩
  | .hbm, ⟨7, _⟩ => ⟨S8192x2048, .f32⟩
  | .local _ .vmem, ⟨0, _⟩ => ⟨S2176x1024, .bf16⟩
  | .local _ .vmem, ⟨1, _⟩ => ⟨S2176x1024, .bf16⟩
  | .local _ .vmem, ⟨2, _⟩ => ⟨S2176x2048, .bf16⟩
  | .local _ .vmem, ⟨3, _⟩ => ⟨S1024x2048, .f32⟩
  | .local _ .vmem, ⟨4, _⟩ => ⟨S1024x2048, .f32⟩
  | _, _ => ⟨S2176x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefGradW2Ideal.lean ====
abbrev S2176x8192 : Shape := ⟨2, ![2176, 8192]⟩
abbrev S2176x2048 : Shape := ⟨2, ![2176, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S2176x8192, .f32⟩
  | .hbm, ⟨1, _⟩ => ⟨S2176x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2176x8192, .f32⟩
  | .hbm, ⟨6, _⟩ => ⟨S2176x8192, .f32⟩
  | .hbm, ⟨7, _⟩ => ⟨S2176x8192, .f32⟩
  | .hbm, ⟨8, _⟩ => ⟨S2176x2048, .f32⟩
  | .hbm, ⟨9, _⟩ => ⟨S2176x2048, .f32⟩
  | .hbm, ⟨10, _⟩ => ⟨S2048x8192, .f32⟩
  | .hbm, ⟨11, _⟩ => ⟨S8192x2048, .f32⟩
  | _, _ => ⟨S2176x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== MlpDz.lean ====
abbrev S2176x8192 : Shape := ⟨2, ![2176, 8192]⟩
abbrev S8192x2048 : Shape := ⟨2, ![8192, 2048]⟩
abbrev S2176x2048 : Shape := ⟨2, ![2176, 2048]⟩
abbrev S_ : Shape := ⟨0, ![]⟩
abbrev S8x128 : Shape := ⟨2, ![8, 128]⟩
abbrev S1024x2048 : Shape := ⟨2, ![1024, 2048]⟩
abbrev S2176x1024 : Shape := ⟨2, ![2176, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2176x8192, .f32⟩
  | .hbm, ⟨1, _⟩ => ⟨S8192x2048, .bf16⟩
  | .hbm, ⟨2, _⟩ => ⟨S2176x2048, .bf16⟩
  | .hbm, ⟨3, _⟩ => ⟨S_, .f32⟩
  | .hbm, ⟨4, _⟩ => ⟨S2176x8192, .f32⟩
  | .hbm, ⟨5, _⟩ => ⟨S2176x8192, .f32⟩
  | .hbm, ⟨6, _⟩ => ⟨S2176x8192, .bf16⟩
  | .hbm, ⟨7, _⟩ => ⟨S_, .f32⟩
  | .hbm, ⟨8, _⟩ => ⟨S8x128, .f32⟩
  | .hbm, ⟨9, _⟩ => ⟨S2176x8192, .bf16⟩
  | .local _ .vmem, ⟨0, _⟩ => ⟨S2176x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2176x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .bf16⟩
  | _, _ => ⟨S2176x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefMlpDzIdeal.lean ====
abbrev S2176x8192 : Shape := ⟨2, ![2176, 8192]⟩
abbrev S8192x2048 : Shape := ⟨2, ![8192, 2048]⟩
abbrev S2176x2048 : Shape := ⟨2, ![2176, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2176x8192, .f32⟩
  | .hbm, ⟨1, _⟩ => ⟨S8192x2048, .bf16⟩
  | .hbm, ⟨2, _⟩ => ⟨S2176x2048, .bf16⟩
  | .hbm, ⟨3, _⟩ => ⟨S_, .f32⟩
  | .hbm, ⟨4, _⟩ => ⟨S2176x8192, .f32⟩
  | .hbm, ⟨5, _⟩ => ⟨S2176x8192, .f32⟩
  | .hbm, ⟨6, _⟩ => ⟨S_, .f32⟩
  | .hbm, ⟨7, _⟩ => ⟨S2176x8192, .f32⟩
  | .hbm, ⟨8, _⟩ => ⟨S2176x8192, .i1⟩
  | .hbm, ⟨9, _⟩ => ⟨S_, .f32⟩
  | .hbm, ⟨10, _⟩ => ⟨S2176x8192, .f32⟩
  | .hbm, ⟨11, _⟩ => ⟨S2176x8192, .f32⟩
  | .hbm, ⟨12, _⟩ => ⟨S_, .f32⟩
  | .hbm, ⟨13, _⟩ => ⟨S2176x8192, .f32⟩
  | .hbm, ⟨14, _⟩ => ⟨S2176x8192, .f32⟩
  | .hbm, ⟨15, _⟩ => ⟨S8192x2048, .f32⟩
  | .hbm, ⟨16, _⟩ => ⟨S2176x2048, .f32⟩
  | .hbm, ⟨17, _⟩ => ⟨S2176x2048, .f32⟩
  | .hbm, ⟨18, _⟩ => ⟨S2176x8192, .f32⟩
  | .hbm, ⟨19, _⟩ => ⟨S2176x8192, .f32⟩
  | .hbm, ⟨20, _⟩ => ⟨S_, .f32⟩
  | .hbm, ⟨21, _⟩ => ⟨S2176x8192, .f32⟩
  | .hbm, ⟨22, _⟩ => ⟨S2176x8192, .f32⟩
  | .hbm, ⟨23, _⟩ => ⟨S2176x8192, .bf16⟩
  | _, _ => ⟨S2176x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== GradW1.lean ====
abbrev S2176x2048 : Shape := ⟨2, ![2176, 2048]⟩
abbrev S2176x8192 : Shape := ⟨2, ![2176, 8192]⟩
abbrev S_ : Shape := ⟨0, ![]⟩
abbrev S8x128 : Shape := ⟨2, ![8, 128]⟩
abbrev S4x2048x2048 : Shape := ⟨3, ![4, 2048, 2048]⟩
abbrev S2176x1024 : Shape := ⟨2, ![2176, 1024]⟩
abbrev S1x2048x1024 : Shape := ⟨3, ![1, 2048, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2176x8192, .bf16⟩
  | .hbm, ⟨2, _⟩ => ⟨S_, .f32⟩
  | .hbm, ⟨3, _⟩ => ⟨S8x128, .f32⟩
  | .hbm, ⟨4, _⟩ => ⟨S4x2048x2048, .f32⟩
  | .local _ .vmem, ⟨0, _⟩ => ⟨S2176x2048, .bf16⟩
  | .local _ .vmem, ⟨1, _⟩ => ⟨S2176x1024, .bf16⟩
  | .local _ .vmem, ⟨2, _⟩ => ⟨S2176x1024, .bf16⟩
  | .local _ .vmem, ⟨3, _⟩ => ⟨S1x2048x1024, .f32⟩
  | .local _ .vmem, ⟨4, _⟩ => ⟨S1x2048x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGradW1Ideal.lean ====
abbrev S2176x2048 : Shape := ⟨2, ![2176, 2048]⟩
abbrev S2176x8192 : Shape := ⟨2, ![2176, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x8192, .bf16⟩
  | .hbm, ⟨2, _⟩ => ⟨S_, .f32⟩
  | .hbm, ⟨3, _⟩ => ⟨S2048x8192, .f32⟩
  | .hbm, ⟨4, _⟩ => ⟨S2176x2048, .f32⟩
  | .hbm, ⟨5, _⟩ => ⟨S2176x8192, .f32⟩
  | .hbm, ⟨6, _⟩ => ⟨S2176x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlpDn.lean ====
abbrev S2048x8192 : Shape := ⟨2, ![2048, 8192]⟩
abbrev S2176x8192 : Shape := ⟨2, ![2176, 8192]⟩
abbrev S2048x4x2048 : Shape := ⟨3, ![2048, 4, 2048]⟩
abbrev S4x2048x2048 : Shape := ⟨3, ![4, 2048, 2048]⟩
abbrev S_ : Shape := ⟨0, ![]⟩
abbrev S8x128 : Shape := ⟨2, ![8, 128]⟩
abbrev S2176x2048 : Shape := ⟨2, ![2176, 2048]⟩
abbrev S2176x1024 : Shape := ⟨2, ![2176, 1024]⟩
abbrev S1x2048x1024 : Shape := ⟨3, ![1, 2048, 1024]⟩
abbrev S2048x1024 : Shape := ⟨2, ![2048, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2176x8192, .bf16⟩
  | .hbm, ⟨2, _⟩ => ⟨S2048x4x2048, .bf16⟩
  | .hbm, ⟨3, _⟩ => ⟨S4x2048x2048, .bf16⟩
  | .hbm, ⟨4, _⟩ => ⟨S_, .f32⟩
  | .hbm, ⟨5, _⟩ => ⟨S8x128, .f32⟩
  | .hbm, ⟨6, _⟩ => ⟨S2176x2048, .f32⟩
  | .local _ .vmem, ⟨0, _⟩ => ⟨S2176x1024, .bf16⟩
  | .local _ .vmem, ⟨1, _⟩ => ⟨S2176x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2176x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RefMlpDnIdeal.lean ====
abbrev S2048x8192 : Shape := ⟨2, ![2048, 8192]⟩
abbrev S2176x8192 : Shape := ⟨2, ![2176, 8192]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2176x8192, .bf16⟩
  | .hbm, ⟨2, _⟩ => ⟨S_, .f32⟩
  | .hbm, ⟨3, _⟩ => ⟨S2176x2048, .f32⟩
  | .hbm, ⟨4, _⟩ => ⟨S2048x8192, .f32⟩
  | .hbm, ⟨5, _⟩ => ⟨S2176x8192, .f32⟩
  | .hbm, ⟨6, _⟩ => ⟨S2176x8192, .f32⟩
  | .hbm, ⟨7, _⟩ => ⟨S2176x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mixed.lean ====
abbrev S2048x2048 : Shape := ⟨2, ![2048, 2048]⟩
abbrev S2176x2048 : Shape := ⟨2, ![2176, 2048]⟩
abbrev S512x2048 : Shape := ⟨2, ![512, 2048]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2176x2048, .bf16⟩
  | .hbm, ⟨2, _⟩ => ⟨S2176x2048, .f32⟩
  | .local _ .vmem, ⟨0, _⟩ => ⟨S2176x2048, .bf16⟩
  | .local _ .vmem, ⟨1, _⟩ => ⟨S512x2048, .bf16⟩
  | .local _ .vmem, ⟨2, _⟩ => ⟨S512x2048, .bf16⟩
  | .local _ .vmem, ⟨3, _⟩ => ⟨S2176x512, .f32⟩
  | .local _ .vmem, ⟨4, _⟩ => ⟨S2176x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefMixedIdeal.lean ====
abbrev S2048x2048 : Shape := ⟨2, ![2048, 2048]⟩
abbrev S2176x2048 : Shape := ⟨2, ![2176, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2176x2048, .bf16⟩
  | .hbm, ⟨2, _⟩ => ⟨S_, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | .hbm, ⟨7, _⟩ => ⟨S2176x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradWout.lean ====
abbrev S2176x1024 : Shape := ⟨2, ![2176, 1024]⟩
abbrev S2176x2048 : Shape := ⟨2, ![2176, 2048]⟩
abbrev S4x512x2048 : Shape := ⟨3, ![4, 512, 2048]⟩
abbrev S2176x512 : Shape := ⟨2, ![2176, 512]⟩
abbrev S1x512x2048 : Shape := ⟨3, ![1, 512, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x2048, .bf16⟩
  | .hbm, ⟨3, _⟩ => ⟨S4x512x2048, .f32⟩
  | .local _ .vmem, ⟨0, _⟩ => ⟨S2176x512, .bf16⟩
  | .local _ .vmem, ⟨1, _⟩ => ⟨S2176x512, .bf16⟩
  | .local _ .vmem, ⟨2, _⟩ => ⟨S2176x512, .bf16⟩
  | .local _ .vmem, ⟨3, _⟩ => ⟨S2176x512, .bf16⟩
  | .local _ .vmem, ⟨4, _⟩ => ⟨S2176x2048, .bf16⟩
  | .local _ .vmem, ⟨5, _⟩ => ⟨S1x512x2048, .f32⟩
  | .local _ .vmem, ⟨6, _⟩ => ⟨S1x512x2048, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefGradWoutIdeal.lean ====
abbrev S2176x1024 : Shape := ⟨2, ![2176, 1024]⟩
abbrev S2176x2048 : Shape := ⟨2, ![2176, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x2048, .bf16⟩
  | .hbm, ⟨3, _⟩ => ⟨S2176x2048, .bf16⟩
  | .hbm, ⟨4, _⟩ => ⟨S2176x2048, .f32⟩
  | .hbm, ⟨5, _⟩ => ⟨S_, .f32⟩
  | .hbm, ⟨6, _⟩ => ⟨S2048x2048, .f32⟩
  | .hbm, ⟨7, _⟩ => ⟨S2176x2048, .f32⟩
  | .hbm, ⟨8, _⟩ => ⟨S2176x2048, .f32⟩
  | .hbm, ⟨9, _⟩ => ⟨S2048x2048, .f32⟩
  | .hbm, ⟨10, _⟩ => ⟨S2048x2048, .f32⟩
  | .hbm, ⟨11, _⟩ => ⟨S4x512x2048, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InGrad.lean ====
abbrev S2048x4112 : Shape := ⟨2, ![2048, 4112]⟩
abbrev S2176x512 : Shape := ⟨2, ![2176, 512]⟩
abbrev S2176x1024 : Shape := ⟨2, ![2176, 1024]⟩
abbrev S2176x16 : Shape := ⟨2, ![2176, 16]⟩
abbrev S2048x1028 : Shape := ⟨2, ![2048, 1028]⟩
abbrev S_ : Shape := ⟨0, ![]⟩
abbrev S2048x124 : Shape := ⟨2, ![2048, 124]⟩
abbrev S2048x1152 : Shape := ⟨2, ![2048, 1152]⟩
abbrev S2048x4 : Shape := ⟨2, ![2048, 4]⟩
abbrev S2048x120 : Shape := ⟨2, ![2048, 120]⟩
abbrev S2048x8 : Shape := ⟨2, ![2048, 8]⟩
abbrev S2048x116 : Shape := ⟨2, ![2048, 116]⟩
abbrev S2048x1024 : Shape := ⟨2, ![2048, 1024]⟩
abbrev S2048x12 : Shape := ⟨2, ![2048, 12]⟩
abbrev S2048x112 : Shape := ⟨2, ![2048, 112]⟩
abbrev S2176x128 : Shape := ⟨2, ![2176, 128]⟩
abbrev S1x2048x1152 : Shape := ⟨3, ![1, 2048, 1152]⟩
abbrev S4x2048x1152 : Shape := ⟨3, ![4, 2048, 1152]⟩
abbrev S8x128 : Shape := ⟨2, ![8, 128]⟩
abbrev S2176x2048 : Shape := ⟨2, ![2176, 2048]⟩
abbrev S4x512x1152 : Shape := ⟨3, ![4, 512, 1152]⟩
abbrev S1x512x512 : Shape := ⟨3, ![1, 512, 512]⟩
abbrev S512x512 : Shape := ⟨2, ![512, 512]⟩
abbrev S1x512x128 : Shape := ⟨3, ![1, 512, 128]⟩
abbrev S512x128 : Shape := ⟨2, ![512, 128]⟩
abbrev S1x512x1024 : Shape := ⟨3, ![1, 512, 1024]⟩
abbrev S512x1024 : Shape := ⟨2, ![512, 1024]⟩

abbrev nBuf : Space → Nat
  | .hbm => 41
  | .vmem => 10
  | .smem => 0
  | _ => 0

abbrev bufTy : (tb : Table) → Fin (tcTables nBuf tb) → BufTy
  | .hbm, ⟨0, _⟩ => ⟨S2048x4112, .bf16⟩
  | .hbm, ⟨1, _⟩ => ⟨S2176x512, .bf16⟩
  | .hbm, ⟨2, _⟩ => ⟨S2176x512, .bf16⟩
  | .hbm, ⟨3, _⟩ => ⟨S2176x1024, .bf16⟩
  | .hbm, ⟨4, _⟩ => ⟨S2176x1024, .bf16⟩
  | .hbm, ⟨5, _⟩ => ⟨S2176x16, .bf16⟩
  | .hbm, ⟨6, _⟩ => ⟨S2176x1024, .bf16⟩
  | .hbm, ⟨7, _⟩ => ⟨S2048x1028, .bf16⟩
  | .hbm, ⟨8, _⟩ => ⟨S_, .bf16⟩
  | .hbm, ⟨9, _⟩ => ⟨S2048x124, .bf16⟩
  | .hbm, ⟨10, _⟩ => ⟨S2048x1152, .bf16⟩
  | .hbm, ⟨11, _⟩ => ⟨S_, .bf16⟩
  | .hbm, ⟨12, _⟩ => ⟨S2048x4, .bf16⟩
  | .hbm, ⟨13, _⟩ => ⟨S2048x1028, .bf16⟩
  | .hbm, ⟨14, _⟩ => ⟨S_, .bf16⟩
  | .hbm, ⟨15, _⟩ => ⟨S2048x120, .bf16⟩
  | .hbm, ⟨16, _⟩ => ⟨S2048x1152, .bf16⟩
  | .hbm, ⟨17, _⟩ => ⟨S_, .bf16⟩
  | .hbm, ⟨18, _⟩ => ⟨S2048x8, .bf16⟩
  | .hbm, ⟨19, _⟩ => ⟨S2048x1028, .bf16⟩
  | .hbm, ⟨20, _⟩ => ⟨S_, .bf16⟩
  | .hbm, ⟨21, _⟩ => ⟨S2048x116, .bf16⟩
  | .hbm, ⟨22, _⟩ => ⟨S2048x1152, .bf16⟩
  | .hbm, ⟨23, _⟩ => ⟨S2048x1024, .bf16⟩
  | .hbm, ⟨24, _⟩ => ⟨S_, .bf16⟩
  | .hbm, ⟨25, _⟩ => ⟨S2048x12, .bf16⟩
  | .hbm, ⟨26, _⟩ => ⟨S2048x4, .bf16⟩
  | .hbm, ⟨27, _⟩ => ⟨S_, .bf16⟩
  | .hbm, ⟨28, _⟩ => ⟨S2048x112, .bf16⟩
  | .hbm, ⟨29, _⟩ => ⟨S2048x1152, .bf16⟩
  | .hbm, ⟨30, _⟩ => ⟨S_, .i32⟩
  | .hbm, ⟨31, _⟩ => ⟨S_, .bf16⟩
  | .hbm, ⟨32, _⟩ => ⟨S2176x128, .bf16⟩
  | .hbm, ⟨33, _⟩ => ⟨S1x2048x1152, .bf16⟩
  | .hbm, ⟨34, _⟩ => ⟨S1x2048x1152, .bf16⟩
  | .hbm, ⟨35, _⟩ => ⟨S1x2048x1152, .bf16⟩
  | .hbm, ⟨36, _⟩ => ⟨S1x2048x1152, .bf16⟩
  | .hbm, ⟨37, _⟩ => ⟨S4x2048x1152, .bf16⟩
  | .hbm, ⟨38, _⟩ => ⟨S_, .f32⟩
  | .hbm, ⟨39, _⟩ => ⟨S8x128, .f32⟩
  | .hbm, ⟨40, _⟩ => ⟨S2176x2048, .f32⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S2176x1024, .bf16⟩
  | .local _ .vmem, ⟨4, _⟩ => ⟨S2176x128, .bf16⟩
  | .local _ .vmem, ⟨5, _⟩ => ⟨S2176x1024, .bf16⟩
  | .local _ .vmem, ⟨6, _⟩ => ⟨S4x512x1152, .bf16⟩
  | .local _ .vmem, ⟨7, _⟩ => ⟨S4x512x1152, .bf16⟩
  | .local _ .vmem, ⟨8, _⟩ => ⟨S2176x512, .f32⟩
  | .local _ .vmem, ⟨9, _⟩ => ⟨S2176x512, .f32⟩
  | _, _ => ⟨S2048x4112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2176x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2176x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefInGradIdeal.lean ====
abbrev S2048x4112 : Shape := ⟨2, ![2048, 4112]⟩
abbrev S2176x512 : Shape := ⟨2, ![2176, 512]⟩
abbrev S2176x1024 : Shape := ⟨2, ![2176, 1024]⟩
abbrev S2176x16 : Shape := ⟨2, ![2176, 16]⟩
abbrev S_ : Shape := ⟨0, ![]⟩
abbrev S2176x2048 : Shape := ⟨2, ![2176, 2048]⟩
abbrev S2176x4112 : Shape := ⟨2, ![2176, 4112]⟩

abbrev nBuf : Space → Nat
  | .hbm => 25
  | .vmem => 0
  | .smem => 0
  | _ => 0

abbrev bufTy : (tb : Table) → Fin (tcTables nBuf tb) → BufTy
  | .hbm, ⟨0, _⟩ => ⟨S2048x4112, .bf16⟩
  | .hbm, ⟨1, _⟩ => ⟨S2176x512, .bf16⟩
  | .hbm, ⟨2, _⟩ => ⟨S2176x512, .bf16⟩
  | .hbm, ⟨3, _⟩ => ⟨S2176x1024, .bf16⟩
  | .hbm, ⟨4, _⟩ => ⟨S2176x1024, .bf16⟩
  | .hbm, ⟨5, _⟩ => ⟨S2176x16, .bf16⟩
  | .hbm, ⟨6, _⟩ => ⟨S2176x1024, .bf16⟩
  | .hbm, ⟨7, _⟩ => ⟨S2176x512, .f32⟩
  | .hbm, ⟨8, _⟩ => ⟨S2176x512, .f32⟩
  | .hbm, ⟨9, _⟩ => ⟨S2176x1024, .f32⟩
  | .hbm, ⟨10, _⟩ => ⟨S2176x1024, .f32⟩
  | .hbm, ⟨11, _⟩ => ⟨S2176x16, .f32⟩
  | .hbm, ⟨12, _⟩ => ⟨S2176x1024, .f32⟩
  | .hbm, ⟨13, _⟩ => ⟨S_, .f32⟩
  | .hbm, ⟨14, _⟩ => ⟨S2176x2048, .f32⟩
  | .hbm, ⟨15, _⟩ => ⟨S2048x4112, .f32⟩
  | .hbm, ⟨16, _⟩ => ⟨S2176x4112, .f32⟩
  | .hbm, ⟨17, _⟩ => ⟨S2176x512, .f32⟩
  | .hbm, ⟨18, _⟩ => ⟨S2176x512, .f32⟩
  | .hbm, ⟨19, _⟩ => ⟨S2176x1024, .f32⟩
  | .hbm, ⟨20, _⟩ => ⟨S2176x1024, .f32⟩
  | .hbm, ⟨21, _⟩ => ⟨S2176x16, .f32⟩
  | .hbm, ⟨22, _⟩ => ⟨S2176x1024, .f32⟩
  | .hbm, ⟨23, _⟩ => ⟨S2176x4112, .f32⟩
  | .hbm, ⟨24, _⟩ => ⟨S2176x2048, .f32⟩
  | _, _ => ⟨S2048x4112, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== OutProj.lean ====
abbrev S2176x1024 : Shape := ⟨2, ![2176, 1024]⟩
abbrev S2048x2048 : Shape := ⟨2, ![2048, 2048]⟩
abbrev S2176x2048 : Shape := ⟨2, ![2176, 2048]⟩
abbrev S_ : Shape := ⟨0, ![]⟩
abbrev S8x128 : Shape := ⟨2, ![8, 128]⟩
abbrev S2048x512 : Shape := ⟨2, ![2048, 512]⟩
abbrev S2176x512 : Shape := ⟨2, ![2176, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2048x2048, .bf16⟩
  | .hbm, ⟨3, _⟩ => ⟨S2176x2048, .f32⟩
  | .hbm, ⟨4, _⟩ => ⟨S_, .f32⟩
  | .hbm, ⟨5, _⟩ => ⟨S8x128, .f32⟩
  | .hbm, ⟨6, _⟩ => ⟨S2176x2048, .f32⟩
  | .local _ .vmem, ⟨0, _⟩ => ⟨S2176x1024, .bf16⟩
  | .local _ .vmem, ⟨1, _⟩ => ⟨S2176x1024, .bf16⟩
  | .local _ .vmem, ⟨2, _⟩ => ⟨S2048x512, .bf16⟩
  | .local _ .vmem, ⟨3, _⟩ => ⟨S2048x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | .local _ .vmem, ⟨7, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefOutProjIdeal.lean ====
abbrev S2176x1024 : Shape := ⟨2, ![2176, 1024]⟩
abbrev S2048x2048 : Shape := ⟨2, ![2048, 2048]⟩
abbrev S2176x2048 : Shape := ⟨2, ![2176, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2048x2048, .bf16⟩
  | .hbm, ⟨3, _⟩ => ⟨S2176x2048, .f32⟩
  | .hbm, ⟨4, _⟩ => ⟨S2176x2048, .bf16⟩
  | .hbm, ⟨5, _⟩ => ⟨S2176x2048, .f32⟩
  | .hbm, ⟨6, _⟩ => ⟨S2048x2048, .f32⟩
  | .hbm, ⟨7, _⟩ => ⟨S2176x2048, .f32⟩
  | .hbm, ⟨8, _⟩ => ⟨S2176x2048, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDown.lean ====
abbrev S2176x8192 : Shape := ⟨2, ![2176, 8192]⟩
abbrev S8192x2048 : Shape := ⟨2, ![8192, 2048]⟩
abbrev S2176x2048 : Shape := ⟨2, ![2176, 2048]⟩
abbrev S2176x1024 : Shape := ⟨2, ![2176, 1024]⟩
abbrev S1024x2048 : Shape := ⟨2, ![1024, 2048]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S2176x8192, .bf16⟩
  | .hbm, ⟨1, _⟩ => ⟨S8192x2048, .bf16⟩
  | .hbm, ⟨2, _⟩ => ⟨S2176x2048, .f32⟩
  | .hbm, ⟨3, _⟩ => ⟨S2176x2048, .f32⟩
  | .local _ .vmem, ⟨0, _⟩ => ⟨S2176x1024, .bf16⟩
  | .local _ .vmem, ⟨1, _⟩ => ⟨S2176x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2176x2048, .f32⟩
  | _, _ => ⟨S2176x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RefMlpDownIdeal.lean ====
abbrev S2176x8192 : Shape := ⟨2, ![2176, 8192]⟩
abbrev S8192x2048 : Shape := ⟨2, ![8192, 2048]⟩
abbrev S2176x2048 : Shape := ⟨2, ![2176, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x8192, .bf16⟩
  | .hbm, ⟨1, _⟩ => ⟨S8192x2048, .bf16⟩
  | .hbm, ⟨2, _⟩ => ⟨S2176x2048, .f32⟩
  | .hbm, ⟨3, _⟩ => ⟨S2176x8192, .f32⟩
  | .hbm, ⟨4, _⟩ => ⟨S8192x2048, .f32⟩
  | .hbm, ⟨5, _⟩ => ⟨S2176x2048, .f32⟩
  | .hbm, ⟨6, _⟩ => ⟨S2176x2048, .f32⟩
  | _, _ => ⟨S2176x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormBwd.lean ====
abbrev S2176x2048 : Shape := ⟨2, ![2176, 2048]⟩
abbrev S1x2048 : Shape := ⟨2, ![1, 2048]⟩
abbrev S_ : Shape := ⟨0, ![]⟩
abbrev S8x128 : Shape := ⟨2, ![8, 128]⟩
abbrev S272x2048 : Shape := ⟨2, ![272, 2048]⟩
abbrev S272 : Shape := ⟨1, ![272]⟩
abbrev S272x1 : Shape := ⟨2, ![272, 1]⟩
abbrev S2048 : Shape := ⟨1, ![2048]⟩

abbrev nBuf : Space → Nat
  | .hbm => 8
  | .vmem => 10
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .bf16⟩
  | .hbm, ⟨3, _⟩ => ⟨S1x2048, .f32⟩
  | .hbm, ⟨4, _⟩ => ⟨S_, .f32⟩
  | .hbm, ⟨5, _⟩ => ⟨S8x128, .f32⟩
  | .hbm, ⟨6, _⟩ => ⟨S2176x2048, .bf16⟩
  | .hbm, ⟨7, _⟩ => ⟨S1x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .bf16⟩
  | .local _ .vmem, ⟨5, _⟩ => ⟨S272x2048, .bf16⟩
  | .local _ .vmem, ⟨6, _⟩ => ⟨S1x2048, .f32⟩
  | .local _ .vmem, ⟨7, _⟩ => ⟨S272x2048, .bf16⟩
  | .local _ .vmem, ⟨8, _⟩ => ⟨S272x2048, .bf16⟩
  | .local _ .vmem, ⟨9, _⟩ => ⟨S1x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefNormBwdIdeal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .bf16⟩
  | .hbm, ⟨3, _⟩ => ⟨S1x2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2176x2048, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x2048, .f32⟩
  | .hbm, ⟨34, _⟩ => ⟨S2176x2048, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176, .f32⟩
  | .hbm, ⟨41, _⟩ => ⟨S2176x2048, .f32⟩
  | .hbm, ⟨42, _⟩ => ⟨S2176x2048, .f32⟩
  | .hbm, ⟨43, _⟩ => ⟨S2176x2048, .f32⟩
  | .hbm, ⟨44, _⟩ => ⟨S2176x2048, .f32⟩
  | .hbm, ⟨45, _⟩ => ⟨S2176x2048, .f32⟩
  | .hbm, ⟨46, _⟩ => ⟨S2176x2048, .f32⟩
  | .hbm, ⟨47, _⟩ => ⟨S2176x2048, .f32⟩
  | .hbm, ⟨48, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== AdamW.lean ====
abbrev S2048x2048 : Shape := ⟨2, ![2048, 2048]⟩
abbrev S_ : Shape := ⟨0, ![]⟩
abbrev S8x128 : Shape := ⟨2, ![8, 128]⟩
abbrev S256x2048 : Shape := ⟨2, ![256, 2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S8x128, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWIdeal.lean ====
abbrev S2048x2048 : Shape := ⟨2, ![2048, 2048]⟩
abbrev S_ : Shape := ⟨0, ![]⟩
abbrev S8x128 : Shape := ⟨2, ![8, 128]⟩
abbrev S256x2048 : Shape := ⟨2, ![256, 2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S8x128, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamWIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1028 : Shape := ⟨2, ![2048, 1028]⟩
abbrev S_ : Shape := ⟨0, ![]⟩
abbrev S8x128 : Shape := ⟨2, ![8, 128]⟩
abbrev S256x1028 : Shape := ⟨2, ![256, 1028]⟩

abbrev nBuf : Space → Nat
  | .hbm => 10
  | .vmem => 16
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S_, .f32⟩
  | .hbm, ⟨5, _⟩ => ⟨S8x128, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | .local _ .vmem, ⟨14, _⟩ => ⟨S256x1028, .f32⟩
  | .local _ .vmem, ⟨15, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x1028 : Shape := ⟨2, ![2048, 1028]⟩
abbrev S_ : Shape := ⟨0, ![]⟩
abbrev S8x128 : Shape := ⟨2, ![8, 128]⟩
abbrev S256x1028 : Shape := ⟨2, ![256, 1028]⟩

abbrev nBuf : Space → Nat
  | .hbm => 10
  | .vmem => 16
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S_, .f32⟩
  | .hbm, ⟨5, _⟩ => ⟨S8x128, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | .local _ .vmem, ⟨14, _⟩ => ⟨S256x1028, .f32⟩
  | .local _ .vmem, ⟨15, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamInIdeal.lean ====
abbrev S2048x1028 : Shape := ⟨2, ![2048, 1028]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S_, .f32⟩
  | .hbm, ⟨5, _⟩ => ⟨S2048x1028, .f32⟩
  | .hbm, ⟨6, _⟩ => ⟨S2048x1028, .f32⟩
  | .hbm, ⟨7, _⟩ => ⟨S_, .f32⟩
  | .hbm, ⟨8, _⟩ => ⟨S2048x1028, .f32⟩
  | .hbm, ⟨9, _⟩ => ⟨S2048x1028, .f32⟩
  | .hbm, ⟨10, _⟩ => ⟨S2048x1028, .f32⟩
  | .hbm, ⟨11, _⟩ => ⟨S_, .f32⟩
  | .hbm, ⟨12, _⟩ => ⟨S2048x1028, .f32⟩
  | .hbm, ⟨13, _⟩ => ⟨S2048x1028, .f32⟩
  | .hbm, ⟨14, _⟩ => ⟨S2048x1028, .f32⟩
  | .hbm, ⟨15, _⟩ => ⟨S_, .f32⟩
  | .hbm, ⟨16, _⟩ => ⟨S2048x1028, .f32⟩
  | .hbm, ⟨17, _⟩ => ⟨S2048x1028, .f32⟩
  | .hbm, ⟨18, _⟩ => ⟨S2048x1028, .f32⟩
  | .hbm, ⟨19, _⟩ => ⟨S_, .f32⟩
  | .hbm, ⟨20, _⟩ => ⟨S2048x1028, .f32⟩
  | .hbm, ⟨21, _⟩ => ⟨S2048x1028, .f32⟩
  | .hbm, ⟨22, _⟩ => ⟨S_, .f32⟩
  | .hbm, ⟨23, _⟩ => ⟨S2048x1028, .f32⟩
  | .hbm, ⟨24, _⟩ => ⟨S2048x1028, .f32⟩
  | .hbm, ⟨25, _⟩ => ⟨S2048x1028, .f32⟩
  | .hbm, ⟨26, _⟩ => ⟨S_, .f32⟩
  | .hbm, ⟨27, _⟩ => ⟨S2048x1028, .f32⟩
  | .hbm, ⟨28, _⟩ => ⟨S2048x1028, .f32⟩
  | .hbm, ⟨29, _⟩ => ⟨S2048x1028, .f32⟩
  | .hbm, ⟨30, _⟩ => ⟨S_, .f32⟩
  | .hbm, ⟨31, _⟩ => ⟨S2048x1028, .f32⟩
  | .hbm, ⟨32, _⟩ => ⟨S2048x1028, .f32⟩
  | .hbm, ⟨33, _⟩ => ⟨S2048x1028, .f32⟩
  | .hbm, ⟨34, _⟩ => ⟨S_, .f32⟩
  | .hbm, ⟨35, _⟩ => ⟨S2048x1028, .f32⟩
  | .hbm, ⟨36, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S_ : Shape := ⟨0, ![]⟩
abbrev S8x128 : Shape := ⟨2, ![8, 128]⟩
abbrev S256x2048 : Shape := ⟨2, ![256, 2048]⟩

abbrev nBuf : Space → Nat
  | .hbm => 10
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S8x128, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamOutIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x512 : Shape := ⟨2, ![16, 512]⟩
abbrev S1x2048 : Shape := ⟨2, ![1, 2048]⟩
abbrev S16x128 : Shape := ⟨2, ![16, 128]⟩
abbrev S1x512 : Shape := ⟨2, ![1, 512]⟩
abbrev S1x256 : Shape := ⟨2, ![1, 256]⟩
abbrev S4x64x256 : Shape := ⟨3, ![4, 64, 256]⟩
abbrev S1x1024 : Shape := ⟨2, ![1, 1024]⟩
abbrev S_ : Shape := ⟨0, ![]⟩
abbrev S8x128 : Shape := ⟨2, ![8, 128]⟩

abbrev nBuf : Space → Nat
  | .hbm => 65
  | .vmem => 63
  | .smem => 0
  | _ => 0

abbrev bufTy : (tb : Table) → Fin (tcTables nBuf tb) → BufTy
  | .hbm, ⟨0, _⟩ => ⟨S16x512, .f32⟩
  | .hbm, ⟨1, _⟩ => ⟨S1x2048, .f32⟩
  | .hbm, ⟨2, _⟩ => ⟨S16x128, .f32⟩
  | .hbm, ⟨3, _⟩ => ⟨S1x512, .f32⟩
  | .hbm, ⟨4, _⟩ => ⟨S1x256, .f32⟩
  | .hbm, ⟨5, _⟩ => ⟨S4x64x256, .f32⟩
  | .hbm, ⟨6, _⟩ => ⟨S1x1024, .f32⟩
  | .hbm, ⟨7, _⟩ => ⟨S1x2048, .f32⟩
  | .hbm, ⟨8, _⟩ => ⟨S1x2048, .f32⟩
  | .hbm, ⟨9, _⟩ => ⟨S16x512, .f32⟩
  | .hbm, ⟨10, _⟩ => ⟨S1x2048, .f32⟩
  | .hbm, ⟨11, _⟩ => ⟨S16x128, .f32⟩
  | .hbm, ⟨12, _⟩ => ⟨S1x512, .f32⟩
  | .hbm, ⟨13, _⟩ => ⟨S1x256, .f32⟩
  | .hbm, ⟨14, _⟩ => ⟨S4x64x256, .f32⟩
  | .hbm, ⟨15, _⟩ => ⟨S1x1024, .f32⟩
  | .hbm, ⟨16, _⟩ => ⟨S1x2048, .f32⟩
  | .hbm, ⟨17, _⟩ => ⟨S1x2048, .f32⟩
  | .hbm, ⟨18, _⟩ => ⟨S16x512, .f32⟩
  | .hbm, ⟨19, _⟩ => ⟨S1x2048, .f32⟩
  | .hbm, ⟨20, _⟩ => ⟨S16x128, .f32⟩
  | .hbm, ⟨21, _⟩ => ⟨S1x512, .f32⟩
  | .hbm, ⟨22, _⟩ => ⟨S1x256, .f32⟩
  | .hbm, ⟨23, _⟩ => ⟨S4x64x256, .f32⟩
  | .hbm, ⟨24, _⟩ => ⟨S1x1024, .f32⟩
  | .hbm, ⟨25, _⟩ => ⟨S1x2048, .f32⟩
  | .hbm, ⟨26, _⟩ => ⟨S1x2048, .f32⟩
  | .hbm, ⟨27, _⟩ => ⟨S16x512, .f32⟩
  | .hbm, ⟨28, _⟩ => ⟨S1x2048, .f32⟩
  | .hbm, ⟨29, _⟩ => ⟨S16x128, .f32⟩
  | .hbm, ⟨30, _⟩ => ⟨S1x512, .f32⟩
  | .hbm, ⟨31, _⟩ => ⟨S1x256, .f32⟩
  | .hbm, ⟨32, _⟩ => ⟨S4x64x256, .f32⟩
  | .hbm, ⟨33, _⟩ => ⟨S1x1024, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S8x128, .f32⟩
  | .hbm, ⟨38, _⟩ => ⟨S16x512, .f32⟩
  | .hbm, ⟨39, _⟩ => ⟨S1x2048, .f32⟩
  | .hbm, ⟨40, _⟩ => ⟨S16x128, .f32⟩
  | .hbm, ⟨41, _⟩ => ⟨S1x512, .f32⟩
  | .hbm, ⟨42, _⟩ => ⟨S1x256, .f32⟩
  | .hbm, ⟨43, _⟩ => ⟨S4x64x256, .f32⟩
  | .hbm, ⟨44, _⟩ => ⟨S1x1024, .f32⟩
  | .hbm, ⟨45, _⟩ => ⟨S1x2048, .f32⟩
  | .hbm, ⟨46, _⟩ => ⟨S1x2048, .f32⟩
  | .hbm, ⟨47, _⟩ => ⟨S16x512, .f32⟩
  | .hbm, ⟨48, _⟩ => ⟨S1x2048, .f32⟩
  | .hbm, ⟨49, _⟩ => ⟨S16x128, .f32⟩
  | .hbm, ⟨50, _⟩ => ⟨S1x512, .f32⟩
  | .hbm, ⟨51, _⟩ => ⟨S1x256, .f32⟩
  | .hbm, ⟨52, _⟩ => ⟨S4x64x256, .f32⟩
  | .hbm, ⟨53, _⟩ => ⟨S1x1024, .f32⟩
  | .hbm, ⟨54, _⟩ => ⟨S1x2048, .f32⟩
  | .hbm, ⟨55, _⟩ => ⟨S1x2048, .f32⟩
  | .hbm, ⟨56, _⟩ => ⟨S16x512, .f32⟩
  | .hbm, ⟨57, _⟩ => ⟨S1x2048, .f32⟩
  | .hbm, ⟨58, _⟩ => ⟨S16x128, .f32⟩
  | .hbm, ⟨59, _⟩ => ⟨S1x512, .f32⟩
  | .hbm, ⟨60, _⟩ => ⟨S1x256, .f32⟩
  | .hbm, ⟨61, _⟩ => ⟨S4x64x256, .f32⟩
  | .hbm, ⟨62, _⟩ => ⟨S1x1024, .f32⟩
  | .hbm, ⟨63, _⟩ => ⟨S1x2048, .f32⟩
  | .hbm, ⟨64, _⟩ => ⟨S1x2048, .f32⟩
  | .local _ .vmem, ⟨0, _⟩ => ⟨S16x512, .f32⟩
  | .local _ .vmem, ⟨1, _⟩ => ⟨S1x2048, .f32⟩
  | .local _ .vmem, ⟨2, _⟩ => ⟨S16x128, .f32⟩
  | .local _ .vmem, ⟨3, _⟩ => ⟨S1x512, .f32⟩
  | .local _ .vmem, ⟨4, _⟩ => ⟨S1x256, .f32⟩
  | .local _ .vmem, ⟨5, _⟩ => ⟨S4x64x256, .f32⟩
  | .local _ .vmem, ⟨6, _⟩ => ⟨S1x1024, .f32⟩
  | .local _ .vmem, ⟨7, _⟩ => ⟨S1x2048, .f32⟩
  | .local _ .vmem, ⟨8, _⟩ => ⟨S1x2048, .f32⟩
  | .local _ .vmem, ⟨9, _⟩ => ⟨S16x512, .f32⟩
  | .local _ .vmem, ⟨10, _⟩ => ⟨S1x2048, .f32⟩
  | .local _ .vmem, ⟨11, _⟩ => ⟨S16x128, .f32⟩
  | .local _ .vmem, ⟨12, _⟩ => ⟨S1x512, .f32⟩
  | .local _ .vmem, ⟨13, _⟩ => ⟨S1x256, .f32⟩
  | .local _ .vmem, ⟨14, _⟩ => ⟨S4x64x256, .f32⟩
  | .local _ .vmem, ⟨15, _⟩ => ⟨S1x1024, .f32⟩
  | .local _ .vmem, ⟨16, _⟩ => ⟨S1x2048, .f32⟩
  | .local _ .vmem, ⟨17, _⟩ => ⟨S1x2048, .f32⟩
  | .local _ .vmem, ⟨18, _⟩ => ⟨S16x512, .f32⟩
  | .local _ .vmem, ⟨19, _⟩ => ⟨S1x2048, .f32⟩
  | .local _ .vmem, ⟨20, _⟩ => ⟨S16x128, .f32⟩
  | .local _ .vmem, ⟨21, _⟩ => ⟨S1x512, .f32⟩
  | .local _ .vmem, ⟨22, _⟩ => ⟨S1x256, .f32⟩
  | .local _ .vmem, ⟨23, _⟩ => ⟨S4x64x256, .f32⟩
  | .local _ .vmem, ⟨24, _⟩ => ⟨S1x1024, .f32⟩
  | .local _ .vmem, ⟨25, _⟩ => ⟨S1x2048, .f32⟩
  | .local _ .vmem, ⟨26, _⟩ => ⟨S1x2048, .f32⟩
  | .local _ .vmem, ⟨27, _⟩ => ⟨S16x512, .f32⟩
  | .local _ .vmem, ⟨28, _⟩ => ⟨S1x2048, .f32⟩
  | .local _ .vmem, ⟨29, _⟩ => ⟨S16x128, .f32⟩
  | .local _ .vmem, ⟨30, _⟩ => ⟨S1x512, .f32⟩
  | .local _ .vmem, ⟨31, _⟩ => ⟨S1x256, .f32⟩
  | .local _ .vmem, ⟨32, _⟩ => ⟨S4x64x256, .f32⟩
  | .local _ .vmem, ⟨33, _⟩ => ⟨S1x1024, .f32⟩
  | .local _ .vmem, ⟨34, _⟩ => ⟨S1x2048, .f32⟩
  | .local _ .vmem, ⟨35, _⟩ => ⟨S1x2048, .f32⟩
  | .local _ .vmem, ⟨36, _⟩ => ⟨S16x512, .f32⟩
  | .local _ .vmem, ⟨37, _⟩ => ⟨S1x2048, .f32⟩
  | .local _ .vmem, ⟨38, _⟩ => ⟨S16x128, .f32⟩
  | .local _ .vmem, ⟨39, _⟩ => ⟨S1x512, .f32⟩
  | .local _ .vmem, ⟨40, _⟩ => ⟨S1x256, .f32⟩
  | .local _ .vmem, ⟨41, _⟩ => ⟨S4x64x256, .f32⟩
  | .local _ .vmem, ⟨42, _⟩ => ⟨S1x1024, .f32⟩
  | .local _ .vmem, ⟨43, _⟩ => ⟨S1x2048, .f32⟩
  | .local _ .vmem, ⟨44, _⟩ => ⟨S1x2048, .f32⟩
  | .local _ .vmem, ⟨45, _⟩ => ⟨S16x512, .f32⟩
  | .local _ .vmem, ⟨46, _⟩ => ⟨S1x2048, .f32⟩
  | .local _ .vmem, ⟨47, _⟩ => ⟨S16x128, .f32⟩
  | .local _ .vmem, ⟨48, _⟩ => ⟨S1x512, .f32⟩
  | .local _ .vmem, ⟨49, _⟩ => ⟨S1x256, .f32⟩
  | .local _ .vmem, ⟨50, _⟩ => ⟨S4x64x256, .f32⟩
  | .local _ .vmem, ⟨51, _⟩ => ⟨S1x1024, .f32⟩
  | .local _ .vmem, ⟨52, _⟩ => ⟨S1x2048, .f32⟩
  | .local _ .vmem, ⟨53, _⟩ => ⟨S1x2048, .f32⟩
  | .local _ .vmem, ⟨54, _⟩ => ⟨S16x512, .f32⟩
  | .local _ .vmem, ⟨55, _⟩ => ⟨S1x2048, .f32⟩
  | .local _ .vmem, ⟨56, _⟩ => ⟨S16x128, .f32⟩
  | .local _ .vmem, ⟨57, _⟩ => ⟨S1x512, .f32⟩
  | .local _ .vmem, ⟨58, _⟩ => ⟨S1x256, .f32⟩
  | .local _ .vmem, ⟨59, _⟩ => ⟨S4x64x256, .f32⟩
  | .local _ .vmem, ⟨60, _⟩ => ⟨S1x1024, .f32⟩
  | .local _ .vmem, ⟨61, _⟩ => ⟨S1x2048, .f32⟩
  | .local _ .vmem, ⟨62, _⟩ => ⟨S1x2048, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1_0 : Ref sig .tc := ⟨.hbm, 38, rfl⟩
abbrev main_v1_1 : Ref sig .tc := ⟨.hbm, 39, rfl⟩
abbrev main_v1_2 : Ref sig .tc := ⟨.hbm, 40, rfl⟩
abbrev main_v1_3 : Ref sig .tc := ⟨.hbm, 41, rfl⟩
abbrev main_v1_4 : Ref sig .tc := ⟨.hbm, 42, rfl⟩
abbrev main_v1_5 : Ref sig .tc := ⟨.hbm, 43, rfl⟩
abbrev main_v1_6 : Ref sig .tc := ⟨.hbm, 44, rfl⟩
abbrev main_v1_7 : Ref sig .tc := ⟨.hbm, 45, rfl⟩
abbrev main_v1_8 : Ref sig .tc := ⟨.hbm, 46, rfl⟩
abbrev main_v1_9 : Ref sig .tc := ⟨.hbm, 47, rfl⟩
abbrev main_v1_10 : Ref sig .tc := ⟨.hbm, 48, rfl⟩
abbrev main_v1_11 : Ref sig .tc := ⟨.hbm, 49, rfl⟩
abbrev main_v1_12 : Ref sig .tc := ⟨.hbm, 50, rfl⟩
abbrev main_v1_13 : Ref sig .tc := ⟨.hbm, 51, rfl⟩
abbrev main_v1_14 : Ref sig .tc := ⟨.hbm, 52, rfl⟩
abbrev main_v1_15 : Ref sig .tc := ⟨.hbm, 53, rfl⟩
abbrev main_v1_16 : Ref sig .tc := ⟨.hbm, 54, rfl⟩
abbrev main_v1_17 : Ref sig .tc := ⟨.hbm, 55, rfl⟩
abbrev main_v1_18 : Ref sig .tc := ⟨.hbm, 56, rfl⟩
abbrev main_v1_19 : Ref sig .tc := ⟨.hbm, 57, rfl⟩
abbrev main_v1_20 : Ref sig .tc := ⟨.hbm, 58, rfl⟩
abbrev main_v1_21 : Ref sig .tc := ⟨.hbm, 59, rfl⟩
abbrev main_v1_22 : Ref sig .tc := ⟨.hbm, 60, rfl⟩
abbrev main_v1_23 : Ref sig .tc := ⟨.hbm, 61, rfl⟩
abbrev main_v1_24 : Ref sig .tc := ⟨.hbm, 62, rfl⟩
abbrev main_v1_25 : Ref sig .tc := ⟨.hbm, 63, rfl⟩
abbrev main_v1_26 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := .none

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x64x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x64x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S16x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S16x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x64x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x2048 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S16x512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x2048 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S16x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x256 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S4x64x256 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x2048 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x2048 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S16x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x2048 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S16x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x256 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S4x64x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x2048 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x2048 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S16x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x2048 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S16x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x512 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x256 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S4x64x256 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x2048 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x2048 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
-- ==== RefAdamSmallIdeal.lean ====
abbrev S16x512 : Shape := ⟨2, ![16, 512]⟩
abbrev S1x2048 : Shape := ⟨2, ![1, 2048]⟩
abbrev S16x128 : Shape := ⟨2, ![16, 128]⟩
abbrev S1x512 : Shape := ⟨2, ![1, 512]⟩
abbrev S1x256 : Shape := ⟨2, ![1, 256]⟩
abbrev S4x64x256 : Shape := ⟨3, ![4, 64, 256]⟩
abbrev S1x1024 : Shape := ⟨2, ![1, 1024]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S16x512, .f32⟩
  | 1 => ⟨S1x2048, .f32⟩
  | 2 => ⟨S16x128, .f32⟩
  | 3 => ⟨S1x512, .f32⟩
  | 4 => ⟨S1x256, .f32⟩
  | 5 => ⟨S4x64x256, .f32⟩
  | 6 => ⟨S1x1024, .f32⟩
  | 7 => ⟨S1x2048, .f32⟩
  | 8 => ⟨S1x2048, .f32⟩
  | 9 => ⟨S16x512, .f32⟩
  | 10 => ⟨S1x2048, .f32⟩
  | 11 => ⟨S16x128, .f32⟩
  | 12 => ⟨S1x512, .f32⟩
  | 13 => ⟨S1x256, .f32⟩
  | 14 => ⟨S4x64x256, .f32⟩
  | 15 => ⟨S1x1024, .f32⟩
  | 16 => ⟨S1x2048, .f32⟩
  | 17 => ⟨S1x2048, .f32⟩
  | 18 => ⟨S16x512, .f32⟩
  | 19 => ⟨S1x2048, .f32⟩
  | 20 => ⟨S16x128, .f32⟩
  | 21 => ⟨S1x512, .f32⟩
  | 22 => ⟨S1x256, .f32⟩
  | 23 => ⟨S4x64x256, .f32⟩
  | 24 => ⟨S1x1024, .f32⟩
  | 25 => ⟨S1x2048, .f32⟩
  | 26 => ⟨S1x2048, .f32⟩
  | 27 => ⟨S16x512, .f32⟩
  | 28 => ⟨S1x2048, .f32⟩
  | 29 => ⟨S16x128, .f32⟩
  | 30 => ⟨S1x512, .f32⟩
  | 31 => ⟨S1x256, .f32⟩
  | 32 => ⟨S4x64x256, .f32⟩
  | 33 => ⟨S1x1024, .f32⟩
  | 34 => ⟨S1x2048, .f32⟩
  | 35 => ⟨S1x2048, .f32⟩
  | 36 => ⟨S_, .f32⟩
  | 37 => ⟨S16x512, .f32⟩
  | 38 => ⟨S16x512, .f32⟩
  | 39 => ⟨S_, .f32⟩
  | 40 => ⟨S16x512, .f32⟩
  | 41 => ⟨S16x512, .f32⟩
  | 42 => ⟨S16x512, .f32⟩
  | 43 => ⟨S_, .f32⟩
  | 44 => ⟨S16x512, .f32⟩
  | 45 => ⟨S16x512, .f32⟩
  | 46 => ⟨S16x512, .f32⟩
  | 47 => ⟨S_, .f32⟩
  | 48 => ⟨S16x512, .f32⟩
  | 49 => ⟨S16x512, .f32⟩
  | 50 => ⟨S16x512, .f32⟩
  | 51 => ⟨S_, .f32⟩
  | 52 => ⟨S16x512, .f32⟩
  | 53 => ⟨S16x512, .f32⟩
  | 54 => ⟨S_, .f32⟩
  | 55 => ⟨S16x512, .f32⟩
  | 56 => ⟨S16x512, .f32⟩
  | 57 => ⟨S16x512, .f32⟩
  | 58 => ⟨S_, .f32⟩
  | 59 => ⟨S16x512, .f32⟩
  | 60 => ⟨S16x512, .f32⟩
  | 61 => ⟨S16x512, .f32⟩
  | 62 => ⟨S_, .f32⟩
  | 63 => ⟨S16x512, .f32⟩
  | 64 => ⟨S16x512, .f32⟩
  | 65 => ⟨S16x512, .f32⟩
  | 66 => ⟨S_, .f32⟩
  | 67 => ⟨S16x512, .f32⟩
  | 68 => ⟨S16x512, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S_, .f32⟩
  | 103 => ⟨S16x128, .f32⟩
  | 104 => ⟨S16x128, .f32⟩
  | 105 => ⟨S_, .f32⟩
  | 106 => ⟨S16x128, .f32⟩
  | 107 => ⟨S16x128, .f32⟩
  | 108 => ⟨S16x128, .f32⟩
  | 109 => ⟨S_, .f32⟩
  | 110 => ⟨S16x128, .f32⟩
  | 111 => ⟨S16x128, .f32⟩
  | 112 => ⟨S16x128, .f32⟩
  | 113 => ⟨S_, .f32⟩
  | 114 => ⟨S16x128, .f32⟩
  | 115 => ⟨S16x128, .f32⟩
  | 116 => ⟨S16x128, .f32⟩
  | 117 => ⟨S_, .f32⟩
  | 118 => ⟨S16x128, .f32⟩
  | 119 => ⟨S16x128, .f32⟩
  | 120 => ⟨S_, .f32⟩
  | 121 => ⟨S16x128, .f32⟩
  | 122 => ⟨S16x128, .f32⟩
  | 123 => ⟨S16x128, .f32⟩
  | 124 => ⟨S_, .f32⟩
  | 125 => ⟨S16x128, .f32⟩
  | 126 => ⟨S16x128, .f32⟩
  | 127 => ⟨S16x128, .f32⟩
  | _ => ⟨S16x512, .f32⟩

abbrev hbmTy0_1 (i : Nat) : BufTy := match i % 128 with
  | 0 => ⟨S_, .f32⟩
  | 1 => ⟨S16x128, .f32⟩
  | 2 => ⟨S16x128, .f32⟩
  | 3 => ⟨S16x128, .f32⟩
  | 4 => ⟨S_, .f32⟩
  | 5 => ⟨S16x128, .f32⟩
  | 6 => ⟨S16x128, .f32⟩
  | 7 => ⟨S_, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S_, .f32⟩
  | 41 => ⟨S1x256, .f32⟩
  | 42 => ⟨S1x256, .f32⟩
  | 43 => ⟨S_, .f32⟩
  | 44 => ⟨S1x256, .f32⟩
  | 45 => ⟨S1x256, .f32⟩
  | 46 => ⟨S1x256, .f32⟩
  | 47 => ⟨S_, .f32⟩
  | 48 => ⟨S1x256, .f32⟩
  | 49 => ⟨S1x256, .f32⟩
  | 50 => ⟨S1x256, .f32⟩
  | 51 => ⟨S_, .f32⟩
  | 52 => ⟨S1x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S_, .f32⟩
  | 59 => ⟨S1x256, .f32⟩
  | 60 => ⟨S1x256, .f32⟩
  | 61 => ⟨S1x256, .f32⟩
  | 62 => ⟨S_, .f32⟩
  | 63 => ⟨S1x256, .f32⟩
  | 64 => ⟨S1x256, .f32⟩
  | 65 => ⟨S1x256, .f32⟩
  | 66 => ⟨S_, .f32⟩
  | 67 => ⟨S1x256, .f32⟩
  | 68 => ⟨S1x256, .f32⟩
  | 69 => ⟨S1x256, .f32⟩
  | 70 => ⟨S_, .f32⟩
  | 71 => ⟨S1x256, .f32⟩
  | 72 => ⟨S1x256, .f32⟩
  | 73 => ⟨S_, .f32⟩
  | 74 => ⟨S4x64x256, .f32⟩
  | 75 => ⟨S4x64x256, .f32⟩
  | 76 => ⟨S_, .f32⟩
  | 77 => ⟨S4x64x256, .f32⟩
  | 78 => ⟨S4x64x256, .f32⟩
  | 79 => ⟨S4x64x256, .f32⟩
  | 80 => ⟨S_, .f32⟩
  | 81 => ⟨S4x64x256, .f32⟩
  | 82 => ⟨S4x64x256, .f32⟩
  | 83 => ⟨S4x64x256, .f32⟩
  | 84 => ⟨S_, .f32⟩
  | 85 => ⟨S4x64x256, .f32⟩
  | 86 => ⟨S4x64x256, .f32⟩
  | 87 => ⟨S4x64x256, .f32⟩
  | 88 => ⟨S_, .f32⟩
  | 89 => ⟨S4x64x256, .f32⟩
  | 90 => ⟨S4x64x256, .f32⟩
  | 91 => ⟨S_, .f32⟩
  | 92 => ⟨S4x64x256, .f32⟩
  | 93 => ⟨S4x64x256, .f32⟩
  | 94 => ⟨S4x64x256, .f32⟩
  | 95 => ⟨S_, .f32⟩
  | 96 => ⟨S4x64x256, .f32⟩
  | 97 => ⟨S4x64x256, .f32⟩
  | 98 => ⟨S4x64x256, .f32⟩
  | 99 => ⟨S_, .f32⟩
  | 100 => ⟨S4x64x256, .f32⟩
  | 101 => ⟨S4x64x256, .f32⟩
  | 102 => ⟨S4x64x256, .f32⟩
  | 103 => ⟨S_, .f32⟩
  | 104 => ⟨S4x64x256, .f32⟩
  | 105 => ⟨S4x64x256, .f32⟩
  | 106 => ⟨S_, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S16x512, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S_, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | _ => ⟨S16x512, .f32⟩

abbrev hbmTy (i : Nat) : BufTy := match i / 128 with
  | 0 => hbmTy0_0 i
  | 1 => hbmTy0_1 i
  | 2 => hbmTy0_2 i
  | _ => ⟨S16x512, .f32⟩

abbrev bufTy : (tb : Table) → Fin (tcTables nBuf tb) → BufTy
  | .hbm, ⟨i, _⟩ => hbmTy i
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== InProj.lean ====
abbrev S2176x2048 : Shape := ⟨2, ![2176, 2048]⟩
abbrev S2048x4112 : Shape := ⟨2, ![2048, 4112]⟩
abbrev S2048x4x1028 : Shape := ⟨3, ![2048, 4, 1028]⟩
abbrev S4x2048x1028 : Shape := ⟨3, ![4, 2048, 1028]⟩
abbrev S1x2048x1028 : Shape := ⟨3, ![1, 2048, 1028]⟩
abbrev S2048x1028 : Shape := ⟨2, ![2048, 1028]⟩
abbrev S_ : Shape := ⟨0, ![]⟩
abbrev S2048x1152 : Shape := ⟨2, ![2048, 1152]⟩
abbrev S1x2048x1152 : Shape := ⟨3, ![1, 2048, 1152]⟩
abbrev S4x2048x1152 : Shape := ⟨3, ![4, 2048, 1152]⟩
abbrev S4x2176x1152 : Shape := ⟨3, ![4, 2176, 1152]⟩
abbrev S1x2176x1152 : Shape := ⟨3, ![1, 2176, 1152]⟩
abbrev S2176x1152 : Shape := ⟨2, ![2176, 1152]⟩

abbrev nBuf : Space → Nat
  | .hbm => 30
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2048x4112, .bf16⟩
  | .hbm, ⟨2, _⟩ => ⟨S2048x4x1028, .bf16⟩
  | .hbm, ⟨3, _⟩ => ⟨S4x2048x1028, .bf16⟩
  | .hbm, ⟨4, _⟩ => ⟨S1x2048x1028, .bf16⟩
  | .hbm, ⟨5, _⟩ => ⟨S2048x1028, .bf16⟩
  | .hbm, ⟨6, _⟩ => ⟨S_, .i32⟩
  | .hbm, ⟨7, _⟩ => ⟨S_, .bf16⟩
  | .hbm, ⟨8, _⟩ => ⟨S2048x1152, .bf16⟩
  | .hbm, ⟨9, _⟩ => ⟨S1x2048x1028, .bf16⟩
  | .hbm, ⟨10, _⟩ => ⟨S2048x1028, .bf16⟩
  | .hbm, ⟨11, _⟩ => ⟨S_, .i32⟩
  | .hbm, ⟨12, _⟩ => ⟨S_, .bf16⟩
  | .hbm, ⟨13, _⟩ => ⟨S2048x1152, .bf16⟩
  | .hbm, ⟨14, _⟩ => ⟨S1x2048x1028, .bf16⟩
  | .hbm, ⟨15, _⟩ => ⟨S2048x1028, .bf16⟩
  | .hbm, ⟨16, _⟩ => ⟨S_, .i32⟩
  | .hbm, ⟨17, _⟩ => ⟨S_, .bf16⟩
  | .hbm, ⟨18, _⟩ => ⟨S2048x1152, .bf16⟩
  | .hbm, ⟨19, _⟩ => ⟨S1x2048x1028, .bf16⟩
  | .hbm, ⟨20, _⟩ => ⟨S2048x1028, .bf16⟩
  | .hbm, ⟨21, _⟩ => ⟨S_, .i32⟩
  | .hbm, ⟨22, _⟩ => ⟨S_, .bf16⟩
  | .hbm, ⟨23, _⟩ => ⟨S2048x1152, .bf16⟩
  | .hbm, ⟨24, _⟩ => ⟨S1x2048x1152, .bf16⟩
  | .hbm, ⟨25, _⟩ => ⟨S1x2048x1152, .bf16⟩
  | .hbm, ⟨26, _⟩ => ⟨S1x2048x1152, .bf16⟩
  | .hbm, ⟨27, _⟩ => ⟨S1x2048x1152, .bf16⟩
  | .hbm, ⟨28, _⟩ => ⟨S4x2048x1152, .bf16⟩
  | .hbm, ⟨29, _⟩ => ⟨S4x2176x1152, .f32⟩
  | .local _ .vmem, ⟨0, _⟩ => ⟨S2176x2048, .bf16⟩
  | .local _ .vmem, ⟨1, _⟩ => ⟨S1x2048x1152, .bf16⟩
  | .local _ .vmem, ⟨2, _⟩ => ⟨S1x2048x1152, .bf16⟩
  | .local _ .vmem, ⟨3, _⟩ => ⟨S1x2176x1152, .f32⟩
  | .local _ .vmem, ⟨4, _⟩ => ⟨S1x2176x1152, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_call3_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2176x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefInProjIdeal.lean ====
abbrev S2176x2048 : Shape := ⟨2, ![2176, 2048]⟩
abbrev S2048x4112 : Shape := ⟨2, ![2048, 4112]⟩
abbrev S2176x4112 : Shape := ⟨2, ![2176, 4112]⟩
abbrev S2176x1028 : Shape := ⟨2, ![2176, 1028]⟩
abbrev S_ : Shape := ⟨0, ![]⟩
abbrev S2176x1152 : Shape := ⟨2, ![2176, 1152]⟩
abbrev S1x2176x1152 : Shape := ⟨3, ![1, 2176, 1152]⟩
abbrev S4x2176x1152 : Shape := ⟨3, ![4, 2176, 1152]⟩

abbrev nBuf : Space → Nat
  | .hbm => 26
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x4112, .bf16⟩
  | .hbm, ⟨2, _⟩ => ⟨S2176x2048, .f32⟩
  | .hbm, ⟨3, _⟩ => ⟨S2048x4112, .f32⟩
  | .hbm, ⟨4, _⟩ => ⟨S2176x4112, .f32⟩
  | .hbm, ⟨5, _⟩ => ⟨S2176x1028, .f32⟩
  | .hbm, ⟨6, _⟩ => ⟨S_, .i32⟩
  | .hbm, ⟨7, _⟩ => ⟨S_, .f32⟩
  | .hbm, ⟨8, _⟩ => ⟨S2176x1152, .f32⟩
  | .hbm, ⟨9, _⟩ => ⟨S2176x1028, .f32⟩
  | .hbm, ⟨10, _⟩ => ⟨S_, .i32⟩
  | .hbm, ⟨11, _⟩ => ⟨S_, .f32⟩
  | .hbm, ⟨12, _⟩ => ⟨S2176x1152, .f32⟩
  | .hbm, ⟨13, _⟩ => ⟨S2176x1028, .f32⟩
  | .hbm, ⟨14, _⟩ => ⟨S_, .i32⟩
  | .hbm, ⟨15, _⟩ => ⟨S_, .f32⟩
  | .hbm, ⟨16, _⟩ => ⟨S2176x1152, .f32⟩
  | .hbm, ⟨17, _⟩ => ⟨S2176x1028, .f32⟩
  | .hbm, ⟨18, _⟩ => ⟨S_, .i32⟩
  | .hbm, ⟨19, _⟩ => ⟨S_, .f32⟩
  | .hbm, ⟨20, _⟩ => ⟨S2176x1152, .f32⟩
  | .hbm, ⟨21, _⟩ => ⟨S1x2176x1152, .f32⟩
  | .hbm, ⟨22, _⟩ => ⟨S1x2176x1152, .f32⟩
  | .hbm, ⟨23, _⟩ => ⟨S1x2176x1152, .f32⟩
  | .hbm, ⟨24, _⟩ => ⟨S1x2176x1152, .f32⟩
  | .hbm, ⟨25, _⟩ => ⟨S4x2176x1152, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call3_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== MlpUpFirst.lean ====
abbrev S2176x2048 : Shape := ⟨2, ![2176, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S_ : Shape := ⟨0, ![]⟩
abbrev S8x128 : Shape := ⟨2, ![8, 128]⟩
abbrev S2176x8192 : Shape := ⟨2, ![2176, 8192]⟩
abbrev S1x2048x1024 : Shape := ⟨3, ![1, 2048, 1024]⟩
abbrev S2176x1024 : Shape := ⟨2, ![2176, 1024]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2176x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S_, .f32⟩
  | .hbm, ⟨5, _⟩ => ⟨S8x128, .f32⟩
  | .hbm, ⟨6, _⟩ => ⟨S2176x8192, .bf16⟩
  | .hbm, ⟨7, _⟩ => ⟨S2176x8192, .bf16⟩
  | .hbm, ⟨8, _⟩ => ⟨S8x128, .f32⟩
  | .local _ .vmem, ⟨0, _⟩ => ⟨S2176x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S2176x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .bf16⟩
  | .local _ .vmem, ⟨7, _⟩ => ⟨S8x128, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== RefMlpUpFirstIdeal.lean ====
abbrev S2176x2048 : Shape := ⟨2, ![2176, 2048]⟩
abbrev S2048x8192 : Shape := ⟨2, ![2048, 8192]⟩
abbrev S2176x8192 : Shape := ⟨2, ![2176, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x8192, .bf16⟩
  | .hbm, ⟨2, _⟩ => ⟨S2176x2048, .f32⟩
  | .hbm, ⟨3, _⟩ => ⟨S2048x8192, .f32⟩
  | .hbm, ⟨4, _⟩ => ⟨S2176x8192, .f32⟩
  | .hbm, ⟨5, _⟩ => ⟨S_, .f32⟩
  | .hbm, ⟨6, _⟩ => ⟨S2176x8192, .f32⟩
  | .hbm, ⟨7, _⟩ => ⟨S2176x8192, .f32⟩
  | .hbm, ⟨8, _⟩ => ⟨S2176x8192, .bf16⟩
  | .hbm, ⟨9, _⟩ => ⟨S2176x8192, .f32⟩
  | .hbm, ⟨10, _⟩ => ⟨S2176x8192, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpUp.lean ====
abbrev S2176x2048 : Shape := ⟨2, ![2176, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S2176x8192 : Shape := ⟨2, ![2176, 8192]⟩
abbrev S_ : Shape := ⟨0, ![]⟩
abbrev S8x128 : Shape := ⟨2, ![8, 128]⟩
abbrev S1x2048x1024 : Shape := ⟨3, ![1, 2048, 1024]⟩
abbrev S2176x1024 : Shape := ⟨2, ![2176, 1024]⟩
abbrev S2048x1024 : Shape := ⟨2, ![2048, 1024]⟩

abbrev nBuf : Space → Nat
  | .hbm => 18
  | .vmem => 8
  | .smem => 0
  | _ => 0

abbrev bufTy : (tb : Table) → Fin (tcTables nBuf tb) → BufTy
  | .hbm, ⟨0, _⟩ => ⟨S2176x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S2176x2048, .f32⟩
  | .hbm, ⟨5, _⟩ => ⟨S2048x8192, .f32⟩
  | .hbm, ⟨6, _⟩ => ⟨S2176x8192, .f32⟩
  | .hbm, ⟨7, _⟩ => ⟨S_, .f32⟩
  | .hbm, ⟨8, _⟩ => ⟨S2176x8192, .f32⟩
  | .hbm, ⟨9, _⟩ => ⟨S2176x8192, .f32⟩
  | .hbm, ⟨10, _⟩ => ⟨S2176x8192, .bf16⟩
  | .hbm, ⟨11, _⟩ => ⟨S2176x8192, .f32⟩
  | .hbm, ⟨12, _⟩ => ⟨S2176x8192, .bf16⟩
  | .hbm, ⟨13, _⟩ => ⟨S_, .f32⟩
  | .hbm, ⟨14, _⟩ => ⟨S8x128, .f32⟩
  | .hbm, ⟨15, _⟩ => ⟨S2176x8192, .bf16⟩
  | .hbm, ⟨16, _⟩ => ⟨S2176x8192, .bf16⟩
  | .hbm, ⟨17, _⟩ => ⟨S8x128, .f32⟩
  | .local _ .vmem, ⟨0, _⟩ => ⟨S2176x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S2176x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .bf16⟩
  | .local _ .vmem, ⟨7, _⟩ => ⟨S8x128, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 32 := Scalar.muli v0 c2_i32_0
  let v2 : BitVec 32 := Scalar.addi v1 arg1
  let c0_i32 : BitVec 32 := 0#32
  let c0_i32_1 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 32 := Scalar.muli v0 c2_i32_0
  let v2 : BitVec 32 := Scalar.addi v1 arg1
  let c0_i32 : BitVec 32 := 0#32
  let c0_i32_1 : BitVec 32 := 0#32
  ![c0_i32.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== RefMlpUpIdeal.lean ====
abbrev S2176x2048 : Shape := ⟨2, ![2176, 2048]⟩
abbrev S2048x8192 : Shape := ⟨2, ![2048, 8192]⟩
abbrev S2176x8192 : Shape := ⟨2, ![2176, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x8192, .bf16⟩
  | .hbm, ⟨2, _⟩ => ⟨S2176x2048, .f32⟩
  | .hbm, ⟨3, _⟩ => ⟨S2048x8192, .f32⟩
  | .hbm, ⟨4, _⟩ => ⟨S2176x8192, .f32⟩
  | .hbm, ⟨5, _⟩ => ⟨S_, .f32⟩
  | .hbm, ⟨6, _⟩ => ⟨S2176x8192, .f32⟩
  | .hbm, ⟨7, _⟩ => ⟨S2176x8192, .f32⟩
  | .hbm, ⟨8, _⟩ => ⟨S2176x8192, .bf16⟩
  | .hbm, ⟨9, _⟩ => ⟨S2176x8192, .f32⟩
  | .hbm, ⟨10, _⟩ => ⟨S2176x8192, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.GradW2.lean ====
/- The gradient of the second matrix of the MLP: a grid point writes a block of rows. -/
module

public import proofs.«01_k».proof.Defs
public import proofs.«01_k».proof.Proof.Gen.GradW2Ideal.Value
public import proofs.«01_k».proof.Proof.Gen.RefGradW2Ideal.Run
public import Idealize.ShloMosaic.Lib.Pipeline.ValueKit
public import Idealize.ShloMosaic.Lib.Pointwise

@[expose] public section

set_option maxRecDepth 16384

noncomputable section

namespace Cert.Own.GradW2

open Cert.GradW2Ideal Cert.GradW2Ideal.Gen Idealize.ShloMosaic Idealize.ShloMosaic.TcCoe Idealize.SL.Sem

variable (m : (ℓ : Loc nD τ sig) → Buf (Elt Ideal) ℓ)

theorem idx (t : Fin cfg0.N) : win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0]) t

theorem entry (c : Dev nD) (x : FVec Ideal S2176x8192 .f32) (hx : m ((c : Thread nD τ).loc main_arg0) = x) :
    V m c main_v2 = fun i : S2176x8192.Idx => max (x i) 0 * max (x i) 0 := by
  subst hx
  have h : (V m c main_v2 : FVec Ideal S2176x8192 .bf16) = truncf (F := Ideal) .bf16 (mulf (maximumf (m ((c : Thread nD τ).loc main_arg0)) (broadcastInDim S2176x8192 ![] bcast_S_S2176x8192 (constant S_ .f32 0x00000000#32))) (maximumf (m ((c : Thread nD τ).loc main_arg0)) (broadcastInDim S2176x8192 ![] bcast_S_S2176x8192 (constant S_ .f32 0x00000000#32)))) bitsLt_bf16_f32 := by
    show StableHlo.after (List.flatten [hostOps0, hostOps0_1]) _ (Proc.devRef .tc main_v2) = _
    simp only [hostOps0, hostOps0_1, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
  rw [h]
  funext i
  pointwise

theorem value_of (c : Dev nD) (a : FVec Ideal S2176x8192 .bf16) (y : FVec Ideal S2176x2048 .bf16)
    (ha : V m c main_v2 = a) (hy : m ((c : Thread nD τ).loc main_arg1) = y) :
    (dats m 0 c).arrAt 2 cfg0.N = fun i : S8192x2048.Idx => ∑ k : Fin 2176, a (ix2 k (i 0)) * y (ix2 k (i 1)) := by
  refine (dats m 0 c).arrAt_eq_of_covers 2 _ (by decide +kernel) fun t hf j => ?_
  obtain ⟨e0, e1, e2⟩ := idx t
  blk_simp
  rw [after0_2]
  frame_out
  idx_vars j
  pointwise [k0_pay1]
  subst ha hy
  blk_point [iblk, V, e0, e1, e2]

theorem value (c : Dev nD) (x : FVec Ideal S2176x8192 .f32) (y : FVec Ideal S2176x2048 .bf16)
    (hx : m ((c : Thread nD τ).loc main_arg0) = x) (hy : m ((c : Thread nD τ).loc main_arg1) = y) :
    (dats m 0 c).arrAt 2 cfg0.N = fun i : S8192x2048.Idx =>
      ∑ k : Fin 2176, (max (x (ix2 k (i 0))) 0 * max (x (ix2 k (i 0))) 0) * y (ix2 k (i 1)) :=
  value_of m c _ y (entry m c x hx) hy

theorem algebraic : algebraic_GradW2Ideal_RefGradW2Ideal := by
  intro m g m' g' _ hm
  refine ⟨fun c => (dats m 0 c).arrAt 2 cfg0.N, Cert.GradW2Ideal.Value.run_blocks m g,
    (θ_run _ _ _).mono (fun r h c => ⟨(h c).1.trans ?_, (h c).2⟩) (Cert.RefGradW2Ideal.Value.run m' g')⟩
  rw [(hm c).1, (hm c).2]
  refine Eq.trans ?_ (value m c _ _ rfl rfl).symm
  funext i
  idx_vars i
  pointwise
  exact Finset.sum_congr rfl fun k _ => mul_comm _ _

end Cert.Own.GradW2

end
-- ==== Proof.MlpDz.lean ====
/- The gradient of the inner activation of the MLP: a grid point writes a block of columns. -/
module

public import proofs.«01_k».proof.Defs
public import proofs.«01_k».proof.Proof.Gen.MlpDzIdeal.Value
public import proofs.«01_k».proof.Proof.Gen.RefMlpDzIdeal.Run
public import Idealize.ShloMosaic.Lib.Pipeline.ValueKit
public import Idealize.ShloMosaic.Lib.Pointwise

@[expose] public section

set_option maxRecDepth 16384

noncomputable section

namespace Cert.Own.MlpDz

open Cert.MlpDzIdeal Cert.MlpDzIdeal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![t.val, 0] ∧ win0_2.index t = ![0, t.val] ∧ win0_3.index t = ![0, t.val] :=
  (by decide +kernel : ∀ t : Fin grid0.N, win0_0.index t = ![0, 0] ∧ win0_1.index t = ![t.val, 0] ∧ win0_2.index t = ![0, t.val] ∧ win0_3.index t = ![0, t.val]) t

theorem entry (c : Dev nD) (x : FVec Ideal S2176x8192 .f32) (hx : m ((c : Thread nD τ).loc main_arg0) = x) :
    V m c main_v1 = fun i : S2176x8192.Idx => max (x i) 0 := by
  subst hx
  have h : (V m c main_v1 : FVec Ideal S2176x8192 .bf16) = truncf (F := Ideal) .bf16 (maximumf (m ((c : Thread nD τ).loc main_arg0)) (broadcastInDim S2176x8192 ![] bcast_S_S2176x8192 (constant S_ .f32 0x00000000#32))) bitsLt_bf16_f32 := by
    show StableHlo.after (List.flatten [hostOps0, hostOps0_1]) _ (Proc.devRef .tc main_v1) = _
    simp only [hostOps0, hostOps0_1, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
  rw [h]
  funext i
  pointwise

theorem value_of (c : Dev nD) (a : FVec Ideal S2176x8192 .bf16) (w : FVec Ideal S8192x2048 .bf16) (y : FVec Ideal S2176x2048 .bf16)
    (ha : V m c main_v1 = a) (hw : m ((c : Thread nD τ).loc main_arg1) = w) (hy : m ((c : Thread nD τ).loc main_arg2) = y) :
    (dats m 0 c).arrAt 3 cfg0.N = fun i : S2176x8192.Idx =>
      (∑ k : Fin 2048, y (ix2 (i 0) k) * w (ix2 (i 1) k)) * (Ideal.ofBits .f32 0x40000000#32 * a i) := by
  refine (dats m 0 c).arrAt_eq_of_covers 3 _ (by decide +kernel) fun t hf j => ?_
  obtain ⟨e0, e1, e2, e3⟩ := idx t
  blk_simp
  rw [after0_3]
  unfold outsAt0
  frame_out
  idx_vars j
  pointwise [k0_pay1]
  subst ha hw hy
  blk_point [iblk, V, e0, e1, e2, e3]

theorem value (c : Dev nD) (x : FVec Ideal S2176x8192 .f32) (w : FVec Ideal S8192x2048 .bf16) (y : FVec Ideal S2176x2048 .bf16)
    (hx : m ((c : Thread nD τ).loc main_arg0) = x) (hw : m ((c : Thread nD τ).loc main_arg1) = w) (hy : m ((c : Thread nD τ).loc main_arg2) = y) :
    (dats m 0 c).arrAt 3 cfg0.N = fun i : S2176x8192.Idx =>
      (∑ k : Fin 2048, y (ix2 (i 0) k) * w (ix2 (i 1) k)) * (Ideal.ofBits .f32 0x40000000#32 * max (x i) 0) :=
  value_of m c _ w y (entry m c x hx) hw hy

theorem algebraic : algebraic_MlpDzIdeal_RefMlpDzIdeal := by
  intro m g m' g' _ hm
  refine ⟨fun c => (dats m 0 c).arrAt 3 cfg0.N, Cert.MlpDzIdeal.Value.run_blocks m g,
    (θ_run _ _ _).mono (fun r h c => ⟨(h c).1.trans ?_, (h c).2⟩) (Cert.RefMlpDzIdeal.Value.run m' g')⟩
  rw [(hm c).1, (hm c).2.1, (hm c).2.2]
  refine Eq.trans ?_ (value m c _ _ _ rfl rfl rfl).symm
  funext i
  idx_vars i
  pointwise
  split_ifs with h0
  · rfl
  · rw [max_eq_right (not_lt.mp h0), mul_zero, mul_zero]

end Cert.Own.MlpDz

end
-- ==== Proof.GradW1.lean ====
/- The gradient of the first matrix of the MLP, in four shards of columns. -/
module

public import proofs.«01_k».proof.Defs
public import proofs.«01_k».proof.Proof.Gen.GradW1Ideal.Value
public import proofs.«01_k».proof.Proof.Gen.RefGradW1Ideal.Run
public import Idealize.ShloMosaic.Lib.Pipeline.ValueKit
public import Idealize.ShloMosaic.Lib.Pointwise

@[expose] public section

set_option maxRecDepth 16384

noncomputable section

namespace Cert.Own.GradW1

open Cert.GradW1Ideal Cert.GradW1Ideal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![0, t.val] ∧ win0_2.index t = ![t.val / 2, 0, t.val % 2] :=
  (by decide +kernel : ∀ t : Fin grid0.N, win0_0.index t = ![0, 0] ∧ win0_1.index t = ![0, t.val] ∧ win0_2.index t = ![t.val / 2, 0, t.val % 2]) t

theorem value (c : Dev nD) (x : FVec Ideal S2176x2048 .bf16) (y : FVec Ideal S2176x8192 .bf16)
    (hx : m ((c : Thread nD τ).loc main_arg0) = x) (hy : m ((c : Thread nD τ).loc main_arg1) = y) :
    (dats m 0 c).arrAt 2 cfg0.N = fun i : S4x2048x2048.Idx =>
      ∑ k : Fin 2176, x (ix2 k (i 1)) * y (ix2 k ⟨(i 0).val * 2048 + (i 2).val, by idx_bounds i; omega⟩) := by
  refine (dats m 0 c).arrAt_eq_of_covers 2 _ (by decide +kernel) fun t hf j => ?_
  obtain ⟨e0, e1, e2⟩ := idx t
  blk_simp
  rw [after0_2]
  unfold outsAt0
  frame_out
  idx_vars j
  pointwise [k0_pay1]
  subst hx hy
  blk_point [iblk, V, e0, e1, e2]

theorem algebraic : algebraic_GradW1Ideal_RefGradW1Ideal := by
  intro m g m' g' _ hm
  refine ⟨fun c => (dats m 0 c).arrAt 2 cfg0.N, Cert.GradW1Ideal.Value.run_blocks m g,
    (θ_run _ _ _).mono (fun r h c => ⟨(h c).1.trans ?_, (h c).2⟩) (Cert.RefGradW1Ideal.Value.run m' g')⟩
  rw [(hm c).1, (hm c).2]
  refine Eq.trans ?_ (value m c _ _ rfl rfl).symm
  funext i
  idx_vars i
  pointwise
  exact Finset.sum_congr rfl fun k _ => mul_comm _ _

end Cert.Own.GradW1

end
-- ==== Proof.MlpDn.lean ====
/- The gradient of the MLP's input: eight pieces of the contraction added up in a scratch array, then copied out. -/
module

public import proofs.«01_k».proof.Defs
public import proofs.«01_k».proof.Proof.Gen.MlpDnIdeal.Frame
public import proofs.«01_k».proof.Proof.Gen.RefMlpDnIdeal.Run
public import Idealize.ShloMosaic.Lib.Pipeline.ValueKit
public import Idealize.ShloMosaic.Lib.Pointwise
public import Idealize.ShloMosaic.Lib.VecWindow

@[expose] public section

set_option maxRecDepth 16384

noncomputable section

namespace Cert.Own.MlpDn

open Cert.MlpDnIdeal Cert.MlpDnIdeal.Gen Idealize.ShloMosaic Idealize.ShloMosaic.TcCoe Idealize.SL.Sem

variable (m : (ℓ : Loc nD τ sig) → Buf (Elt Ideal) ℓ)

theorem idx (t : Fin cfg0.N) : win0_0.index t = ![0, t.val] ∧ win0_1.index t = ![t.val / 2, 0, t.val % 2] :=
  (by decide +kernel : ∀ t : Fin grid0.N, win0_0.index t = ![0, t.val] ∧ win0_1.index t = ![t.val / 2, 0, t.val % 2]) t

theorem entry (c : Dev nD) (w : FVec Ideal S2048x8192 .bf16) (hw : m ((c : Thread nD τ).loc main_arg0) = w) :
    V m c main_v1 = fun i : S4x2048x2048.Idx => w (ix2 (i 1) ⟨(i 0).val * 2048 + (i 2).val, by idx_bounds i; omega⟩) := by
  subst hw
  have h : (V m c main_v1 : FVec Ideal S4x2048x2048 .bf16) = transpose S4x2048x2048 [1, 0, 2]
      (shapeCast S2048x4x2048 (m ((c : Thread nD τ).loc main_arg0) : FVec Ideal S2048x8192 .bf16) shapeCasts_S2048x8192_S2048x4x2048) transposes_S2048x4x2048_S4x2048x2048_1_0_2 := by
    show StableHlo.after (List.flatten [hostOps0]) _ (Proc.devRef .tc main_v1) = _
    simp only [hostOps0, List.flatten_cons, List.flatten_nil, List.append_nil]
    after_results
    rfl
  rw [h]
  funext i
  idx_vars i
  pointwise

/-- The product at one point: 1024 columns of the cotangent against the same columns of the weight. -/
def term (w : FVec Ideal S4x2048x2048 .bf16) (z : FVec Ideal S2176x8192 .bf16) (t : Fin cfg0.N) (j : S2176x2048.Idx) : EReal :=
  ∑ k : Fin 1024, z (ix2 (j 0) ⟨t.val * 1024 + k.val, by have : t.val < 8 := t.isLt; omega⟩)
    * w (ix3 ⟨t.val / 2, by have : t.val < 8 := t.isLt; omega⟩ (j 1) ⟨t.val % 2 * 1024 + k.val, by omega⟩)

theorem first (c : Dev nD) (w : FVec Ideal S4x2048x2048 .bf16) (z : FVec Ideal S2176x8192 .bf16)
    (hw : V m c main_v1 = w) (hz : m ((c : Thread nD τ).loc main_arg1) = z) (t : Fin cfg0.N) (ht : t.val % 8 = 0) (j : S2176x2048.Idx) :
    (outsAt0 m c t.val t.isLt).1 j = 0 + term w z t j := by
  obtain ⟨e0, e1⟩ := idx t
  have : t.val < 8 := t.isLt
  rw [outsAt0_A m c t ht (by omega) (by omega)]
  unfold term
  frame_out
  idx_vars j
  pointwise [k0_pay1, k0_pay2]
  subst hw hz
  blk_point [iblk, V, e0, e1]

theorem next (c : Dev nD) (w : FVec Ideal S4x2048x2048 .bf16) (z : FVec Ideal S2176x8192 .bf16)
    (hw : V m c main_v1 = w) (hz : m ((c : Thread nD τ).loc main_arg1) = z) (t : Fin cfg0.N) (ht : ¬t.val % 8 = 0) (j : S2176x2048.Idx) :
    (outsAt0 m c t.val t.isLt).1 j = (outsAt0 m c (t.val - 1) (Nat.lt_of_le_of_lt (Nat.sub_le _ _) t.isLt)).1 j + term w z t j := by
  obtain ⟨e0, e1⟩ := idx t
  have : t.val < 8 := t.isLt
  by_cases h2 : t.val % 8 = 7
  · rw [outsAt0_C m c t ht (by omega) h2]
    unfold term
    frame_out
    idx_vars j
    pointwise [k0_pay1, k0_pay3]
    subst hw hz
    blk_point [iblk, V, e0, e1]
    exact congrFun ((Memref.isWhole_whole _).read_unread _) _
  · rw [outsAt0_B m c t ht (by omega) h2]
    unfold term
    frame_out
    idx_vars j
    pointwise [k0_pay1, k0_pay3]
    subst hw hz
    blk_point [iblk, V, e0, e1]
    exact congrFun ((Memref.isWhole_whole _).read_unread _) _

theorem out (c : Dev nD) : hbG0 m c main_v3 = (outsAt0 m c 7 (by decide)).1 := by
  have h := outsAt0_C m c ⟨7, by decide⟩ (by decide) (by decide) (by decide)
  rw [hbG0_1]
  show (outsAt0 m c 7 (by decide)).2 = _
  rw [h]
  dsimp only
  unfold hbw0_C_1 sout0_C_0
  unfold kernelRun0_C
  dsimp only
  rw [View.write_whole_univ]
  unfold kernelRun0_C.sl.dma5 kernelRun0_C.sl.HS0_1
  dsimp only [ReadAs.apply]
  refine (View.read_writes_full _ _ _ _ _).trans ?_
  exact (View.read_writes_full (Val := Elt Ideal) VS0_0 VS0_0.junk (off := ![0, 0]) inb_S2176x2048_S2176x2048_0_0 _ []).symm

theorem value (c : Dev nD) (w : FVec Ideal S2048x8192 .bf16) (z : FVec Ideal S2176x8192 .bf16)
    (hw : m ((c : Thread nD τ).loc main_arg0) = w) (hz : m ((c : Thread nD τ).loc main_arg1) = z) :
    hbG0 m c main_v3 = fun i : S2176x2048.Idx => ∑ k : Fin 8192, z (ix2 (i 0) k) * w (ix2 (i 1) k) := by
  rw [out]
  funext j
  refine (Pipeline.eq_sum_fin_of_reset_step_apply_last (fun n h => (outsAt0 m c n h).1) 8 (fun _ => 0) _
    (first m c _ z (entry m c w hw) hz) (next m c _ z (entry m c w hw) hz) (by decide) ⟨7, by decide⟩ rfl j).trans ?_
  rw [zero_add]
  unfold term
  refine Fin.sum_mul_add_congr fun t k hl => ?_
  have : t.val < 8 := t.isLt
  idx_vars j
  pointwise
  refine congrArg (fun e => z (ix2 j0 ⟨t * 1024 + k, hl⟩) * w (ix2 j1 e)) (Fin.ext ?_)
  show t.val / 2 * 2048 + (t.val % 2 * 1024 + k.val) = t.val * 1024 + k.val
  omega

theorem algebraic : algebraic_MlpDnIdeal_RefMlpDnIdeal := by
  intro m g m' g' _ hm
  refine ⟨fun c => hbG0 m c main_v3,
    (θ_run_and (Gen.unchanged m g) (run_main m g)).mono (fun r h c => ⟨h.2.written c (by decide), h.1 c⟩),
    (θ_run _ _ _).mono (fun r h c => ⟨(h c).1.trans ?_, (h c).2⟩) (Cert.RefMlpDnIdeal.Value.run m' g')⟩
  rw [(hm c).1, (hm c).2]
  refine Eq.trans ?_ (value m c _ _ rfl rfl).symm
  funext i
  idx_vars i
  pointwise

end Cert.Own.MlpDn

end
-- ==== Proof.Mixed.lean ====
/- The gradient of the mixed stream: a grid point writes a block of columns of the product with the transposed weight. -/
module

public import proofs.«01_k».proof.Defs
public import proofs.«01_k».proof.Proof.Gen.MixedIdeal.Value
public import proofs.«01_k».proof.Proof.Gen.RefMixedIdeal.Run
public import Idealize.ShloMosaic.Lib.Pipeline.ValueKit
public import Idealize.ShloMosaic.Lib.Pointwise

@[expose] public section

set_option maxRecDepth 16384

noncomputable section

namespace Cert.Own.Mixed

open Cert.MixedIdeal Cert.MixedIdeal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![t.val, 0] ∧ win0_2.index t = ![0, t.val] :=
  (by decide +kernel : ∀ t : Fin grid0.N, win0_0.index t = ![0, 0] ∧ win0_1.index t = ![t.val, 0] ∧ win0_2.index t = ![0, t.val]) t

theorem value (c : Dev nD) (x : FVec Ideal S2048x2048 .bf16) (y : FVec Ideal S2176x2048 .bf16)
    (hx : m ((c : Thread nD τ).loc main_arg0) = x) (hy : m ((c : Thread nD τ).loc main_arg1) = y) :
    (dats m 0 c).arrAt 2 cfg0.N = fun i : S2176x2048.Idx => ∑ k : Fin 2048, y (ix2 (i 0) k) * x (ix2 (i 1) k) := by
  refine (dats m 0 c).arrAt_eq_of_covers 2 _ (by decide +kernel) fun t hf j => ?_
  obtain ⟨e0, e1, e2⟩ := idx t
  blk_simp
  rw [after0_2]
  frame_out
  idx_vars j
  pointwise [k0_pay1]
  subst hx hy
  blk_point [iblk, V, e0, e1, e2]

theorem algebraic : algebraic_MixedIdeal_RefMixedIdeal := by
  intro m g m' g' _ hm
  refine ⟨fun c => (dats m 0 c).arrAt 2 cfg0.N, Cert.MixedIdeal.Value.run_blocks m g,
    (θ_run _ _ _).mono (fun r h c => ⟨(h c).1.trans ?_, (h c).2⟩) (Cert.RefMixedIdeal.Value.run m' g')⟩
  rw [(hm c).1, (hm c).2]
  refine Eq.trans ?_ (value m c _ _ rfl rfl).symm
  funext i
  idx_vars i
  pointwise

end Cert.Own.Mixed

end
-- ==== Proof.GradWout.lean ====
/- The gradient of the output projection, in four shards of rows. -/
module

public import proofs.«01_k».proof.Defs
public import proofs.«01_k».proof.Proof.Gen.GradWoutIdeal.Value
public import proofs.«01_k».proof.Proof.Gen.RefGradWoutIdeal.Run
public import Idealize.ShloMosaic.Lib.Pipeline.ValueKit
public import Idealize.ShloMosaic.Lib.Pointwise

@[expose] public section

set_option maxRecDepth 16384

noncomputable section

namespace Cert.Own.GradWout

open Cert.GradWoutIdeal Cert.GradWoutIdeal.Gen Idealize.ShloMosaic Idealize.ShloMosaic.TcCoe Idealize.SL.Sem

variable (m : (ℓ : Loc nD τ sig) → Buf (Elt Ideal) ℓ)

theorem idx (t : Fin cfg0.N) : win0_0.index t = ![0, min t.val 1] ∧ win0_1.index t = ![0, t.val - 2] ∧ win0_2.index t = ![0, 0] ∧ win0_3.index t = ![t.val, 0, 0] :=
  (by decide +kernel : ∀ t : Fin grid0.N, win0_0.index t = ![0, min t.val 1] ∧ win0_1.index t = ![0, t.val - 2] ∧ win0_2.index t = ![0, 0] ∧ win0_3.index t = ![t.val, 0, 0]) t

/-- The streams side by side. -/
def both (x y : FVec Ideal S2176x1024 .bf16) (r : Fin 2176) (l : Fin 2048) : Ideal .bf16 :=
  if h : l.val < 1024 then x (ix2 r ⟨l.val, h⟩) else y (ix2 r ⟨l.val - 1024, by omega⟩)

theorem value (c : Dev nD) (x y : FVec Ideal S2176x1024 .bf16) (z : FVec Ideal S2176x2048 .bf16)
    (hx : m ((c : Thread nD τ).loc main_arg0) = x) (hy : m ((c : Thread nD τ).loc main_arg1) = y) (hz : m ((c : Thread nD τ).loc main_arg2) = z) :
    (dats m 0 c).arrAt 3 cfg0.N = fun i : S4x512x2048.Idx =>
      ∑ k : Fin 2176, both x y k ⟨(i 0).val * 512 + (i 1).val, by idx_bounds i; omega⟩ * z (ix2 k (i 2)) := by
  refine (dats m 0 c).arrAt_eq_of_covers 3 _ (by decide +kernel) fun t hf j => ?_
  obtain ⟨e0, e1, e2, e3⟩ := idx t
  blk_simp
  rw [after0_3]
  by_cases ht : t.val < 2
  · rw [outsAt0_A m c t ht (by omega)]
    frame_out
    idx_vars j
    pointwise [k0_pay1]
    have hv : ∀ k, iblk m c 0 t (ix2 k j1) = both x y k ⟨t.val * 512 + j1.val, by omega⟩ := fun k => by
      unfold both
      rw [dif_pos (show t.val * 512 + j1.val < 1024 by omega)]
      subst hx
      blk_point [iblk, V, e0, e1, e2, e3]
    simp only [hv, e3]
    subst hz
    blk_point [iblk, V, e0, e1, e2, e3]
  · rw [outsAt0_B m c t ht (by omega)]
    frame_out
    idx_vars j
    pointwise [k0_pay2]
    have hv : ∀ k, iblk m c 1 t (ix2 k j1) = both x y k ⟨t.val * 512 + j1.val, by have : t.val < 4 := t.isLt; omega⟩ := fun k => by
      unfold both
      rw [dif_neg (show ¬ t.val * 512 + j1.val < 1024 by omega)]
      subst hy
      blk_point [iblk, V, e0, e1, e2, e3]
    simp only [hv, e3]
    subst hz
    blk_point [iblk, V, e0, e1, e2, e3]

theorem algebraic : algebraic_GradWoutIdeal_RefGradWoutIdeal := by
  intro m g m' g' _ hm
  refine ⟨fun c => (dats m 0 c).arrAt 3 cfg0.N, Cert.GradWoutIdeal.Value.run_blocks m g,
    (θ_run _ _ _).mono (fun r h c => ⟨(h c).1.trans ?_, (h c).2⟩) (Cert.RefGradWoutIdeal.Value.run m' g')⟩
  rw [(hm c).1, (hm c).2.1, (hm c).2.2]
  refine Eq.trans ?_ (value m c _ _ _ rfl rfl rfl).symm
  funext i
  idx_vars i
  pointwise
  exact Finset.sum_congr rfl fun k _ => mul_comm _ _

end Cert.Own.GradWout

end
-- ==== Proof.InGradRun.lean ====
/- The gradient of the input projection's operand: nine products against the padded shards of the weight. -/
module

public import proofs.«01_k».proof.Defs
public import proofs.«01_k».proof.Proof.Gen.InGradIdeal.Value
public import proofs.«01_k».proof.Proof.Gen.RefInGradIdeal.Run
public import Idealize.ShloMosaic.Lib.Pipeline.ValueKit
public import Idealize.ShloMosaic.Lib.Pointwise

@[expose] public section

set_option maxRecDepth 16384

noncomputable section

namespace Cert.Own.InGrad

open Cert.InGradIdeal Cert.InGradIdeal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, t.val, 0] ∧ win0_7.index t = ![0, t.val] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, t.val, 0] ∧ win0_7.index t = ![0, t.val]) t

theorem entry_g (c : Dev nD) (g : FVec Ideal S2176x16 .bf16) (hg : m ((c : Thread nD τ).loc main_arg5) = g) :
    V m c main_v16 = fun i : S2176x128.Idx => if h : (i 1).val < 16 then g (ix2 (i 0) ⟨(i 1).val, h⟩) else 0 := by
  have h : (V m c main_v16 : FVec Ideal S2176x128 .bf16) = pad S2176x128 ![0, 0] ![0, 112] ![0, 0] g
      (sitofp .bf16 (constantI S_ 32 0#32) : FVec Ideal S_ .bf16) pads_S2176x16_S2176x128_000_01120 h_S_ := by
    subst hg
    show StableHlo.after (List.flatten [hostOps0, hostOps0_1, hostOps0_2]) _ (Proc.devRef .tc main_v16) = _
    simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
  rw [h]
  funext i
  idx_vars i
  pointwise
  refine dite_congr rfl (fun _ => rfl) fun _ => ?_
  show (((0#32 : BitVec 32).toInt : ℝ) : EReal) = 0
  simp

/-! The weight's four shards, each padded with zeros to 1152 columns. -/

def shard0 (w : FVec Ideal S2048x4112 .bf16) : FVec Ideal S2048x1152 .bf16 :=
  concatenate S2048x1152 1 [⟨S2048x1028, (extractStridedSlice S2048x1028 ![0, 0] w slices_S2048x4112_S2048x1028_0_0 : FVec Ideal S2048x1028 .bf16)⟩, ⟨S2048x124, (broadcastInDim S2048x124 ![] bcast_S_S2048x124 (constant S_ .bf16 0x0000#16 : FVec Ideal S_ .bf16) : FVec Ideal S2048x124 .bf16)⟩] concatenates_S2048x1028_S2048x124_S2048x1152_d1

def shard1 (w : FVec Ideal S2048x4112 .bf16) : FVec Ideal S2048x1152 .bf16 :=
  concatenate S2048x1152 1 [⟨S2048x4, (broadcastInDim S2048x4 ![] bcast_S_S2048x4 (constant S_ .bf16 0x0000#16 : FVec Ideal S_ .bf16) : FVec Ideal S2048x4 .bf16)⟩, ⟨S2048x1028, (extractStridedSlice S2048x1028 ![0, 1028] w slices_S2048x4112_S2048x1028_0_1028 : FVec Ideal S2048x1028 .bf16)⟩, ⟨S2048x120, (broadcastInDim S2048x120 ![] bcast_S_S2048x120 (constant S_ .bf16 0x0000#16 : FVec Ideal S_ .bf16) : FVec Ideal S2048x120 .bf16)⟩] concatenates_S2048x4_S2048x1028_S2048x120_S2048x1152_d1

def shard2 (w : FVec Ideal S2048x4112 .bf16) : FVec Ideal S2048x1152 .bf16 :=
  concatenate S2048x1152 1 [⟨S2048x8, (broadcastInDim S2048x8 ![] bcast_S_S2048x8 (constant S_ .bf16 0x0000#16 : FVec Ideal S_ .bf16) : FVec Ideal S2048x8 .bf16)⟩, ⟨S2048x1028, (extractStridedSlice S2048x1028 ![0, 2056] w slices_S2048x4112_S2048x1028_0_2056 : FVec Ideal S2048x1028 .bf16)⟩, ⟨S2048x116, (broadcastInDim S2048x116 ![] bcast_S_S2048x116 (constant S_ .bf16 0x0000#16 : FVec Ideal S_ .bf16) : FVec Ideal S2048x116 .bf16)⟩] concatenates_S2048x8_S2048x1028_S2048x116_S2048x1152_d1

def shard3 (w : FVec Ideal S2048x4112 .bf16) : FVec Ideal S2048x1152 .bf16 :=
  concatenate S2048x1152 1 [⟨S2048x1024, (extractStridedSlice S2048x1024 ![0, 3088] w slices_S2048x4112_S2048x1024_0_3088 : FVec Ideal S2048x1024 .bf16)⟩, ⟨S2048x12, (broadcastInDim S2048x12 ![] bcast_S_S2048x12 (constant S_ .bf16 0x0000#16 : FVec Ideal S_ .bf16) : FVec Ideal S2048x12 .bf16)⟩, ⟨S2048x4, (extractStridedSlice S2048x4 ![0, 3084] w slices_S2048x4112_S2048x4_0_3084 : FVec Ideal S2048x4 .bf16)⟩, ⟨S2048x112, (broadcastInDim S2048x112 ![] bcast_S_S2048x112 (constant S_ .bf16 0x0000#16 : FVec Ideal S_ .bf16) : FVec Ideal S2048x112 .bf16)⟩] concatenates_S2048x1024_S2048x12_S2048x4_S2048x112_S2048x1152_d1

def shards (w : FVec Ideal S2048x4112 .bf16) : FVec Ideal S4x2048x1152 .bf16 :=
  concatenate S4x2048x1152 0 [⟨S1x2048x1152, (broadcastInDim S1x2048x1152 ![1, 2] bcast_S2048x1152_S1x2048x1152_1_2 (shard0 w) : FVec Ideal S1x2048x1152 .bf16)⟩, ⟨S1x2048x1152, (broadcastInDim S1x2048x1152 ![1, 2] bcast_S2048x1152_S1x2048x1152_1_2 (shard1 w) : FVec Ideal S1x2048x1152 .bf16)⟩, ⟨S1x2048x1152, (broadcastInDim S1x2048x1152 ![1, 2] bcast_S2048x1152_S1x2048x1152_1_2 (shard2 w) : FVec Ideal S1x2048x1152 .bf16)⟩, ⟨S1x2048x1152, (broadcastInDim S1x2048x1152 ![1, 2] bcast_S2048x1152_S1x2048x1152_1_2 (shard3 w) : FVec Ideal S1x2048x1152 .bf16)⟩] concatenates_S1x2048x1152_S1x2048x1152_S1x2048x1152_S1x2048x1152_S4x2048x1152_d0

theorem entry_w (c : Dev nD) (w : FVec Ideal S2048x4112 .bf16) (hw : m ((c : Thread nD τ).loc main_arg0) = w) :
    V m c main_v21 = shards w := by
  subst hw
  show StableHlo.after (List.flatten [hostOps0, hostOps0_1, hostOps0_2]) _ (Proc.devRef .tc main_v21) = _
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem value_of (c : Dev nD) (w : FVec Ideal S4x2048x1152 .bf16) (dq dk : FVec Ideal S2176x512 .bf16) (dv dr : FVec Ideal S2176x1024 .bf16) (g : FVec Ideal S2176x128 .bf16) (dp : FVec Ideal S2176x1024 .bf16)
    (hw : V m c main_v21 = w) (hq : m ((c : Thread nD τ).loc main_arg1) = dq) (hk : m ((c : Thread nD τ).loc main_arg2) = dk)
    (hv : m ((c : Thread nD τ).loc main_arg3) = dv) (hr : m ((c : Thread nD τ).loc main_arg4) = dr) (hg : V m c main_v16 = g)
    (hp : m ((c : Thread nD τ).loc main_arg6) = dp) :
    (dats m 0 c).arrAt 7 cfg0.N = fun i : S2176x2048.Idx =>
      (∑ k : Fin 512, dq (ix2 (i 0) k) * w (ix3 0 (i 1) ⟨k.val, by omega⟩)) + (∑ k : Fin 512, dk (ix2 (i 0) k) * w (ix3 0 (i 1) ⟨512 + k.val, by omega⟩))
      + (∑ k : Fin 128, dv (ix2 (i 0) ⟨k.val, by omega⟩) * w (ix3 0 (i 1) ⟨1024 + k.val, by omega⟩)) + (∑ k : Fin 1024, dv (ix2 (i 0) k) * w (ix3 1 (i 1) ⟨k.val, by omega⟩))
      + (∑ k : Fin 128, dr (ix2 (i 0) ⟨k.val, by omega⟩) * w (ix3 1 (i 1) ⟨1024 + k.val, by omega⟩)) + (∑ k : Fin 1024, dr (ix2 (i 0) k) * w (ix3 2 (i 1) ⟨k.val, by omega⟩))
      + (∑ k : Fin 128, g (ix2 (i 0) k) * w (ix3 2 (i 1) ⟨1024 + k.val, by omega⟩)) + (∑ k : Fin 1024, dp (ix2 (i 0) k) * w (ix3 3 (i 1) ⟨k.val, by omega⟩))
      + (∑ k : Fin 128, g (ix2 (i 0) k) * w (ix3 3 (i 1) ⟨1024 + k.val, by omega⟩)) := by
  refine (dats m 0 c).arrAt_eq_of_covers 7 _ (by decide +kernel) fun t hf j => ?_
  obtain ⟨e0, e1, e2, e3, e4, e5, e6, e7⟩ := idx t
  blk_simp
  rw [after0_7]
  unfold outsAt0
  frame_out
  idx_vars j
  pointwise [k0_pay1, k0_pay2, k0_pay3]
  subst hw hq hk hv hr hg hp
  blk_point [iblk, V, e0, e1, e2, e3, e4, e5, e6, e7]

end Cert.Own.InGrad

end
-- ==== Proof.InGrad.lean ====
/- The gradient of the input projection's operand: the nine products are the one product over all 4112 columns. -/
module

public import proofs.«01_k».proof.Proof.InGradRun

@[expose] public section

set_option maxRecDepth 16384

noncomputable section

namespace Cert.Own.InGrad

open Cert.InGradIdeal Cert.InGradIdeal.Gen Idealize.ShloMosaic Idealize.ShloMosaic.TcCoe Idealize.SL.Sem

variable (m : (ℓ : Loc nD τ sig) → Buf (Elt Ideal) ℓ)

theorem shards0 (w : FVec Ideal S2048x4112 .bf16) (r : Fin 2048) (q : Fin 1152) :
    shards w (ix3 0 r q) = if h : q.val < 1028 then w (ix2 r ⟨q.val, by omega⟩) else 0 := by
  unfold shards
  pointwise [shard0]

theorem shards1 (w : FVec Ideal S2048x4112 .bf16) (r : Fin 2048) (q : Fin 1152) :
    shards w (ix3 1 r q) = if h : q.val < 4 then 0 else if h : q.val - 4 < 1028 then w (ix2 r ⟨1028 + (q.val - 4), by omega⟩) else 0 := by
  unfold shards
  pointwise [shard1]

theorem shards2 (w : FVec Ideal S2048x4112 .bf16) (r : Fin 2048) (q : Fin 1152) :
    shards w (ix3 2 r q) = if h : q.val < 8 then 0 else if h : q.val - 8 < 1028 then w (ix2 r ⟨2056 + (q.val - 8), by omega⟩) else 0 := by
  unfold shards
  pointwise [shard2]

theorem shards3 (w : FVec Ideal S2048x4112 .bf16) (r : Fin 2048) (q : Fin 1152) :
    shards w (ix3 3 r q) = if h : q.val < 1024 then w (ix2 r ⟨3088 + q.val, by omega⟩)
      else if h : q.val - 1024 < 12 then 0 else if h : q.val - 1024 - 12 < 4 then w (ix2 r ⟨3084 + (q.val - 1024 - 12), by omega⟩) else 0 := by
  unfold shards
  pointwise [shard3]

/-- A sum of 1024 terms of which the first `p` stand in another sum. -/
theorem join (f : Fin 1024 → EReal) (p : ℕ) (hp : p ≤ 128) :
    (∑ k : Fin 128, if k.val < p then f ⟨k.val, by omega⟩ else 0) + (∑ k : Fin 1024, if k.val < p then 0 else f k) = ∑ k, f k := by
  have h : (∑ k : Fin 128, if k.val < p then f ⟨k.val, by omega⟩ else 0) = ∑ k : Fin 1024, if k.val < p then f k else 0 := by
    refine Eq.symm ((Fin.sum_univ_add (a := 128) (b := 896) (fun k : Fin (128 + 896) => if k.val < p then f k else 0)).trans ?_)
    refine (congrArg _ (Finset.sum_eq_zero fun k _ => if_neg ?_)).trans (add_zero _)
    have : (Fin.natAdd 128 k).val = 128 + k.val := rfl
    omega
  rw [h, ← Finset.sum_add_distrib]
  refine Finset.sum_congr rfl fun k _ => ?_
  split_ifs
  · exact add_zero _
  · exact zero_add _

theorem low (f : Fin 16 → EReal) : (∑ k : Fin 128, if h : k.val < 16 then f ⟨k.val, h⟩ else 0) = ∑ k, f k := by
  refine (Fin.sum_univ_add (a := 16) (b := 112) (fun k : Fin (16 + 112) => if h : k.val < 16 then f ⟨k.val, h⟩ else 0)).trans ?_
  refine (congrArg₂ (· + ·) (Finset.sum_congr rfl fun k _ => ?_) (Finset.sum_eq_zero fun k _ => dif_neg ?_)).trans (add_zero _)
  · exact dif_pos k.isLt
  · have : (Fin.natAdd 16 k).val = 16 + k.val := rfl
    omega

/-- A sum over six pieces laid side by side. -/
theorem six (w : FVec Ideal S2048x4112 .bf16) (dq dk : FVec Ideal S2176x512 .bf16) (dv dr : FVec Ideal S2176x1024 .bf16) (g : FVec Ideal S2176x16 .bf16) (dp : FVec Ideal S2176x1024 .bf16)
    (i : Fin 2176) (j : Fin 2048) :
    (∑ x : Fin 4112, (if h : x.val < 512 then dq (ix2 i ⟨x.val, h⟩) else if h : x.val - 512 < 512 then dk (ix2 i ⟨x.val - 512, h⟩)
      else if h : x.val - 512 - 512 < 1024 then dv (ix2 i ⟨x.val - 512 - 512, h⟩) else if h : x.val - 512 - 512 - 1024 < 1024 then dr (ix2 i ⟨x.val - 512 - 512 - 1024, h⟩)
      else if h : x.val - 512 - 512 - 1024 - 1024 < 16 then g (ix2 i ⟨x.val - 512 - 512 - 1024 - 1024, h⟩) else dp (ix2 i ⟨x.val - 512 - 512 - 1024 - 1024 - 16, by omega⟩)) * w (ix2 j x))
    = (∑ k : Fin 512, dq (ix2 i k) * w (ix2 j ⟨k.val, by omega⟩)) + (∑ k : Fin 512, dk (ix2 i k) * w (ix2 j ⟨512 + k.val, by omega⟩))
      + (∑ k : Fin 1024, dv (ix2 i k) * w (ix2 j ⟨1024 + k.val, by omega⟩)) + (∑ k : Fin 1024, dr (ix2 i k) * w (ix2 j ⟨2048 + k.val, by omega⟩))
      + (∑ k : Fin 16, g (ix2 i k) * w (ix2 j ⟨3072 + k.val, by omega⟩)) + (∑ k : Fin 1024, dp (ix2 i k) * w (ix2 j ⟨3088 + k.val, by omega⟩)) := by
  refine (Fin.sum_univ_add (a := 512 + 512 + 1024 + 1024 + 16) (b := 1024) _).trans (congrArg₂ (· + ·) ?_ ?_)
  · refine (Fin.sum_univ_add (a := 512 + 512 + 1024 + 1024) (b := 16) _).trans (congrArg₂ (· + ·) ?_ ?_)
    · refine (Fin.sum_univ_add (a := 512 + 512 + 1024) (b := 1024) _).trans (congrArg₂ (· + ·) ?_ ?_)
      · refine (Fin.sum_univ_add (a := 512 + 512) (b := 1024) _).trans (congrArg₂ (· + ·) ?_ ?_)
        · refine (Fin.sum_univ_add (a := 512) (b := 512) _).trans (congrArg₂ (· + ·) ?_ ?_)
          · refine Finset.sum_congr rfl fun k _ => congrArg₂ (· * ·) (dif_pos k.isLt) rfl
          · refine Finset.sum_congr rfl fun k _ => congrArg₂ (· * ·) ((dif_neg (show ¬(512 + k.val) < 512 by omega)).trans ((dif_pos (show 512 + k.val - 512 < 512 by omega)).trans (congrArg (fun e => dk (ix2 i e)) (Fin.ext (show 512 + k.val - 512 = k.val by omega))))) rfl
        · refine Finset.sum_congr rfl fun k _ => congrArg₂ (· * ·) ((dif_neg (show ¬(1024 + k.val) < 512 by omega)).trans ((dif_neg (show ¬1024 + k.val - 512 < 512 by omega)).trans ((dif_pos (show 1024 + k.val - 512 - 512 < 1024 by omega)).trans (congrArg (fun e => dv (ix2 i e)) (Fin.ext (show 1024 + k.val - 512 - 512 = k.val by omega)))))) rfl
      · refine Finset.sum_congr rfl fun k _ => congrArg₂ (· * ·) ((dif_neg (show ¬(2048 + k.val) < 512 by omega)).trans ((dif_neg (show ¬2048 + k.val - 512 < 512 by omega)).trans ((dif_neg (show ¬2048 + k.val - 512 - 512 < 1024 by omega)).trans ((dif_pos (show 2048 + k.val - 512 - 512 - 1024 < 1024 by omega)).trans (congrArg (fun e => dr (ix2 i e)) (Fin.ext (show 2048 + k.val - 512 - 512 - 1024 = k.val by omega))))))) rfl
    · refine Finset.sum_congr rfl fun k _ => congrArg₂ (· * ·) ((dif_neg (show ¬(3072 + k.val) < 512 by omega)).trans ((dif_neg (show ¬3072 + k.val - 512 < 512 by omega)).trans ((dif_neg (show ¬3072 + k.val - 512 - 512 < 1024 by omega)).trans ((dif_neg (show ¬3072 + k.val - 512 - 512 - 1024 < 1024 by omega)).trans ((dif_pos (show 3072 + k.val - 512 - 512 - 1024 - 1024 < 16 by omega)).trans (congrArg (fun e => g (ix2 i e)) (Fin.ext (show 3072 + k.val - 512 - 512 - 1024 - 1024 = k.val by omega)))))))) rfl
  · refine Finset.sum_congr rfl fun k _ => congrArg₂ (· * ·) ((dif_neg (show ¬(3088 + k.val) < 512 by omega)).trans ((dif_neg (show ¬3088 + k.val - 512 < 512 by omega)).trans ((dif_neg (show ¬3088 + k.val - 512 - 512 < 1024 by omega)).trans ((dif_neg (show ¬3088 + k.val - 512 - 512 - 1024 < 1024 by omega)).trans ((dif_neg (show ¬3088 + k.val - 512 - 512 - 1024 - 1024 < 16 by omega)).trans (congrArg (fun e => dp (ix2 i e)) (Fin.ext (show 3088 + k.val - 512 - 512 - 1024 - 1024 - 16 = k.val by omega)))))))) rfl

theorem nine (w : FVec Ideal S2048x4112 .bf16) (dq dk : FVec Ideal S2176x512 .bf16) (dv dr : FVec Ideal S2176x1024 .bf16) (g : FVec Ideal S2176x16 .bf16) (dp : FVec Ideal S2176x1024 .bf16)
    (g' : FVec Ideal S2176x128 .bf16) (hg : g' = fun i : S2176x128.Idx => if h : (i 1).val < 16 then g (ix2 (i 0) ⟨(i 1).val, h⟩) else 0) (i : Fin 2176) (j : Fin 2048) :
      (∑ k : Fin 512, dq (ix2 i k) * shards w (ix3 0 j ⟨k.val, by omega⟩)) + (∑ k : Fin 512, dk (ix2 i k) * shards w (ix3 0 j ⟨512 + k.val, by omega⟩))
      + (∑ k : Fin 128, dv (ix2 i ⟨k.val, by omega⟩) * shards w (ix3 0 j ⟨1024 + k.val, by omega⟩)) + (∑ k : Fin 1024, dv (ix2 i k) * shards w (ix3 1 j ⟨k.val, by omega⟩))
      + (∑ k : Fin 128, dr (ix2 i ⟨k.val, by omega⟩) * shards w (ix3 1 j ⟨1024 + k.val, by omega⟩)) + (∑ k : Fin 1024, dr (ix2 i k) * shards w (ix3 2 j ⟨k.val, by omega⟩))
      + (∑ k : Fin 128, g' (ix2 i k) * shards w (ix3 2 j ⟨1024 + k.val, by omega⟩)) + (∑ k : Fin 1024, dp (ix2 i k) * shards w (ix3 3 j ⟨k.val, by omega⟩))
      + (∑ k : Fin 128, g' (ix2 i k) * shards w (ix3 3 j ⟨1024 + k.val, by omega⟩))
    = (∑ k : Fin 512, dq (ix2 i k) * w (ix2 j ⟨k.val, by omega⟩)) + (∑ k : Fin 512, dk (ix2 i k) * w (ix2 j ⟨512 + k.val, by omega⟩))
      + (∑ k : Fin 1024, dv (ix2 i k) * w (ix2 j ⟨1024 + k.val, by omega⟩)) + (∑ k : Fin 1024, dr (ix2 i k) * w (ix2 j ⟨2048 + k.val, by omega⟩))
      + (∑ k : Fin 16, g (ix2 i k) * w (ix2 j ⟨3072 + k.val, by omega⟩)) + (∑ k : Fin 1024, dp (ix2 i k) * w (ix2 j ⟨3088 + k.val, by omega⟩)) := by
  subst hg
  have hv := join (fun k => dv (ix2 i k) * w (ix2 j ⟨1024 + k.val, by omega⟩)) 4 (by decide)
  have hr := join (fun k => dr (ix2 i k) * w (ix2 j ⟨2048 + k.val, by omega⟩)) 8 (by decide)
  have hl := low (fun k => g (ix2 i k) * w (ix2 j ⟨3072 + k.val, by omega⟩))
  rw [← hv, ← hr, ← hl]
  simp only [shards0, shards1, shards2, shards3]
  have e3 : ∀ a b c d e f g' h k : EReal, a + b + c + d + e + f + g' + h + k = a + b + (c + d) + (e + f) + (g' + k) + h := fun a b c d e f g' h k => by
    rw [add_right_comm _ h k]; simp only [add_assoc]
  rw [e3]
  refine congrArg₂ (· + ·) (congrArg₂ (· + ·) (congrArg₂ (· + ·) (congrArg₂ (· + ·) (congrArg₂ (· + ·) ?_ ?_) (congrArg₂ (· + ·) ?_ ?_)) (congrArg₂ (· + ·) ?_ ?_)) (Finset.sum_add_distrib.symm.trans ?_)) ?_
  all_goals refine Finset.sum_congr rfl fun k _ => ?_
  · rw [dif_pos (by omega)]
  · rw [dif_pos (by omega)]
  · by_cases hk : k.val < 4
    · rw [dif_pos (by omega), if_pos hk]
    · rw [dif_neg (by omega), if_neg hk, mul_zero]
  · by_cases hk : k.val < 4
    · rw [dif_pos (by omega), if_pos hk, mul_zero]
    · rw [dif_neg (by omega), if_neg hk, dif_pos (by omega)]
      exact congrArg (fun e => dv (ix2 i k) * w (ix2 j e)) (Fin.ext (show 1028 + (k.val - 4) = 1024 + k.val by omega))
  · by_cases hk : k.val < 8
    · rw [dif_neg (by omega), dif_pos (by omega), if_pos hk]
      exact congrArg (fun e => dr (ix2 i _) * w (ix2 j e)) (Fin.ext (show 1028 + (1024 + k.val - 4) = 2048 + k.val by omega))
    · rw [dif_neg (by omega), dif_neg (by omega), if_neg hk, mul_zero]
  · by_cases hk : k.val < 8
    · rw [dif_pos (by omega), if_pos hk, mul_zero]
    · rw [dif_neg (by omega), if_neg hk, dif_pos (by omega)]
      exact congrArg (fun e => dr (ix2 i k) * w (ix2 j e)) (Fin.ext (show 2056 + (k.val - 8) = 2048 + k.val by omega))
  · show (if h : k.val < 16 then g (ix2 i ⟨k.val, h⟩) else 0) * _ + (if h : k.val < 16 then g (ix2 i ⟨k.val, h⟩) else 0) * _ = _
    by_cases hk : k.val < 16
    · rw [dif_pos hk, dif_pos hk, dif_neg (show ¬1024 + k.val < 8 by omega), dif_neg (show ¬1024 + k.val < 1024 by omega)]
      by_cases hq : k.val < 12
      · rw [dif_pos (by omega), dif_pos (by omega), mul_zero, add_zero]
        exact congrArg (fun e => g (ix2 i ⟨k.val, hk⟩) * w (ix2 j e)) (Fin.ext (show 2056 + (1024 + k.val - 8) = 3072 + k.val by omega))
      · rw [dif_neg (by omega), dif_neg (by omega), dif_pos (by omega), mul_zero, zero_add]
        exact congrArg (fun e => g (ix2 i ⟨k.val, hk⟩) * w (ix2 j e)) (Fin.ext (show 3084 + (1024 + k.val - 1024 - 12) = 3072 + k.val by omega))
    · rw [dif_neg hk, dif_neg hk, zero_mul, zero_mul, add_zero]
  · rw [dif_pos (by omega)]

theorem algebraic : algebraic_InGradIdeal_RefInGradIdeal := by
  intro m g m' g' _ hm
  refine ⟨fun c => (dats m 0 c).arrAt 7 cfg0.N, Cert.InGradIdeal.Value.run_blocks m g,
    (θ_run _ _ _).mono (fun r h c => ⟨(h c).1.trans ?_, (h c).2⟩) (Cert.RefInGradIdeal.Value.run m' g')⟩
  rw [(hm c).1, (hm c).2.1, (hm c).2.2.1, (hm c).2.2.2.1, (hm c).2.2.2.2.1, (hm c).2.2.2.2.2.1, (hm c).2.2.2.2.2.2]
  refine Eq.trans ?_ (value_of m c _ _ _ _ _ _ _ (entry_w m c _ rfl) rfl rfl rfl rfl (entry_g m c _ rfl) rfl).symm
  funext i
  idx_vars i
  refine Eq.trans ?_ (nine _ _ _ _ _ _ _ _ rfl i0 i1).symm
  pointwise
  exact six _ _ _ _ _ _ _ i0 i1

end Cert.Own.InGrad

end
-- ==== Proof.OutProj.lean ====
/- The output projection added to the residual stream. -/
module

public import proofs.«01_k».proof.Defs
public import proofs.«01_k».proof.Proof.Gen.OutProjIdeal.Value
public import proofs.«01_k».proof.Proof.Gen.RefOutProjIdeal.Run
public import Idealize.ShloMosaic.Lib.Pipeline.ValueKit
public import Idealize.ShloMosaic.Lib.Pointwise

@[expose] public section

set_option maxRecDepth 16384

noncomputable section

namespace Cert.Own.OutProj

open Cert.OutProjIdeal Cert.OutProjIdeal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![0, 0] ∧ win0_2.index t = ![0, t.val] ∧ win0_3.index t = ![0, t.val] ∧ win0_4.index t = ![0, t.val] :=
  (by decide +kernel : ∀ t : Fin grid0.N, win0_0.index t = ![0, 0] ∧ win0_1.index t = ![0, 0] ∧ win0_2.index t = ![0, t.val] ∧ win0_3.index t = ![0, t.val] ∧ win0_4.index t = ![0, t.val]) t

theorem value (c : Dev nD) (x : FVec Ideal S2176x1024 .bf16) (y : FVec Ideal S2176x1024 .bf16) (w : FVec Ideal S2048x2048 .bf16) (z : FVec Ideal S2176x2048 .f32)
    (hx : m ((c : Thread nD τ).loc main_arg0) = x) (hy : m ((c : Thread nD τ).loc main_arg1) = y)
    (hw : m ((c : Thread nD τ).loc main_arg2) = w) (hz : m ((c : Thread nD τ).loc main_arg3) = z) :
    (dats m 0 c).arrAt 4 cfg0.N = fun i : S2176x2048.Idx =>
      z i + ((∑ k : Fin 1024, x (ix2 (i 0) k) * w (ix2 ⟨k.val, by omega⟩ (i 1)))
        + ∑ k : Fin 1024, y (ix2 (i 0) k) * w (ix2 ⟨1024 + k.val, by omega⟩ (i 1))) := by
  refine (dats m 0 c).arrAt_eq_of_covers 4 _ (by decide +kernel) fun t hf j => ?_
  obtain ⟨e0, e1, e2, e3, e4⟩ := idx t
  blk_simp
  rw [after0_4]
  unfold outsAt0
  frame_out
  idx_vars j
  pointwise [k0_pay1]
  subst hx hy hw hz
  blk_point [iblk, V, e0, e1, e2, e3, e4]

theorem algebraic : algebraic_OutProjIdeal_RefOutProjIdeal := by
  intro m g m' g' _ hm
  refine ⟨fun c => (dats m 0 c).arrAt 4 cfg0.N, Cert.OutProjIdeal.Value.run_blocks m g,
    (θ_run _ _ _).mono (fun r h c => ⟨(h c).1.trans ?_, (h c).2⟩) (Cert.RefOutProjIdeal.Value.run m' g')⟩
  rw [(hm c).1, (hm c).2.1, (hm c).2.2.1, (hm c).2.2.2]
  refine Eq.trans ?_ (value m c _ _ _ _ rfl rfl rfl rfl).symm
  funext i
  idx_vars i
  pointwise

end Cert.Own.OutProj

end
-- ==== Proof.MlpDown.lean ====
/- The MLP's second product: the residual copied into a scratch array, eight pieces of the contraction added to it, then copied out. -/
module

public import proofs.«01_k».proof.Defs
public import proofs.«01_k».proof.Proof.Gen.MlpDownIdeal.Frame
public import proofs.«01_k».proof.Proof.Gen.RefMlpDownIdeal.Run
public import Idealize.ShloMosaic.Lib.Pipeline.ValueKit
public import Idealize.ShloMosaic.Lib.Pointwise
public import Idealize.ShloMosaic.Lib.VecWindow

@[expose] public section

set_option maxRecDepth 16384

noncomputable section

namespace Cert.Own.MlpDown

open Cert.MlpDownIdeal Cert.MlpDownIdeal.Gen Idealize.ShloMosaic Idealize.ShloMosaic.TcCoe Idealize.SL.Sem

variable (m : (ℓ : Loc nD τ sig) → Buf (Elt Ideal) ℓ)

theorem idx (t : Fin cfg0.N) : win0_0.index t = ![0, t.val] ∧ win0_1.index t = ![t.val, 0] :=
  (by decide +kernel : ∀ t : Fin grid0.N, win0_0.index t = ![0, t.val] ∧ win0_1.index t = ![t.val, 0]) t

/-- The product at one point: 1024 columns of the activation against the same rows of the weight. -/
def term (a : FVec Ideal S2176x8192 .bf16) (w : FVec Ideal S8192x2048 .bf16) (t : Fin cfg0.N) (j : S2176x2048.Idx) : EReal :=
  ∑ k : Fin 1024, a (ix2 (j 0) ⟨t.val * 1024 + k.val, by have : t.val < 8 := t.isLt; omega⟩)
    * w (ix2 ⟨t.val * 1024 + k.val, by have : t.val < 8 := t.isLt; omega⟩ (j 1))

theorem first (c : Dev nD) (a : FVec Ideal S2176x8192 .bf16) (w : FVec Ideal S8192x2048 .bf16) (h : FVec Ideal S2176x2048 .f32)
    (ha : m ((c : Thread nD τ).loc main_arg0) = a) (hw : m ((c : Thread nD τ).loc main_arg1) = w)
    (hh : m ((c : Thread nD τ).loc main_arg2) = h) (t : Fin cfg0.N) (ht : t.val % 8 = 0) (j : S2176x2048.Idx) :
    (outsAt0 m c t.val t.isLt).1 j = h j + term a w t j := by
  obtain ⟨e0, e1⟩ := idx t
  have : t.val < 8 := t.isLt
  rw [outsAt0_A m c t ht (by omega)]
  unfold term
  frame_out
  idx_vars j
  pointwise [k0_pay1]
  unfold View.readCov
  rw [View.readAt_full (s := S2176x2048) (View.whole cc0_scratch0) _ (off := ![0, 0]) inb_S2176x2048_S2176x2048_0_0,
    View.read_writes_whole]
  dsimp only [ReadAs.apply]
  subst ha hw hh
  blk_point [iblk, V, e0, e1]

theorem next (c : Dev nD) (a : FVec Ideal S2176x8192 .bf16) (w : FVec Ideal S8192x2048 .bf16)
    (ha : m ((c : Thread nD τ).loc main_arg0) = a) (hw : m ((c : Thread nD τ).loc main_arg1) = w)
    (t : Fin cfg0.N) (ht : ¬t.val % 8 = 0) (j : S2176x2048.Idx) :
    (outsAt0 m c t.val t.isLt).1 j = (outsAt0 m c (t.val - 1) (Nat.lt_of_le_of_lt (Nat.sub_le _ _) t.isLt)).1 j + term a w t j := by
  obtain ⟨e0, e1⟩ := idx t
  have : t.val < 8 := t.isLt
  by_cases h2 : t.val % 8 = 7
  · rw [outsAt0_C m c t ht h2]
    unfold term
    frame_out
    idx_vars j
    pointwise [k0_pay1]
    subst ha hw
    blk_point [iblk, V, e0, e1]
    exact congrFun ((Memref.isWhole_whole _).read_unread _) _
  · rw [outsAt0_B m c t ht h2]
    unfold term
    frame_out
    idx_vars j
    pointwise [k0_pay1]
    subst ha hw
    blk_point [iblk, V, e0, e1]
    exact congrFun ((Memref.isWhole_whole _).read_unread _) _

theorem out (c : Dev nD) : hbG0 m c main_v0 = (outsAt0 m c 7 (by decide)).1 := by
  have h := outsAt0_C m c ⟨7, by decide⟩ (by decide) (by decide)
  rw [hbG0_1]
  show (outsAt0 m c 7 (by decide)).2 = _
  rw [h]
  dsimp only
  unfold hbw0_C_1 sout0_C_0
  unfold kernelRun0_C
  dsimp only
  rw [View.write_whole_univ]
  unfold kernelRun0_C.sl.dma5 kernelRun0_C.sl.HS0_1
  dsimp only [ReadAs.apply]
  refine (View.read_writes_full _ _ _ _ _).trans ?_
  exact (View.read_writes_full (Val := Elt Ideal) VS0_0 VS0_0.junk (off := ![0, 0]) inb_S2176x2048_S2176x2048_0_0 _ []).symm

theorem value (c : Dev nD) (a : FVec Ideal S2176x8192 .bf16) (w : FVec Ideal S8192x2048 .bf16) (h : FVec Ideal S2176x2048 .f32)
    (ha : m ((c : Thread nD τ).loc main_arg0) = a) (hw : m ((c : Thread nD τ).loc main_arg1) = w)
    (hh : m ((c : Thread nD τ).loc main_arg2) = h) :
    hbG0 m c main_v0 = fun i : S2176x2048.Idx => h i + ∑ k : Fin 8192, a (ix2 (i 0) k) * w (ix2 k (i 1)) := by
  rw [out]
  funext j
  refine (Pipeline.eq_sum_fin_of_reset_step_apply_last (fun n h => (outsAt0 m c n h).1) 8 h _
    (first m c a w h ha hw hh) (next m c a w ha hw) (by decide) ⟨7, by decide⟩ rfl j).trans ?_
  unfold term
  refine congrArg (h j + ·) (Fin.sum_mul_add_congr fun t k hl => rfl)

theorem algebraic : algebraic_MlpDownIdeal_RefMlpDownIdeal := by
  intro m g m' g' _ hm
  refine ⟨fun c => hbG0 m c main_v0,
    (θ_run_and (Gen.unchanged m g) (run_main m g)).mono (fun r h c => ⟨h.2.written c (by decide), h.1 c⟩),
    (θ_run _ _ _).mono (fun r h c => ⟨(h c).1.trans ?_, (h c).2⟩) (Cert.RefMlpDownIdeal.Value.run m' g')⟩
  rw [(hm c).1, (hm c).2.1, (hm c).2.2]
  refine Eq.trans ?_ (value m c _ _ _ rfl rfl rfl).symm
  funext i
  idx_vars i
  pointwise

end Cert.Own.MlpDown

end
-- ==== Proof.NormMath.lean ====
/- The gradient of a row divided by its root mean square, as two terms over the extended reals. -/
module

public import Idealize.ShloMosaic.PureOps.Ideal
public import Idealize.ShloMosaic.Lib.IdealHost

@[expose] public section

noncomputable section

namespace Cert.Own.Norm

open Idealize.ShloMosaic

theorem bits_count : Ideal.ofBits .f32 0x45000000#32 = ((2048 : ℝ) : EReal) := by
  simp [Ideal.ofBits, Ideal.ieee, -EReal.coe_mul]; norm_num

theorem bits_half : Ideal.ofBits .f32 0xBF000000#32 = ((-(1 / 2) : ℝ) : EReal) := by
  simp [Ideal.ofBits, Ideal.ieee, -EReal.coe_mul, -EReal.coe_neg]; norm_num

theorem bits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem square_nonneg (x : EReal) : 0 ≤ x * x := by
  induction x with
  | bot => simp
  | top => simp
  | coe r => rw [← EReal.coe_mul]; exact EReal.coe_nonneg.mpr (mul_self_nonneg r)

theorem sum_mul_of_real {n : ℕ} (f : Fin n → EReal) {r : ℝ} (hr : 0 ≤ r) : (∑ k, f k * (r : EReal)) = (∑ k, f k) * (r : EReal) := by
  refine (map_sum (⟨⟨fun x : EReal => x * (r : EReal), zero_mul _⟩, fun x y => ?_⟩ : EReal →+ EReal) f Finset.univ).symm
  exact EReal.right_distrib_of_nonneg_of_ne_top (EReal.coe_nonneg.mpr hr) (EReal.coe_ne_top r) x y

theorem halves (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- The mean of the squares with the small constant added: infinite, or a positive real. -/
theorem mean_cases {n : ℕ} (x : Fin n → EReal) :
    let V := Ideal.div (∑ k, x k * x k) (Ideal.ofBits .f32 0x45000000#32) + Ideal.ofBits .f32 0x358637BD#32
    V = ⊤ ∨ ∃ v : ℝ, 0 < v ∧ V = (v : EReal) := by
  intro V
  obtain ⟨e, he, hb⟩ := bits_eps
  have hs : 0 ≤ ∑ k, x k * x k := Finset.sum_nonneg fun k _ => square_nonneg _
  have hV : V = (∑ k, x k * x k) * ((1 / 2048 : ℝ) : EReal) + (e : EReal) := by
    show Ideal.div _ _ + _ = _
    rw [bits_count, Ideal.div_coe (by norm_num), hb]
  generalize (∑ k, x k * x k) = s at hs hV
  induction s with
  | bot => exact absurd hs (by simp)
  | top => exact .inl (by rw [hV, EReal.top_mul_coe_of_pos (by norm_num)]; rfl)
  | coe r =>
    refine .inr ⟨r * (1 / 2048) + e, ?_, by rw [hV, ← EReal.coe_mul, ← EReal.coe_add]⟩
    have : 0 ≤ r := EReal.coe_nonneg.mp hs
    positivity

/-- One entry of the gradient: the kernel's subtraction of the mean is the derivative's two equal terms. -/
theorem row {n : ℕ} (x g : Fin n → EReal) (j : Fin n) :
    let C := Ideal.ofBits .f32 0x45000000#32
    let V := Ideal.div (∑ k, x k * x k) C + Ideal.ofBits .f32 0x358637BD#32
    let R := Ideal.rsqrt V
    let d := Ideal.div ((∑ k, x k * g k) * (Ideal.ofBits .f32 0xBF000000#32 * Ideal.div R V)) C
    R * (g j - (x j * R) * Ideal.div (∑ k, g k * (x k * R)) C) = g j * R + (x j * d + d * x j) := by
  intro C V R d
  rcases mean_cases x with h | ⟨v, hv, h⟩
  · have hR : R = 0 := by show Ideal.rsqrt V = 0; rw [show V = ⊤ from h]; rfl
    have hd : d = 0 := by
      show Ideal.div (_ * (_ * Ideal.div R V)) C = 0
      rw [hR, show V = ⊤ from h]
      have : Ideal.div 0 ⊤ = 0 := by unfold Ideal.div; simp
      rw [this, mul_zero, mul_zero]
      show Ideal.div 0 (Ideal.ofBits .f32 0x45000000#32) = 0
      rw [bits_count, Ideal.div_coe (by norm_num), zero_mul]
    rw [hR, hd]; simp
  · obtain ⟨r, hr, hR, hrv⟩ : ∃ r : ℝ, 0 ≤ r ∧ R = (r : EReal) ∧ r * (1 / v) = r * r * r := by
      refine ⟨(Real.sqrt v)⁻¹, by positivity, ?_, ?_⟩
      · show Ideal.rsqrt V = _
        rw [show V = (v : EReal) from h, Ideal.rsqrt_coe, if_neg (not_lt.mpr hv.le), if_neg hv.ne']
      · have : (Real.sqrt v)⁻¹ * (Real.sqrt v)⁻¹ = 1 / v := by
          rw [← mul_inv, Real.mul_self_sqrt hv.le, one_div]
        rw [← this, mul_assoc]
    have hc : ∀ s : EReal, Ideal.div s C = s * ((1 / 2048 : ℝ) : EReal) := fun s => by
      show Ideal.div s (Ideal.ofBits .f32 0x45000000#32) = _
      rw [bits_count, Ideal.div_coe (by norm_num)]
    have hS : (∑ k, g k * (x k * R)) = (∑ k, x k * g k) * (r : EReal) := by
      rw [← sum_mul_of_real _ hr, hR]
      exact Finset.sum_congr rfl fun k _ => by rw [← mul_assoc, mul_comm (g k)]
    have hd : d = ((-(1 / 2) : ℝ) : EReal) * ((∑ k, x k * g k) * ((r * r * r * (1 / 2048) : ℝ) : EReal)) := by
      show Ideal.div (_ * (Ideal.ofBits .f32 0xBF000000#32 * Ideal.div R V)) C = _
      rw [hc, show V = (v : EReal) from h, hR, Ideal.div_coe hv.ne', bits_half, ← EReal.coe_mul, hrv, EReal.coe_mul (r * r * r)]
      simp only [mul_assoc, mul_left_comm, mul_comm]
    generalize (∑ k, x k * g k) = S at hS hd
    rw [hS, hc, hR, hd, EReal.mul_sub_of_nonneg_of_ne_top (EReal.coe_nonneg.mpr hr) (EReal.coe_ne_top r),
      mul_comm _ (x j), mul_left_comm (x j), halves, mul_comm (r : EReal) (g j), sub_eq_add_neg]
    refine congrArg (fun y => g j * (r : EReal) + -y) ?_
    simp only [EReal.coe_mul]
    simp only [mul_assoc, mul_left_comm, mul_comm]

end Cert.Own.Norm

end
-- ==== Proof.NormBwd.lean ====
/- The gradient of the second norm: a grid point writes a block of rows and adds to the row of the weight's gradient. -/
module

public import proofs.«01_k».proof.Defs
public import proofs.«01_k».proof.Proof.Gen.NormBwdIdeal.Value
public import proofs.«01_k».proof.Proof.Gen.RefNormBwdIdeal.Run
public import Idealize.ShloMosaic.Lib.Pipeline.ValueKit
public import Idealize.ShloMosaic.Lib.Pointwise
public import proofs.«01_k».proof.Proof.NormMath

@[expose] public section

set_option maxRecDepth 16384

noncomputable section

namespace Cert.Own.NormBwd

open Cert.NormBwdIdeal Cert.NormBwdIdeal.Gen Idealize.ShloMosaic Idealize.ShloMosaic.TcCoe Idealize.SL.Sem

variable (m : (ℓ : Loc nD τ sig) → Buf (Elt Ideal) ℓ)

theorem idx (t : Fin cfg0.N) : win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0]) t

/-- The reciprocal root mean square of a row. -/
def rr (h : FVec Ideal S2176x2048 .f32) (i : Fin 2176) : EReal :=
  Ideal.rsqrt (Ideal.div (∑ k : Fin 2048, h (ix2 i k) * h (ix2 i k)) (Ideal.ofBits .f32 0x45000000#32) + Ideal.ofBits .f32 0x358637BD#32)

theorem rows (c : Dev nD) (dn h : FVec Ideal S2176x2048 .f32) (dres : FVec Ideal S2176x2048 .bf16) (w : FVec Ideal S1x2048 .f32)
    (hdn : m ((c : Thread nD τ).loc main_arg0) = dn) (hh : m ((c : Thread nD τ).loc main_arg1) = h)
    (hdres : m ((c : Thread nD τ).loc main_arg2) = dres) (hw : m ((c : Thread nD τ).loc main_arg3) = w) :
    (dats m 0 c).arrAt 4 cfg0.N = fun i : S2176x2048.Idx =>
      dres i + rr h (i 0) * (dn i * w (ix2 0 (i 1)) - (h i * rr h (i 0)) * Ideal.div (∑ k : Fin 2048, dn (ix2 (i 0) k) * w (ix2 0 k) * (h (ix2 (i 0) k) * rr h (i 0))) (Ideal.ofBits .f32 0x45000000#32)) := by
  refine (dats m 0 c).arrAt_eq_of_covers 4 _ (by decide +kernel) fun t hf j => ?_
  obtain ⟨e0, e1, e2, e3, e4, e5⟩ := idx t
  blk_simp
  rw [after0_4]
  unfold rr
  have : t.val < 8 := t.isLt
  by_cases ht : t.val % 8 = 0
  · rw [outsAt0_A m c t ht]
    frame_out
    idx_vars j
    pointwise [k0_pay1, k0_pay3, k0_pay4, k0_pay6, k0_pay7]
    subst hdn hh hdres hw
    blk_point [iblk, V, e0, e1, e2, e3, e4]
  · rw [outsAt0_B m c t ht]
    frame_out
    idx_vars j
    pointwise [k0_pay1, k0_pay3, k0_pay4, k0_pay6, k0_pay7]
    subst hdn hh hdres hw
    blk_point [iblk, V, e0, e1, e2, e3, e4]

/-- What grid point `t` adds to the weight's gradient. -/
def term (dn h : FVec Ideal S2176x2048 .f32) (t : Fin cfg0.N) (i : S1x2048.Idx) : EReal :=
  ∑ k : Fin 272, dn (ix2 ⟨t.val * 272 + k.val, by have : t.val < 8 := t.isLt; omega⟩ (i 1)) * (h (ix2 ⟨t.val * 272 + k.val, by have : t.val < 8 := t.isLt; omega⟩ (i 1)) * rr h ⟨t.val * 272 + k.val, by have : t.val < 8 := t.isLt; omega⟩)

theorem first (c : Dev nD) (dn h : FVec Ideal S2176x2048 .f32)
    (hdn : m ((c : Thread nD τ).loc main_arg0) = dn) (hh : m ((c : Thread nD τ).loc main_arg1) = h) (t : Fin cfg0.N) (ht : t.val % 8 = 0) (j : S1x2048.Idx) :
    (outsAt0 m c t.val t.isLt).2 j = 0 + term dn h t j := by
  obtain ⟨e0, e1, e2, e3, e4, e5⟩ := idx t
  have : t.val < 8 := t.isLt
  rw [outsAt0_A m c t ht]
  unfold term rr
  frame_out
  idx_vars j
  pointwise [k0_pay2, k0_pay3, k0_pay4, k0_pay5]
  subst hdn hh
  blk_point [iblk, V, e0, e1]

theorem next (c : Dev nD) (dn h : FVec Ideal S2176x2048 .f32)
    (hdn : m ((c : Thread nD τ).loc main_arg0) = dn) (hh : m ((c : Thread nD τ).loc main_arg1) = h) (t : Fin cfg0.N) (ht : ¬t.val % 8 = 0) (j : S1x2048.Idx) :
    (outsAt0 m c t.val t.isLt).2 j = (outsAt0 m c (t.val - 1) (Nat.lt_of_le_of_lt (Nat.sub_le _ _) t.isLt)).2 j + term dn h t j := by
  obtain ⟨e0, e1, e2, e3, e4, e5⟩ := idx t
  have : t.val < 8 := t.isLt
  rw [outsAt0_B m c t ht]
  unfold term rr
  frame_out
  idx_vars j
  pointwise [k0_pay2, k0_pay3, k0_pay4, k0_pay5]
  subst hdn hh
  blk_point [iblk, V, e0, e1]

theorem weight (c : Dev nD) (dn h : FVec Ideal S2176x2048 .f32)
    (hdn : m ((c : Thread nD τ).loc main_arg0) = dn) (hh : m ((c : Thread nD τ).loc main_arg1) = h) :
    (dats m 0 c).arrAt 5 cfg0.N = fun i : S1x2048.Idx => ∑ k : Fin 2176, dn (ix2 k (i 1)) * (h (ix2 k (i 1)) * rr h k) := by
  refine (dats m 0 c).arrAt_eq_of_covers 5 _ (by decide +kernel) fun t hf j => ?_
  have ht : t.val + 1 = cfg0.N := (by decide +kernel : ∀ t : Fin grid0.N, (cfg0.win 5).flush t = true → t.val + 1 = grid0.N) t hf
  obtain ⟨e0, e1, e2, e3, e4, e5⟩ := idx t
  blk_simp
  rw [after0_5]
  refine (Pipeline.eq_sum_fin_of_reset_step_apply_last (fun n h => (outsAt0 m c n h).2) 8 (fun _ => 0) _
    (first m c dn h hdn hh) (next m c dn h hdn hh) (by decide) t ht j).trans ?_
  rw [zero_add]
  unfold term
  refine (Fin.sum_mul_add_congr (f := fun k : Fin 2176 => dn (ix2 k (j 1)) * (h (ix2 k (j 1)) * rr h k)) fun t k hl => rfl).trans ?_
  idx_vars j
  blk_point [e5]

theorem algebraic : algebraic_NormBwdIdeal_RefNormBwdIdeal := by
  intro m g m' g' _ hm
  refine ⟨fun c => (dats m 0 c).arrAt 4 cfg0.N, fun c => (dats m 0 c).arrAt 5 cfg0.N, (θ_run _ _ _).mono (fun r h c => ⟨(h c).1, (h c).2.1, (h c).2.2⟩) (Cert.NormBwdIdeal.Value.run_blocks m g),
    (θ_run _ _ _).mono (fun r h c => ⟨(h c).1.trans ?_, (h c).2.1.trans ?_, (h c).2.2⟩) (Cert.RefNormBwdIdeal.Value.run m' g')⟩
  · rw [(hm c).1, (hm c).2.1, (hm c).2.2.1, (hm c).2.2.2]
    refine Eq.trans ?_ (rows m c _ _ _ _ rfl rfl rfl rfl).symm
    funext i
    idx_vars i
    unfold rr
    pointwise
    simp only [Fin.sum_univ_one]
    exact congrArg _ ((add_assoc _ _ _).trans (Norm.row (n := 2048) (fun k => (m (c.tc.loc main_arg1) (ix2 i0 k) : EReal)) (fun k => HMul.hMul (α := EReal) (β := EReal) (γ := EReal) (m (c.tc.loc main_arg0) (ix2 i0 k)) (m (c.tc.loc main_arg3) (ix2 0 k))) i1).symm)
  · rw [(hm c).1, (hm c).2.1]
    refine Eq.trans ?_ (weight m c _ _ rfl rfl).symm
    funext i
    idx_vars i
    unfold rr
    pointwise
    exact Finset.sum_congr rfl fun k _ => mul_comm _ _

end Cert.Own.NormBwd

end
-- ==== Proof.AdamRule.lean ====
/- One weight's AdamW step as a function of the weight, its gradient and the two moments. -/
module

public import Idealize.ShloMosaic.Lib.Pointwise

@[expose] public section

noncomputable section

namespace Cert.Own.AdamRule

open Idealize.ShloMosaic

/-- The first moment after the step. -/
def mean (g m : EReal) : EReal := Ideal.ofBits .f32 0x3F666666#32 * m + Ideal.ofBits .f32 0x3DCCCCCD#32 * g

/-- The second moment after the step. -/
def square (g v : EReal) : EReal := Ideal.ofBits .f32 0x3F7FBE77#32 * v + Ideal.ofBits .f32 0x3A83126F#32 * (g * g)

/-- What the step adds to the weight. -/
def delta (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32) + Ideal.ofBits .f32 0x3C23D70A#32 * w)

end Cert.Own.AdamRule

end
-- ==== Proof.AdamW.lean ====
/- The AdamW step of one device's part of either MLP weight, 256 rows at a grid point. -/
module

public import proofs.«01_k».proof.Defs
public import proofs.«01_k».proof.Proof.Gen.AdamWIdeal.Value
public import proofs.«01_k».proof.Proof.Gen.RefAdamWIdeal.Run
public import proofs.«01_k».proof.Proof.AdamRule
public import Idealize.ShloMosaic.Lib.Pipeline.ValueKit
public import Idealize.ShloMosaic.Lib.Pointwise

@[expose] public section

set_option maxRecDepth 16384

noncomputable section

namespace Cert.Own.AdamW

open Cert.AdamWIdeal Cert.AdamWIdeal.Gen Idealize.ShloMosaic Idealize.ShloMosaic.TcCoe Idealize.SL.Sem

variable (m : (ℓ : Loc nD τ sig) → Buf (Elt Ideal) ℓ)

theorem idx (t : Fin cfg0.N) : win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0]) t

theorem passed (c : Dev nD) (g : FVec Ideal S2048x2048 .f32) (hg : m ((c : Thread nD τ).loc main_arg1) = g) :
    (dats m 0 c).arrAt 4 cfg0.N = g := by
  refine (dats m 0 c).arrAt_eq_of_covers 4 _ (by decide +kernel) fun t hf j => ?_
  obtain ⟨e0, e1, e2, e3, e4, e5, e6, e7⟩ := idx t
  blk_simp
  rw [after0_4]
  unfold outsAt0
  frame_out
  idx_vars j
  subst hg
  blk_point [iblk, V, e1, e4]

theorem mean (c : Dev nD) (g a : FVec Ideal S2048x2048 .f32) (hg : m ((c : Thread nD τ).loc main_arg1) = g) (ha : m ((c : Thread nD τ).loc main_arg2) = a) :
    (dats m 0 c).arrAt 6 cfg0.N = fun i : S2048x2048.Idx => AdamRule.mean (g i) (a i) := by
  refine (dats m 0 c).arrAt_eq_of_covers 6 _ (by decide +kernel) fun t hf j => ?_
  obtain ⟨e0, e1, e2, e3, e4, e5, e6, e7⟩ := idx t
  blk_simp
  rw [after0_6]
  unfold outsAt0
  frame_out
  unfold AdamRule.mean
  idx_vars j
  pointwise [k0_pay1]
  subst hg ha
  blk_point [iblk, V, e1, e2, e6]

theorem square (c : Dev nD) (g b : FVec Ideal S2048x2048 .f32) (hg : m ((c : Thread nD τ).loc main_arg1) = g) (hb : m ((c : Thread nD τ).loc main_arg3) = b) :
    (dats m 0 c).arrAt 7 cfg0.N = fun i : S2048x2048.Idx => AdamRule.square (g i) (b i) := by
  refine (dats m 0 c).arrAt_eq_of_covers 7 _ (by decide +kernel) fun t hf j => ?_
  obtain ⟨e0, e1, e2, e3, e4, e5, e6, e7⟩ := idx t
  blk_simp
  rw [after0_7]
  unfold outsAt0
  frame_out
  unfold AdamRule.square
  idx_vars j
  pointwise [k0_pay2]
  subst hg hb
  blk_point [iblk, V, e1, e3, e7]

theorem delta (c : Dev nD) (w g a b : FVec Ideal S2048x2048 .f32) (hw : m ((c : Thread nD τ).loc main_arg0) = w) (hg : m ((c : Thread nD τ).loc main_arg1) = g)
    (ha : m ((c : Thread nD τ).loc main_arg2) = a) (hb : m ((c : Thread nD τ).loc main_arg3) = b) :
    (dats m 0 c).arrAt 5 cfg0.N = fun i : S2048x2048.Idx => AdamRule.delta (w i) (g i) (a i) (b i) := by
  refine (dats m 0 c).arrAt_eq_of_covers 5 _ (by decide +kernel) fun t hf j => ?_
  obtain ⟨e0, e1, e2, e3, e4, e5, e6, e7⟩ := idx t
  blk_simp
  rw [after0_5]
  unfold outsAt0
  frame_out
  unfold AdamRule.delta AdamRule.mean AdamRule.square
  idx_vars j
  pointwise [k0_pay3, k0_pay1, k0_pay2]
  subst hw hg ha hb
  blk_point [iblk, V, e0, e1, e2, e3, e5]

theorem algebraic : algebraic_AdamWIdeal_RefAdamWIdeal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N,
    Cert.AdamWIdeal.Value.run_blocks m g,
    (θ_run _ _ _).mono (fun r h c => ⟨(h c).1.trans ?_, (h c).2.1.trans ?_, (h c).2.2.1.trans ?_, (h c).2.2.2.1.trans ?_, (h c).2.2.2.2⟩) (Cert.RefAdamWIdeal.Value.run m' g')⟩
  · rw [(hm c).2.1]
    exact (passed m c _ rfl).symm
  · rw [(hm c).1, (hm c).2.1, (hm c).2.2.1, (hm c).2.2.2]
    refine Eq.trans ?_ (delta m c _ _ _ _ rfl rfl rfl rfl).symm
    funext i
    unfold AdamRule.delta AdamRule.mean AdamRule.square
    idx_vars i
    pointwise
  · rw [(hm c).2.1, (hm c).2.2.1]
    refine Eq.trans ?_ (mean m c _ _ rfl rfl).symm
    funext i
    unfold AdamRule.mean
    idx_vars i
    pointwise
  · rw [(hm c).2.1, (hm c).2.2.2]
    refine Eq.trans ?_ (square m c _ _ rfl rfl).symm
    funext i
    unfold AdamRule.square
    idx_vars i
    pointwise

end Cert.Own.AdamW

end
-- ==== Proof.AdamIn.lean ====
/- The AdamW step of one device's part of the input projection, 256 rows at a grid point. -/
module

public import proofs.«01_k».proof.Defs
public import proofs.«01_k».proof.Proof.Gen.AdamInIdeal.Value
public import proofs.«01_k».proof.Proof.Gen.RefAdamInIdeal.Run
public import proofs.«01_k».proof.Proof.AdamRule
public import Idealize.ShloMosaic.Lib.Pipeline.ValueKit
public import Idealize.ShloMosaic.Lib.Pointwise

@[expose] public section

set_option maxRecDepth 16384

noncomputable section

namespace Cert.Own.AdamIn

open Cert.AdamInIdeal Cert.AdamInIdeal.Gen Idealize.ShloMosaic Idealize.ShloMosaic.TcCoe Idealize.SL.Sem

variable (m : (ℓ : Loc nD τ sig) → Buf (Elt Ideal) ℓ)

theorem idx (t : Fin cfg0.N) : win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0]) t

theorem passed (c : Dev nD) (g : FVec Ideal S2048x1028 .f32) (hg : m ((c : Thread nD τ).loc main_arg1) = g) :
    (dats m 0 c).arrAt 4 cfg0.N = g := by
  refine (dats m 0 c).arrAt_eq_of_covers 4 _ (by decide +kernel) fun t hf j => ?_
  obtain ⟨e0, e1, e2, e3, e4, e5, e6, e7⟩ := idx t
  blk_simp
  rw [after0_4]
  unfold outsAt0
  frame_out
  idx_vars j
  subst hg
  blk_point [iblk, V, e1, e4]

theorem mean (c : Dev nD) (g a : FVec Ideal S2048x1028 .f32) (hg : m ((c : Thread nD τ).loc main_arg1) = g) (ha : m ((c : Thread nD τ).loc main_arg2) = a) :
    (dats m 0 c).arrAt 6 cfg0.N = fun i : S2048x1028.Idx => AdamRule.mean (g i) (a i) := by
  refine (dats m 0 c).arrAt_eq_of_covers 6 _ (by decide +kernel) fun t hf j => ?_
  obtain ⟨e0, e1, e2, e3, e4, e5, e6, e7⟩ := idx t
  blk_simp
  rw [after0_6]
  unfold outsAt0
  frame_out
  unfold AdamRule.mean
  idx_vars j
  pointwise [k0_pay1]
  subst hg ha
  blk_point [iblk, V, e1, e2, e6]

theorem square (c : Dev nD) (g b : FVec Ideal S2048x1028 .f32) (hg : m ((c : Thread nD τ).loc main_arg1) = g) (hb : m ((c : Thread nD τ).loc main_arg3) = b) :
    (dats m 0 c).arrAt 7 cfg0.N = fun i : S2048x1028.Idx => AdamRule.square (g i) (b i) := by
  refine (dats m 0 c).arrAt_eq_of_covers 7 _ (by decide +kernel) fun t hf j => ?_
  obtain ⟨e0, e1, e2, e3, e4, e5, e6, e7⟩ := idx t
  blk_simp
  rw [after0_7]
  unfold outsAt0
  frame_out
  unfold AdamRule.square
  idx_vars j
  pointwise [k0_pay2]
  subst hg hb
  blk_point [iblk, V, e1, e3, e7]

theorem delta (c : Dev nD) (w g a b : FVec Ideal S2048x1028 .f32) (hw : m ((c : Thread nD τ).loc main_arg0) = w) (hg : m ((c : Thread nD τ).loc main_arg1) = g)
    (ha : m ((c : Thread nD τ).loc main_arg2) = a) (hb : m ((c : Thread nD τ).loc main_arg3) = b) :
    (dats m 0 c).arrAt 5 cfg0.N = fun i : S2048x1028.Idx => AdamRule.delta (w i) (g i) (a i) (b i) := by
  refine (dats m 0 c).arrAt_eq_of_covers 5 _ (by decide +kernel) fun t hf j => ?_
  obtain ⟨e0, e1, e2, e3, e4, e5, e6, e7⟩ := idx t
  blk_simp
  rw [after0_5]
  unfold outsAt0
  frame_out
  unfold AdamRule.delta AdamRule.mean AdamRule.square
  idx_vars j
  pointwise [k0_pay3, k0_pay1, k0_pay2]
  subst hw hg ha hb
  blk_point [iblk, V, e0, e1, e2, e3, e5]

theorem algebraic : algebraic_AdamInIdeal_RefAdamInIdeal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N,
    Cert.AdamInIdeal.Value.run_blocks m g,
    (θ_run _ _ _).mono (fun r h c => ⟨(h c).1.trans ?_, (h c).2.1.trans ?_, (h c).2.2.1.trans ?_, (h c).2.2.2.1.trans ?_, (h c).2.2.2.2⟩) (Cert.RefAdamInIdeal.Value.run m' g')⟩
  · rw [(hm c).2.1]
    exact (passed m c _ rfl).symm
  · rw [(hm c).1, (hm c).2.1, (hm c).2.2.1, (hm c).2.2.2]
    refine Eq.trans ?_ (delta m c _ _ _ _ rfl rfl rfl rfl).symm
    funext i
    unfold AdamRule.delta AdamRule.mean AdamRule.square
    idx_vars i
    pointwise
  · rw [(hm c).2.1, (hm c).2.2.1]
    refine Eq.trans ?_ (mean m c _ _ rfl rfl).symm
    funext i
    unfold AdamRule.mean
    idx_vars i
    pointwise
  · rw [(hm c).2.1, (hm c).2.2.2]
    refine Eq.trans ?_ (square m c _ _ rfl rfl).symm
    funext i
    unfold AdamRule.square
    idx_vars i
    pointwise

end Cert.Own.AdamIn

end
-- ==== Proof.AdamOut.lean ====
/- The AdamW step of one device's part of the output projection, 256 rows at a grid point. -/
module

public import proofs.«01_k».proof.Defs
public import proofs.«01_k».proof.Proof.Gen.AdamOutIdeal.Value
public import proofs.«01_k».proof.Proof.Gen.RefAdamOutIdeal.Run
public import proofs.«01_k».proof.Proof.AdamRule
public import Idealize.ShloMosaic.Lib.Pipeline.ValueKit
public import Idealize.ShloMosaic.Lib.Pointwise

@[expose] public section

set_option maxRecDepth 16384

noncomputable section

namespace Cert.Own.AdamOut

open Cert.AdamOutIdeal Cert.AdamOutIdeal.Gen Idealize.ShloMosaic Idealize.ShloMosaic.TcCoe Idealize.SL.Sem

variable (m : (ℓ : Loc nD τ sig) → Buf (Elt Ideal) ℓ)

theorem idx (t : Fin cfg0.N) : win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0]) t

theorem passed (c : Dev nD) (g : FVec Ideal S512x2048 .f32) (hg : m ((c : Thread nD τ).loc main_arg1) = g) :
    (dats m 0 c).arrAt 4 cfg0.N = g := by
  refine (dats m 0 c).arrAt_eq_of_covers 4 _ (by decide +kernel) fun t hf j => ?_
  obtain ⟨e0, e1, e2, e3, e4, e5, e6, e7⟩ := idx t
  blk_simp
  rw [after0_4]
  unfold outsAt0
  frame_out
  idx_vars j
  subst hg
  blk_point [iblk, V, e1, e4]

theorem mean (c : Dev nD) (g a : FVec Ideal S512x2048 .f32) (hg : m ((c : Thread nD τ).loc main_arg1) = g) (ha : m ((c : Thread nD τ).loc main_arg2) = a) :
    (dats m 0 c).arrAt 6 cfg0.N = fun i : S512x2048.Idx => AdamRule.mean (g i) (a i) := by
  refine (dats m 0 c).arrAt_eq_of_covers 6 _ (by decide +kernel) fun t hf j => ?_
  obtain ⟨e0, e1, e2, e3, e4, e5, e6, e7⟩ := idx t
  blk_simp
  rw [after0_6]
  unfold outsAt0
  frame_out
  unfold AdamRule.mean
  idx_vars j
  pointwise [k0_pay1]
  subst hg ha
  blk_point [iblk, V, e1, e2, e6]

theorem square (c : Dev nD) (g b : FVec Ideal S512x2048 .f32) (hg : m ((c : Thread nD τ).loc main_arg1) = g) (hb : m ((c : Thread nD τ).loc main_arg3) = b) :
    (dats m 0 c).arrAt 7 cfg0.N = fun i : S512x2048.Idx => AdamRule.square (g i) (b i) := by
  refine (dats m 0 c).arrAt_eq_of_covers 7 _ (by decide +kernel) fun t hf j => ?_
  obtain ⟨e0, e1, e2, e3, e4, e5, e6, e7⟩ := idx t
  blk_simp
  rw [after0_7]
  unfold outsAt0
  frame_out
  unfold AdamRule.square
  idx_vars j
  pointwise [k0_pay2]
  subst hg hb
  blk_point [iblk, V, e1, e3, e7]

theorem delta (c : Dev nD) (w g a b : FVec Ideal S512x2048 .f32) (hw : m ((c : Thread nD τ).loc main_arg0) = w) (hg : m ((c : Thread nD τ).loc main_arg1) = g)
    (ha : m ((c : Thread nD τ).loc main_arg2) = a) (hb : m ((c : Thread nD τ).loc main_arg3) = b) :
    (dats m 0 c).arrAt 5 cfg0.N = fun i : S512x2048.Idx => AdamRule.delta (w i) (g i) (a i) (b i) := by
  refine (dats m 0 c).arrAt_eq_of_covers 5 _ (by decide +kernel) fun t hf j => ?_
  obtain ⟨e0, e1, e2, e3, e4, e5, e6, e7⟩ := idx t
  blk_simp
  rw [after0_5]
  unfold outsAt0
  frame_out
  unfold AdamRule.delta AdamRule.mean AdamRule.square
  idx_vars j
  pointwise [k0_pay3, k0_pay1, k0_pay2]
  subst hw hg ha hb
  blk_point [iblk, V, e0, e1, e2, e3, e5]

theorem algebraic : algebraic_AdamOutIdeal_RefAdamOutIdeal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N,
    Cert.AdamOutIdeal.Value.run_blocks m g,
    (θ_run _ _ _).mono (fun r h c => ⟨(h c).1.trans ?_, (h c).2.1.trans ?_, (h c).2.2.1.trans ?_, (h c).2.2.2.1.trans ?_, (h c).2.2.2.2⟩) (Cert.RefAdamOutIdeal.Value.run m' g')⟩
  · rw [(hm c).2.1]
    exact (passed m c _ rfl).symm
  · rw [(hm c).1, (hm c).2.1, (hm c).2.2.1, (hm c).2.2.2]
    refine Eq.trans ?_ (delta m c _ _ _ _ rfl rfl rfl rfl).symm
    funext i
    unfold AdamRule.delta AdamRule.mean AdamRule.square
    idx_vars i
    pointwise
  · rw [(hm c).2.1, (hm c).2.2.1]
    refine Eq.trans ?_ (mean m c _ _ rfl rfl).symm
    funext i
    unfold AdamRule.mean
    idx_vars i
    pointwise
  · rw [(hm c).2.1, (hm c).2.2.2]
    refine Eq.trans ?_ (square m c _ _ rfl rfl).symm
    funext i
    unfold AdamRule.square
    idx_vars i
    pointwise

end Cert.Own.AdamOut

end
-- ==== Proof.WeightStep.lean ====
/- The memory operations of one small weight's optimiser step: the weight, its gradient and its two moments loaded whole, the
   update and the two new moments stored whole. -/
module

public import proofs.«01_k».proof.Proof.Gen.AdamSmallIdeal.Frame.Runs
public import Idealize.ShloMosaic.Lib.VecWindow

@[expose] public section

set_option maxRecDepth 16384

noncomputable section

namespace Cert.Own.WeightStep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} [FloatOps F] {Λ : Labels} {s : Shape}

local notation "𝕄" => MT nD τ sig Unit (Elt F) ℕ (UR sig nD τ) ℕ

/-- The step of one weight, then `rest`. Each output is loaded before it is stored; what is loaded there is not used. -/
def step (w g a b d a' b' : Memref sig .tc .vmem s .f32) (off : Fin s.rank → ℕ) (inb : ∀ i, off i + s.size i ≤ s.size i) (hn : 0 < s.numel)
    (delta : Vec F s .f32 → Vec F s .f32 → Vec F s .f32 → Vec F s .f32 → FVec F s .f32) (mean square : Vec F s .f32 → Vec F s .f32 → FVec F s .f32)
    (rest : Prog (TpuEff nD τ sig (Elt F) Λ .tc) PUnit) : Prog (TpuEff nD τ sig (Elt F) Λ .tc) PUnit := do
  let v0 : Vec F s .f32 ← Prog.lift (.load w (Rect.unit (s := s) off s.size inb).toLoadRect (View.loadsAt_vmem hn))
  let v1 : Vec F s .f32 ← Prog.lift (.load g (Rect.unit (s := s) off s.size inb).toLoadRect (View.loadsAt_vmem hn))
  let v2 : Vec F s .f32 ← Prog.lift (.load a (Rect.unit (s := s) off s.size inb).toLoadRect (View.loadsAt_vmem hn))
  let v3 : Vec F s .f32 ← Prog.lift (.load b (Rect.unit (s := s) off s.size inb).toLoadRect (View.loadsAt_vmem hn))
  let _ ← Prog.lift (.load d (Rect.unit (s := s) off s.size inb).toLoadRect (View.loadsAt_vmem hn))
  Prog.lift (.store d (Rect.unit (s := s) off s.size inb) (delta v0 v1 v2 v3) Finset.univ (View.stores_vmem_bits_univ hn rfl) (.inl rfl))
  let _ ← Prog.lift (.load a' (Rect.unit (s := s) off s.size inb).toLoadRect (View.loadsAt_vmem hn))
  Prog.lift (.store a' (Rect.unit (s := s) off s.size inb) (mean v1 v2) Finset.univ (View.stores_vmem_bits_univ hn rfl) (.inl rfl))
  let _ ← Prog.lift (.load b' (Rect.unit (s := s) off s.size inb).toLoadRect (View.loadsAt_vmem hn))
  Prog.lift (.store b' (Rect.unit (s := s) off s.size inb) (square v1 v3) Finset.univ (View.stores_vmem_bits_univ hn rfl) (.inl rfl))
  rest

/-- What the step does with the seven buffers. -/
theorem step_wp (defs : Defs nD τ sig (Elt F) Λ) (c : Dev nD) (w g a b d a' b' : Memref sig .tc .vmem s .f32) (off : Fin s.rank → ℕ)
    (inb : ∀ i, off i + s.size i ≤ s.size i) (hn : 0 < s.numel)
    (delta : Vec F s .f32 → Vec F s .f32 → Vec F s .f32 → Vec F s .f32 → FVec F s .f32) (mean square : Vec F s .f32 → Vec F s .f32 → FVec F s .f32)
    (rest : Prog (TpuEff nD τ sig (Elt F) Λ .tc) PUnit) (E : Set ℕ) (Q : PUnit → sProp 𝕄) (xw xg xa xb : Vec F s .f32) :
    iprop(owns (c : Thread nD τ) w fullShare xw ∗ owns (c : Thread nD τ) g fullShare xg ∗ owns (c : Thread nD τ) a fullShare xa ∗ owns (c : Thread nD τ) b fullShare xb
        ∗ (∃ y, owns (c : Thread nD τ) d fullShare y) ∗ (∃ y, owns (c : Thread nD τ) a' fullShare y) ∗ (∃ y, owns (c : Thread nD τ) b' fullShare y)
        ∗ (iprop(owns (c : Thread nD τ) w fullShare xw ∗ owns (c : Thread nD τ) g fullShare xg ∗ owns (c : Thread nD τ) a fullShare xa ∗ owns (c : Thread nD τ) b fullShare xb
            ∗ owns (c : Thread nD τ) d fullShare (delta xw xg xa xb) ∗ owns (c : Thread nD τ) a' fullShare (mean xg xa) ∗ owns (c : Thread nD τ) b' fullShare (square xg xb))
          -∗ wp frame (wpE defs Variants.none c none) E rest Q))
      ⊢ wp frame (wpE defs Variants.none c none) E (step w g a b d a' b' off inb hn delta mean square rest) Q := by
  unfold step owns
  iintro ⟨⟨%f0, %h0, H0⟩, ⟨%f1, %h1, H1⟩, ⟨%f2, %h2, H2⟩, ⟨%f3, %h3, H3⟩, ⟨%y4, %f4, -, H4⟩, ⟨%y5, %f5, -, H5⟩, ⟨%y6, %f6, -, H6⟩, Hk⟩
  subst h0 h1 h2 h3
  sl_exec
  iapply Hk
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rw [View.read_writes_full]; simp only [View.readAt_full]
  isplitl [H5]; · iexists _; isplitr; swap; · iexact H5
                  ipureintro; rw [View.read_writes_full]; simp only [View.readAt_full]
  iexists _; isplitr; swap; · iexact H6
  ipureintro; rw [View.read_writes_full]; simp only [View.readAt_full]

end Cert.Own.WeightStep

end
-- ==== Proof.AdamSmallBody.lean ====
/- The body of the small weights' optimiser call over the reals: one grid point, every buffer loaded and stored
   whole. What each output's buffer ends with is written as the value the body stores there. -/
module

public import proofs.«01_k».proof.Proof.Gen.AdamSmallIdeal.Frame.Runs
public import proofs.«01_k».proof.Proof.WeightStep

@[expose] public section

set_option maxRecDepth 16384

noncomputable section

namespace Cert.Own.AdamSmallBody

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body is nine weights' steps, one after the other. -/
theorem body_eq
    (arg0 : Memref sig .tc .vmem S16x512 .f32) (harg0 : arg0.IsWhole) (arg1 : Memref sig .tc .vmem S1x2048 .f32) (harg1 : arg1.IsWhole)
    (arg2 : Memref sig .tc .vmem S16x128 .f32) (harg2 : arg2.IsWhole) (arg3 : Memref sig .tc .vmem S1x512 .f32) (harg3 : arg3.IsWhole)
    (arg4 : Memref sig .tc .vmem S1x256 .f32) (harg4 : arg4.IsWhole) (arg5 : Memref sig .tc .vmem S4x64x256 .f32) (harg5 : arg5.IsWhole)
    (arg6 : Memref sig .tc .vmem S1x1024 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S16x512 .f32) (harg9 : arg9.IsWhole)
    (arg10 : Memref sig .tc .vmem S1x2048 .f32) (harg10 : arg10.IsWhole) (arg11 : Memref sig .tc .vmem S16x128 .f32) (harg11 : arg11.IsWhole)
    (arg12 : Memref sig .tc .vmem S1x512 .f32) (harg12 : arg12.IsWhole) (arg13 : Memref sig .tc .vmem S1x256 .f32) (harg13 : arg13.IsWhole)
    (arg14 : Memref sig .tc .vmem S4x64x256 .f32) (harg14 : arg14.IsWhole) (arg15 : Memref sig .tc .vmem S1x1024 .f32) (harg15 : arg15.IsWhole)
    (arg16 : Memref sig .tc .vmem S1x2048 .f32) (harg16 : arg16.IsWhole) (arg17 : Memref sig .tc .vmem S1x2048 .f32) (harg17 : arg17.IsWhole)
    (arg18 : Memref sig .tc .vmem S16x512 .f32) (harg18 : arg18.IsWhole) (arg19 : Memref sig .tc .vmem S1x2048 .f32) (harg19 : arg19.IsWhole)
    (arg20 : Memref sig .tc .vmem S16x128 .f32) (harg20 : arg20.IsWhole) (arg21 : Memref sig .tc .vmem S1x512 .f32) (harg21 : arg21.IsWhole)
    (arg22 : Memref sig .tc .vmem S1x256 .f32) (harg22 : arg22.IsWhole) (arg23 : Memref sig .tc .vmem S4x64x256 .f32) (harg23 : arg23.IsWhole)
    (arg24 : Memref sig .tc .vmem S1x1024 .f32) (harg24 : arg24.IsWhole) (arg25 : Memref sig .tc .vmem S1x2048 .f32) (harg25 : arg25.IsWhole)
    (arg26 : Memref sig .tc .vmem S1x2048 .f32) (harg26 : arg26.IsWhole) (arg27 : Memref sig .tc .vmem S16x512 .f32) (harg27 : arg27.IsWhole)
    (arg28 : Memref sig .tc .vmem S1x2048 .f32) (harg28 : arg28.IsWhole) (arg29 : Memref sig .tc .vmem S16x128 .f32) (harg29 : arg29.IsWhole)
    (arg30 : Memref sig .tc .vmem S1x512 .f32) (harg30 : arg30.IsWhole) (arg31 : Memref sig .tc .vmem S1x256 .f32) (harg31 : arg31.IsWhole)
    (arg32 : Memref sig .tc .vmem S4x64x256 .f32) (harg32 : arg32.IsWhole) (arg33 : Memref sig .tc .vmem S1x1024 .f32) (harg33 : arg33.IsWhole)
    (arg34 : Memref sig .tc .vmem S1x2048 .f32) (harg34 : arg34.IsWhole) (arg35 : Memref sig .tc .vmem S1x2048 .f32) (harg35 : arg35.IsWhole)
    (arg37 : Memref sig .tc .vmem S16x512 .f32) (harg37 : arg37.IsWhole) (arg38 : Memref sig .tc .vmem S1x2048 .f32) (harg38 : arg38.IsWhole)
    (arg39 : Memref sig .tc .vmem S16x128 .f32) (harg39 : arg39.IsWhole) (arg40 : Memref sig .tc .vmem S1x512 .f32) (harg40 : arg40.IsWhole)
    (arg41 : Memref sig .tc .vmem S1x256 .f32) (harg41 : arg41.IsWhole) (arg42 : Memref sig .tc .vmem S4x64x256 .f32) (harg42 : arg42.IsWhole)
    (arg43 : Memref sig .tc .vmem S1x1024 .f32) (harg43 : arg43.IsWhole) (arg44 : Memref sig .tc .vmem S1x2048 .f32) (harg44 : arg44.IsWhole)
    (arg45 : Memref sig .tc .vmem S1x2048 .f32) (harg45 : arg45.IsWhole) (arg46 : Memref sig .tc .vmem S16x512 .f32) (harg46 : arg46.IsWhole)
    (arg47 : Memref sig .tc .vmem S1x2048 .f32) (harg47 : arg47.IsWhole) (arg48 : Memref sig .tc .vmem S16x128 .f32) (harg48 : arg48.IsWhole)
    (arg49 : Memref sig .tc .vmem S1x512 .f32) (harg49 : arg49.IsWhole) (arg50 : Memref sig .tc .vmem S1x256 .f32) (harg50 : arg50.IsWhole)
    (arg51 : Memref sig .tc .vmem S4x64x256 .f32) (harg51 : arg51.IsWhole) (arg52 : Memref sig .tc .vmem S1x1024 .f32) (harg52 : arg52.IsWhole)
    (arg53 : Memref sig .tc .vmem S1x2048 .f32) (harg53 : arg53.IsWhole) (arg54 : Memref sig .tc .vmem S1x2048 .f32) (harg54 : arg54.IsWhole)
    (arg55 : Memref sig .tc .vmem S16x512 .f32) (harg55 : arg55.IsWhole) (arg56 : Memref sig .tc .vmem S1x2048 .f32) (harg56 : arg56.IsWhole)
    (arg57 : Memref sig .tc .vmem S16x128 .f32) (harg57 : arg57.IsWhole) (arg58 : Memref sig .tc .vmem S1x512 .f32) (harg58 : arg58.IsWhole)
    (arg59 : Memref sig .tc .vmem S1x256 .f32) (harg59 : arg59.IsWhole) (arg60 : Memref sig .tc .vmem S4x64x256 .f32) (harg60 : arg60.IsWhole)
    (arg61 : Memref sig .tc .vmem S1x1024 .f32) (harg61 : arg61.IsWhole) (arg62 : Memref sig .tc .vmem S1x2048 .f32) (harg62 : arg62.IsWhole)
    (arg63 : Memref sig .tc .vmem S1x2048 .f32) (harg63 : arg63.IsWhole) :
    cc0_adam_small (F := F)
      arg0 harg0 arg1 harg1 arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24 arg25 harg25
      arg26 harg26 arg27 harg27 arg28 harg28 arg29 harg29 arg30 harg30 arg31 harg31 arg32 harg32 arg33 harg33 arg34 harg34 arg35 harg35
      (Memref.whole main_v0) (Memref.isWhole_whole _) arg37 harg37 arg38 harg38 arg39 harg39 arg40 harg40 arg41 harg41 arg42 harg42 arg43 harg43 arg44 harg44
      arg45 harg45 arg46 harg46 arg47 harg47 arg48 harg48 arg49 harg49 arg50 harg50 arg51 harg51 arg52 harg52 arg53 harg53 arg54 harg54 arg55 harg55 arg56 harg56
      arg57 harg57 arg58 harg58 arg59 harg59 arg60 harg60 arg61 harg61 arg62 harg62 arg63 harg63
      = (WeightStep.step arg0 arg9 arg18 arg27 arg37 arg46 arg55 ![0, 0] inb_S16x512_S16x512_0_0 h_S16x512
          (fun w g a b => k0_pay6 w g a b) (fun g a => k0_pay4 g a) (fun g b => k0_pay5 g b)
        (WeightStep.step arg1 arg10 arg19 arg28 arg38 arg47 arg56 ![0, 0] inb_S1x2048_S1x2048_0_0 h_S1x2048
          (fun w g a b => k0_pay9 w g a b) (fun g a => k0_pay7 g a) (fun g b => k0_pay8 g b)
        (WeightStep.step arg2 arg11 arg20 arg29 arg39 arg48 arg57 ![0, 0] inb_S16x128_S16x128_0_0 h_S16x128
          (fun w g a b => k0_pay12 w g a b) (fun g a => k0_pay10 g a) (fun g b => k0_pay11 g b)
        (WeightStep.step arg3 arg12 arg21 arg30 arg40 arg49 arg58 ![0, 0] inb_S1x512_S1x512_0_0 h_S1x512
          (fun w g a b => k0_pay15 w g a b) (fun g a => k0_pay13 g a) (fun g b => k0_pay14 g b)
        (WeightStep.step arg4 arg13 arg22 arg31 arg41 arg50 arg59 ![0, 0] inb_S1x256_S1x256_0_0 h_S1x256
          (fun w g a b => k0_pay18 w g a b) (fun g a => k0_pay16 g a) (fun g b => k0_pay17 g b)
        (WeightStep.step arg5 arg14 arg23 arg32 arg42 arg51 arg60 ![0, 0, 0] inb_S4x64x256_S4x64x256_0_0_0 h_S4x64x256
          (fun w g a b => k0_pay21 w g a b) (fun g a => k0_pay19 g a) (fun g b => k0_pay20 g b)
        (WeightStep.step arg6 arg15 arg24 arg33 arg43 arg52 arg61 ![0, 0] inb_S1x1024_S1x1024_0_0 h_S1x1024
          (fun w g a b => k0_pay24 w g a b) (fun g a => k0_pay22 g a) (fun g b => k0_pay23 g b)
        (WeightStep.step arg7 arg16 arg25 arg34 arg44 arg53 arg62 ![0, 0] inb_S1x2048_S1x2048_0_0 h_S1x2048
          (fun w g a b => k0_pay28 w g a b k0_pay25) (fun g a => k0_pay26 g a k0_pay25) (fun g b => k0_pay27 g b)
        (WeightStep.step arg8 arg17 arg26 arg35 arg45 arg54 arg63 ![0, 0] inb_S1x2048_S1x2048_0_0 h_S1x2048
          (fun w g a b => k0_pay3 w g b (k0_pay29 a) k0_pay30) (fun g a => k0_pay1 g (k0_pay29 a) k0_pay30) (fun g b => k0_pay2 g b)
        (pure ⟨⟩)))))))))) := by
  rw [cc0_adam_small_eq_skeleton]; unfold cc0_adam_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  rfl

end Cert.Own.AdamSmallBody

end
-- ==== Proof.AdamSmallRun.lean ====
/- The run of the small weights' optimiser call over the reals: its pipeline, and what its arrays end with. -/
module

public import proofs.«01_k».proof.Proof.AdamSmallBody
public import proofs.«01_k».proof.Proof.WeightStep
public import Idealize.ShloMosaic.Lib.Pipeline.Value
public import Idealize.ShloMosaic.Lib.Claim

@[expose] public section

set_option maxRecDepth 16384

noncomputable section

namespace Cert.Own.AdamSmallRun

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them, each input's buffer left at its
    block, each output's at the value the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => k0_pay6 (iblk m c 0 t) (iblk m c 9 t) (iblk m c 18 t) (iblk m c 27 t)
    | ⟨37, _⟩ => k0_pay9 (iblk m c 1 t) (iblk m c 10 t) (iblk m c 19 t) (iblk m c 28 t)
    | ⟨38, _⟩ => k0_pay12 (iblk m c 2 t) (iblk m c 11 t) (iblk m c 20 t) (iblk m c 29 t)
    | ⟨39, _⟩ => k0_pay15 (iblk m c 3 t) (iblk m c 12 t) (iblk m c 21 t) (iblk m c 30 t)
    | ⟨40, _⟩ => k0_pay18 (iblk m c 4 t) (iblk m c 13 t) (iblk m c 22 t) (iblk m c 31 t)
    | ⟨41, _⟩ => k0_pay21 (iblk m c 5 t) (iblk m c 14 t) (iblk m c 23 t) (iblk m c 32 t)
    | ⟨42, _⟩ => k0_pay24 (iblk m c 6 t) (iblk m c 15 t) (iblk m c 24 t) (iblk m c 33 t)
    | ⟨43, _⟩ => k0_pay28 (iblk m c 7 t) (iblk m c 16 t) (iblk m c 25 t) (iblk m c 34 t) k0_pay25
    | ⟨44, _⟩ => k0_pay3 (iblk m c 8 t) (iblk m c 17 t) (iblk m c 35 t) (k0_pay29 (iblk m c 26 t)) k0_pay30
    | ⟨45, _⟩ => k0_pay4 (iblk m c 9 t) (iblk m c 18 t)
    | ⟨46, _⟩ => k0_pay7 (iblk m c 10 t) (iblk m c 19 t)
    | ⟨47, _⟩ => k0_pay10 (iblk m c 11 t) (iblk m c 20 t)
    | ⟨48, _⟩ => k0_pay13 (iblk m c 12 t) (iblk m c 21 t)
    | ⟨49, _⟩ => k0_pay16 (iblk m c 13 t) (iblk m c 22 t)
    | ⟨50, _⟩ => k0_pay19 (iblk m c 14 t) (iblk m c 23 t)
    | ⟨51, _⟩ => k0_pay22 (iblk m c 15 t) (iblk m c 24 t)
    | ⟨52, _⟩ => k0_pay26 (iblk m c 16 t) (iblk m c 25 t) k0_pay25
    | ⟨53, _⟩ => k0_pay1 (iblk m c 17 t) (k0_pay29 (iblk m c 26 t)) k0_pay30
    | ⟨54, _⟩ => k0_pay5 (iblk m c 9 t) (iblk m c 27 t)
    | ⟨55, _⟩ => k0_pay8 (iblk m c 10 t) (iblk m c 28 t)
    | ⟨56, _⟩ => k0_pay11 (iblk m c 11 t) (iblk m c 29 t)
    | ⟨57, _⟩ => k0_pay14 (iblk m c 12 t) (iblk m c 30 t)
    | ⟨58, _⟩ => k0_pay17 (iblk m c 13 t) (iblk m c 31 t)
    | ⟨59, _⟩ => k0_pay20 (iblk m c 14 t) (iblk m c 32 t)
    | ⟨60, _⟩ => k0_pay23 (iblk m c 15 t) (iblk m c 33 t)
    | ⟨61, _⟩ => k0_pay27 (iblk m c 16 t) (iblk m c 34 t)
    | ⟨62, _⟩ => k0_pay2 (iblk m c 17 t) (iblk m c 35 t)
    | ⟨_ + 63, h⟩ => absurd h (Nat.not_lt.2 (Nat.le_add_left _ _))
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = k0_pay6 (iblk m c 0 t) (iblk m c 9 t) (iblk m c 18 t) (iblk m c 27 t) := by dsimp only [dats]
theorem after0_37 (c : Dev nD) (t : Fin cfg0.N) : (dats m 0 c).after 37 t = k0_pay9 (iblk m c 1 t) (iblk m c 10 t) (iblk m c 19 t) (iblk m c 28 t) := by dsimp only [dats]
theorem after0_38 (c : Dev nD) (t : Fin cfg0.N) : (dats m 0 c).after 38 t = k0_pay12 (iblk m c 2 t) (iblk m c 11 t) (iblk m c 20 t) (iblk m c 29 t) := by dsimp only [dats]
theorem after0_39 (c : Dev nD) (t : Fin cfg0.N) : (dats m 0 c).after 39 t = k0_pay15 (iblk m c 3 t) (iblk m c 12 t) (iblk m c 21 t) (iblk m c 30 t) := by dsimp only [dats]
theorem after0_40 (c : Dev nD) (t : Fin cfg0.N) : (dats m 0 c).after 40 t = k0_pay18 (iblk m c 4 t) (iblk m c 13 t) (iblk m c 22 t) (iblk m c 31 t) := by dsimp only [dats]
theorem after0_41 (c : Dev nD) (t : Fin cfg0.N) : (dats m 0 c).after 41 t = k0_pay21 (iblk m c 5 t) (iblk m c 14 t) (iblk m c 23 t) (iblk m c 32 t) := by dsimp only [dats]
theorem after0_42 (c : Dev nD) (t : Fin cfg0.N) : (dats m 0 c).after 42 t = k0_pay24 (iblk m c 6 t) (iblk m c 15 t) (iblk m c 24 t) (iblk m c 33 t) := by dsimp only [dats]
theorem after0_43 (c : Dev nD) (t : Fin cfg0.N) : (dats m 0 c).after 43 t = k0_pay28 (iblk m c 7 t) (iblk m c 16 t) (iblk m c 25 t) (iblk m c 34 t) k0_pay25 := by dsimp only [dats]
theorem after0_44 (c : Dev nD) (t : Fin cfg0.N) : (dats m 0 c).after 44 t = k0_pay3 (iblk m c 8 t) (iblk m c 17 t) (iblk m c 35 t) (k0_pay29 (iblk m c 26 t)) k0_pay30 := by dsimp only [dats]
theorem after0_45 (c : Dev nD) (t : Fin cfg0.N) : (dats m 0 c).after 45 t = k0_pay4 (iblk m c 9 t) (iblk m c 18 t) := by dsimp only [dats]
theorem after0_46 (c : Dev nD) (t : Fin cfg0.N) : (dats m 0 c).after 46 t = k0_pay7 (iblk m c 10 t) (iblk m c 19 t) := by dsimp only [dats]
theorem after0_47 (c : Dev nD) (t : Fin cfg0.N) : (dats m 0 c).after 47 t = k0_pay10 (iblk m c 11 t) (iblk m c 20 t) := by dsimp only [dats]
theorem after0_48 (c : Dev nD) (t : Fin cfg0.N) : (dats m 0 c).after 48 t = k0_pay13 (iblk m c 12 t) (iblk m c 21 t) := by dsimp only [dats]
theorem after0_49 (c : Dev nD) (t : Fin cfg0.N) : (dats m 0 c).after 49 t = k0_pay16 (iblk m c 13 t) (iblk m c 22 t) := by dsimp only [dats]
theorem after0_50 (c : Dev nD) (t : Fin cfg0.N) : (dats m 0 c).after 50 t = k0_pay19 (iblk m c 14 t) (iblk m c 23 t) := by dsimp only [dats]
theorem after0_51 (c : Dev nD) (t : Fin cfg0.N) : (dats m 0 c).after 51 t = k0_pay22 (iblk m c 15 t) (iblk m c 24 t) := by dsimp only [dats]
theorem after0_52 (c : Dev nD) (t : Fin cfg0.N) : (dats m 0 c).after 52 t = k0_pay26 (iblk m c 16 t) (iblk m c 25 t) k0_pay25 := by dsimp only [dats]
theorem after0_53 (c : Dev nD) (t : Fin cfg0.N) : (dats m 0 c).after 53 t = k0_pay1 (iblk m c 17 t) (k0_pay29 (iblk m c 26 t)) k0_pay30 := by dsimp only [dats]
theorem after0_54 (c : Dev nD) (t : Fin cfg0.N) : (dats m 0 c).after 54 t = k0_pay5 (iblk m c 9 t) (iblk m c 27 t) := by dsimp only [dats]
theorem after0_55 (c : Dev nD) (t : Fin cfg0.N) : (dats m 0 c).after 55 t = k0_pay8 (iblk m c 10 t) (iblk m c 28 t) := by dsimp only [dats]
theorem after0_56 (c : Dev nD) (t : Fin cfg0.N) : (dats m 0 c).after 56 t = k0_pay11 (iblk m c 11 t) (iblk m c 29 t) := by dsimp only [dats]
theorem after0_57 (c : Dev nD) (t : Fin cfg0.N) : (dats m 0 c).after 57 t = k0_pay14 (iblk m c 12 t) (iblk m c 30 t) := by dsimp only [dats]
theorem after0_58 (c : Dev nD) (t : Fin cfg0.N) : (dats m 0 c).after 58 t = k0_pay17 (iblk m c 13 t) (iblk m c 31 t) := by dsimp only [dats]
theorem after0_59 (c : Dev nD) (t : Fin cfg0.N) : (dats m 0 c).after 59 t = k0_pay20 (iblk m c 14 t) (iblk m c 32 t) := by dsimp only [dats]
theorem after0_60 (c : Dev nD) (t : Fin cfg0.N) : (dats m 0 c).after 60 t = k0_pay23 (iblk m c 15 t) (iblk m c 33 t) := by dsimp only [dats]
theorem after0_61 (c : Dev nD) (t : Fin cfg0.N) : (dats m 0 c).after 61 t = k0_pay27 (iblk m c 16 t) (iblk m c 34 t) := by dsimp only [dats]
theorem after0_62 (c : Dev nD) (t : Fin cfg0.N) : (dats m 0 c).after 62 t = k0_pay2 (iblk m c 17 t) (iblk m c 35 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d))
    ∗ (∃ d, owns (c : Thread nD τ) (ms0_44 t) fullShare ((dats m 0 c).before 44 t d))
    ∗ (∃ d, owns (c : Thread nD τ) (ms0_45 t) fullShare ((dats m 0 c).before 45 t d))
    ∗ (∃ d, owns (c : Thread nD τ) (ms0_46 t) fullShare ((dats m 0 c).before 46 t d))
    ∗ (∃ d, owns (c : Thread nD τ) (ms0_47 t) fullShare ((dats m 0 c).before 47 t d))
    ∗ (∃ d, owns (c : Thread nD τ) (ms0_48 t) fullShare ((dats m 0 c).before 48 t d))
    ∗ (∃ d, owns (c : Thread nD τ) (ms0_49 t) fullShare ((dats m 0 c).before 49 t d))
    ∗ (∃ d, owns (c : Thread nD τ) (ms0_50 t) fullShare ((dats m 0 c).before 50 t d))
    ∗ (∃ d, owns (c : Thread nD τ) (ms0_51 t) fullShare ((dats m 0 c).before 51 t d))
    ∗ (∃ d, owns (c : Thread nD τ) (ms0_52 t) fullShare ((dats m 0 c).before 52 t d))
    ∗ (∃ d, owns (c : Thread nD τ) (ms0_53 t) fullShare ((dats m 0 c).before 53 t d))
    ∗ (∃ d, owns (c : Thread nD τ) (ms0_54 t) fullShare ((dats m 0 c).before 54 t d))
    ∗ (∃ d, owns (c : Thread nD τ) (ms0_55 t) fullShare ((dats m 0 c).before 55 t d))
    ∗ (∃ d, owns (c : Thread nD τ) (ms0_56 t) fullShare ((dats m 0 c).before 56 t d))
    ∗ (∃ d, owns (c : Thread nD τ) (ms0_57 t) fullShare ((dats m 0 c).before 57 t d))
    ∗ (∃ d, owns (c : Thread nD τ) (ms0_58 t) fullShare ((dats m 0 c).before 58 t d))
    ∗ (∃ d, owns (c : Thread nD τ) (ms0_59 t) fullShare ((dats m 0 c).before 59 t d))
    ∗ (∃ d, owns (c : Thread nD τ) (ms0_60 t) fullShare ((dats m 0 c).before 60 t d))
    ∗ (∃ d, owns (c : Thread nD τ) (ms0_61 t) fullShare ((dats m 0 c).before 61 t d))
    ∗ (∃ d, owns (c : Thread nD τ) (ms0_62 t) fullShare ((dats m 0 c).before 62 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t)
    ∗ owns (c : Thread nD τ) (ms0_44 t) fullShare ((dats m 0 c).after 44 t)
    ∗ owns (c : Thread nD τ) (ms0_45 t) fullShare ((dats m 0 c).after 45 t)
    ∗ owns (c : Thread nD τ) (ms0_46 t) fullShare ((dats m 0 c).after 46 t)
    ∗ owns (c : Thread nD τ) (ms0_47 t) fullShare ((dats m 0 c).after 47 t)
    ∗ owns (c : Thread nD τ) (ms0_48 t) fullShare ((dats m 0 c).after 48 t)
    ∗ owns (c : Thread nD τ) (ms0_49 t) fullShare ((dats m 0 c).after 49 t)
    ∗ owns (c : Thread nD τ) (ms0_50 t) fullShare ((dats m 0 c).after 50 t)
    ∗ owns (c : Thread nD τ) (ms0_51 t) fullShare ((dats m 0 c).after 51 t)
    ∗ owns (c : Thread nD τ) (ms0_52 t) fullShare ((dats m 0 c).after 52 t)
    ∗ owns (c : Thread nD τ) (ms0_53 t) fullShare ((dats m 0 c).after 53 t)
    ∗ owns (c : Thread nD τ) (ms0_54 t) fullShare ((dats m 0 c).after 54 t)
    ∗ owns (c : Thread nD τ) (ms0_55 t) fullShare ((dats m 0 c).after 55 t)
    ∗ owns (c : Thread nD τ) (ms0_56 t) fullShare ((dats m 0 c).after 56 t)
    ∗ owns (c : Thread nD τ) (ms0_57 t) fullShare ((dats m 0 c).after 57 t)
    ∗ owns (c : Thread nD τ) (ms0_58 t) fullShare ((dats m 0 c).after 58 t)
    ∗ owns (c : Thread nD τ) (ms0_59 t) fullShare ((dats m 0 c).after 59 t)
    ∗ owns (c : Thread nD τ) (ms0_60 t) fullShare ((dats m 0 c).after 60 t)
    ∗ owns (c : Thread nD τ) (ms0_61 t) fullShare ((dats m 0 c).after 61 t)
    ∗ owns (c : Thread nD τ) (ms0_62 t) fullShare ((dats m 0 c).after 62 t))

set_option maxHeartbeats 6000000 in
/-- The body at the grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13,
    before0_14, before0_15, before0_16, before0_17, before0_18, before0_19, before0_20, before0_21, before0_22, before0_23, before0_24, before0_25, before0_26,
    before0_27, before0_28, before0_29, before0_30, before0_31, before0_32, before0_33, before0_34, before0_35]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15,
    after0_16, after0_17, after0_18, after0_19, after0_20, after0_21, after0_22, after0_23, after0_24, after0_25, after0_26, after0_27, after0_28, after0_29, after0_30,
    after0_31, after0_32, after0_33, after0_34, after0_35, after0_36, after0_37, after0_38, after0_39, after0_40, after0_41, after0_42, after0_43, after0_44, after0_45,
    after0_46, after0_47, after0_48, after0_49, after0_50, after0_51, after0_52, after0_53, after0_54, after0_55, after0_56, after0_57, after0_58, after0_59, after0_60,
    after0_61, after0_62]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩,
    ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩,
    ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩,
    ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩,
    ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩,
    ⟨%d62, H62⟩⟩
  rw [AdamSmallBody.body_eq]
  iapply (WeightStep.step_wp (defs₀ (F := F)) c _ _ _ _ _ _ _ _ _ _ _ _ _ _ _ _ (iblk m c 0 t) (iblk m c 9 t) (iblk m c 18 t) (iblk m c 27 t))
  isplitl [H0]; · iexact H0
  isplitl [H9]; · iexact H9
  isplitl [H18]; · iexact H18
  isplitl [H27]; · iexact H27
  isplitl [H36]; · iexists _; iexact H36
  isplitl [H45]; · iexists _; iexact H45
  isplitl [H54]; · iexists _; iexact H54
  iintro ⟨H0, H9, H18, H27, H36, H45, H54⟩
  iapply (WeightStep.step_wp (defs₀ (F := F)) c _ _ _ _ _ _ _ _ _ _ _ _ _ _ _ _ (iblk m c 1 t) (iblk m c 10 t) (iblk m c 19 t) (iblk m c 28 t))
  isplitl [H1]; · iexact H1
  isplitl [H10]; · iexact H10
  isplitl [H19]; · iexact H19
  isplitl [H28]; · iexact H28
  isplitl [H37]; · iexists _; iexact H37
  isplitl [H46]; · iexists _; iexact H46
  isplitl [H55]; · iexists _; iexact H55
  iintro ⟨H1, H10, H19, H28, H37, H46, H55⟩
  iapply (WeightStep.step_wp (defs₀ (F := F)) c _ _ _ _ _ _ _ _ _ _ _ _ _ _ _ _ (iblk m c 2 t) (iblk m c 11 t) (iblk m c 20 t) (iblk m c 29 t))
  isplitl [H2]; · iexact H2
  isplitl [H11]; · iexact H11
  isplitl [H20]; · iexact H20
  isplitl [H29]; · iexact H29
  isplitl [H38]; · iexists _; iexact H38
  isplitl [H47]; · iexists _; iexact H47
  isplitl [H56]; · iexists _; iexact H56
  iintro ⟨H2, H11, H20, H29, H38, H47, H56⟩
  iapply (WeightStep.step_wp (defs₀ (F := F)) c _ _ _ _ _ _ _ _ _ _ _ _ _ _ _ _ (iblk m c 3 t) (iblk m c 12 t) (iblk m c 21 t) (iblk m c 30 t))
  isplitl [H3]; · iexact H3
  isplitl [H12]; · iexact H12
  isplitl [H21]; · iexact H21
  isplitl [H30]; · iexact H30
  isplitl [H39]; · iexists _; iexact H39
  isplitl [H48]; · iexists _; iexact H48
  isplitl [H57]; · iexists _; iexact H57
  iintro ⟨H3, H12, H21, H30, H39, H48, H57⟩
  iapply (WeightStep.step_wp (defs₀ (F := F)) c _ _ _ _ _ _ _ _ _ _ _ _ _ _ _ _ (iblk m c 4 t) (iblk m c 13 t) (iblk m c 22 t) (iblk m c 31 t))
  isplitl [H4]; · iexact H4
  isplitl [H13]; · iexact H13
  isplitl [H22]; · iexact H22
  isplitl [H31]; · iexact H31
  isplitl [H40]; · iexists _; iexact H40
  isplitl [H49]; · iexists _; iexact H49
  isplitl [H58]; · iexists _; iexact H58
  iintro ⟨H4, H13, H22, H31, H40, H49, H58⟩
  iapply (WeightStep.step_wp (defs₀ (F := F)) c _ _ _ _ _ _ _ _ _ _ _ _ _ _ _ _ (iblk m c 5 t) (iblk m c 14 t) (iblk m c 23 t) (iblk m c 32 t))
  isplitl [H5]; · iexact H5
  isplitl [H14]; · iexact H14
  isplitl [H23]; · iexact H23
  isplitl [H32]; · iexact H32
  isplitl [H41]; · iexists _; iexact H41
  isplitl [H50]; · iexists _; iexact H50
  isplitl [H59]; · iexists _; iexact H59
  iintro ⟨H5, H14, H23, H32, H41, H50, H59⟩
  iapply (WeightStep.step_wp (defs₀ (F := F)) c _ _ _ _ _ _ _ _ _ _ _ _ _ _ _ _ (iblk m c 6 t) (iblk m c 15 t) (iblk m c 24 t) (iblk m c 33 t))
  isplitl [H6]; · iexact H6
  isplitl [H15]; · iexact H15
  isplitl [H24]; · iexact H24
  isplitl [H33]; · iexact H33
  isplitl [H42]; · iexists _; iexact H42
  isplitl [H51]; · iexists _; iexact H51
  isplitl [H60]; · iexists _; iexact H60
  iintro ⟨H6, H15, H24, H33, H42, H51, H60⟩
  iapply (WeightStep.step_wp (defs₀ (F := F)) c _ _ _ _ _ _ _ _ _ _ _ _ _ _ _ _ (iblk m c 7 t) (iblk m c 16 t) (iblk m c 25 t) (iblk m c 34 t))
  isplitl [H7]; · iexact H7
  isplitl [H16]; · iexact H16
  isplitl [H25]; · iexact H25
  isplitl [H34]; · iexact H34
  isplitl [H43]; · iexists _; iexact H43
  isplitl [H52]; · iexists _; iexact H52
  isplitl [H61]; · iexists _; iexact H61
  iintro ⟨H7, H16, H25, H34, H43, H52, H61⟩
  iapply (WeightStep.step_wp (defs₀ (F := F)) c _ _ _ _ _ _ _ _ _ _ _ _ _ _ _ _ (iblk m c 8 t) (iblk m c 17 t) (iblk m c 26 t) (iblk m c 35 t))
  isplitl [H8]; · iexact H8
  isplitl [H17]; · iexact H17
  isplitl [H26]; · iexact H26
  isplitl [H35]; · iexact H35
  isplitl [H44]; · iexists _; iexact H44
  isplitl [H53]; · iexists _; iexact H53
  isplitl [H62]; · iexists _; iexact H62
  iintro ⟨H8, H17, H26, H35, H44, H53, H62⟩
  sl_step
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  iexact H62

/-- The body the pipeline calls at a point. -/
theorem defs₀_row (t : Fin cfg0.N) :
    defs₀ (F := F) .tc cfg0.body (cfg0.bodyArgs t (cfg0.slots t)) = bodyAt0 t := by
  unfold defs₀; rw [Defs.onTc_tc]

set_option maxHeartbeats 6000000 in
/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the launch finishes as the pipeline says, with the semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the launch finishes as the pipeline says. -/
theorem run_main : θ_run defs (onTc (τ := τ) (main (F := F))) (s₀ m ρ) (Pipeline.FramePost cfgs (dats m) 0 (V m)) :=
  (θ_run defs _ _).mono (fun _ h => h.1) (run_main_quiescent m ρ)

/-- Every run finishes with the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))
      ∧ r.2.sem = fun _ => 0) :=
  θ_run_and (frame_of m ρ (dats m) (A_eq m) (run_main m ρ)) ((θ_run defs _ _).mono (fun _ h => h.2) (run_main_quiescent m ρ))

set_option maxHeartbeats 2000000 in
/-- Every run finishes with each output array as the pipeline left it, the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 36 cfg0.N
      ∧ r.2.mem ((c : Thread nD τ).loc main_v1_1) = (dats m 0 c).arrAt 37 cfg0.N
      ∧ r.2.mem ((c : Thread nD τ).loc main_v1_2) = (dats m 0 c).arrAt 38 cfg0.N
      ∧ r.2.mem ((c : Thread nD τ).loc main_v1_3) = (dats m 0 c).arrAt 39 cfg0.N
      ∧ r.2.mem ((c : Thread nD τ).loc main_v1_4) = (dats m 0 c).arrAt 40 cfg0.N
      ∧ r.2.mem ((c : Thread nD τ).loc main_v1_5) = (dats m 0 c).arrAt 41 cfg0.N
      ∧ r.2.mem ((c : Thread nD τ).loc main_v1_6) = (dats m 0 c).arrAt 42 cfg0.N
      ∧ r.2.mem ((c : Thread nD τ).loc main_v1_7) = (dats m 0 c).arrAt 43 cfg0.N
      ∧ r.2.mem ((c : Thread nD τ).loc main_v1_8) = (dats m 0 c).arrAt 44 cfg0.N
      ∧ r.2.mem ((c : Thread nD τ).loc main_v1_9) = (dats m 0 c).arrAt 45 cfg0.N
      ∧ r.2.mem ((c : Thread nD τ).loc main_v1_10) = (dats m 0 c).arrAt 46 cfg0.N
      ∧ r.2.mem ((c : Thread nD τ).loc main_v1_11) = (dats m 0 c).arrAt 47 cfg0.N
      ∧ r.2.mem ((c : Thread nD τ).loc main_v1_12) = (dats m 0 c).arrAt 48 cfg0.N
      ∧ r.2.mem ((c : Thread nD τ).loc main_v1_13) = (dats m 0 c).arrAt 49 cfg0.N
      ∧ r.2.mem ((c : Thread nD τ).loc main_v1_14) = (dats m 0 c).arrAt 50 cfg0.N
      ∧ r.2.mem ((c : Thread nD τ).loc main_v1_15) = (dats m 0 c).arrAt 51 cfg0.N
      ∧ r.2.mem ((c : Thread nD τ).loc main_v1_16) = (dats m 0 c).arrAt 52 cfg0.N
      ∧ r.2.mem ((c : Thread nD τ).loc main_v1_17) = (dats m 0 c).arrAt 53 cfg0.N
      ∧ r.2.mem ((c : Thread nD τ).loc main_v1_18) = (dats m 0 c).arrAt 54 cfg0.N
      ∧ r.2.mem ((c : Thread nD τ).loc main_v1_19) = (dats m 0 c).arrAt 55 cfg0.N
      ∧ r.2.mem ((c : Thread nD τ).loc main_v1_20) = (dats m 0 c).arrAt 56 cfg0.N
      ∧ r.2.mem ((c : Thread nD τ).loc main_v1_21) = (dats m 0 c).arrAt 57 cfg0.N
      ∧ r.2.mem ((c : Thread nD τ).loc main_v1_22) = (dats m 0 c).arrAt 58 cfg0.N
      ∧ r.2.mem ((c : Thread nD τ).loc main_v1_23) = (dats m 0 c).arrAt 59 cfg0.N
      ∧ r.2.mem ((c : Thread nD τ).loc main_v1_24) = (dats m 0 c).arrAt 60 cfg0.N
      ∧ r.2.mem ((c : Thread nD τ).loc main_v1_25) = (dats m 0 c).arrAt 61 cfg0.N
      ∧ r.2.mem ((c : Thread nD τ).loc main_v1_26) = (dats m 0 c).arrAt 62 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35) :=
  (θ_run defs _ _).mono (fun r h c => ⟨(h.1 c).1 36, (h.1 c).1 37, (h.1 c).1 38, (h.1 c).1 39, (h.1 c).1 40, (h.1 c).1 41, (h.1 c).1 42, (h.1 c).1 43, (h.1 c).1 44, (h.1 c).1 45, (h.1 c).1 46,
    (h.1 c).1 47, (h.1 c).1 48, (h.1 c).1 49, (h.1 c).1 50, (h.1 c).1 51, (h.1 c).1 52, (h.1 c).1 53, (h.1 c).1 54, (h.1 c).1 55, (h.1 c).1 56, (h.1 c).1 57,
    (h.1 c).1 58, (h.1 c).1 59, (h.1 c).1 60, (h.1 c).1 61, (h.1 c).1 62, h.2 c⟩)
    (θ_run_and (run_main m ρ) (frame_of m ρ (dats m) (A_eq m) (run_main m ρ)))

end Cert.Own.AdamSmallRun

end
-- ==== Proof.AdamVec.lean ====
/- The AdamW step of a whole array, at any shape: the functions, and a host program's spelling of them. -/
module

public import proofs.«01_k».proof.Proof.AdamRule
public import Idealize.ShloMosaic.Lib.Pointwise

@[expose] public section

noncomputable section

namespace Cert.Own.AdamVec

open Idealize.ShloMosaic

variable {s : Shape}

/-- The first moment of every entry. -/
def means (g m : FVec Ideal s .f32) : FVec Ideal s .f32 := fun i => AdamRule.mean (g i) (m i)

/-- The second moment of every entry. -/
def squares (g v : FVec Ideal s .f32) : FVec Ideal s .f32 := fun i => AdamRule.square (g i) (v i)

/-- What every entry of the weight gains. -/
def deltas (w g m v : FVec Ideal s .f32) : FVec Ideal s .f32 := fun i => AdamRule.delta (w i) (g i) (m i) (v i)

/-- A number as an array of shape `s`, the way a host program writes it. -/
abbrev filled (h : (⟨0, ![]⟩ : Shape).BroadcastsInDim s (![] : Fin 0 → Fin s.rank)) (b : BitVec 32) : FVec Ideal s .f32 :=
  broadcastInDim s ![] h (constant ⟨0, ![]⟩ .f32 b)

theorem host_means (h) {g a g' a' : FVec Ideal s .f32} (hg : g = g') (ha : a = a') :
    addf (mulf (filled h 0x3F666666#32) a) (mulf (filled h 0x3DCCCCCD#32) g) = means g' a' := by
  subst hg ha; rfl

theorem host_squares (h) {g b g' b' : FVec Ideal s .f32} (hg : g = g') (hb : b = b') :
    addf (mulf (filled h 0x3F7FBE77#32) b) (mulf (filled h 0x3A83126F#32) (mulf g g)) = squares g' b' := by
  subst hg hb; rfl

theorem host_deltas (h) {w g a b w' g' a' b' : FVec Ideal s .f32} (hw : w = w') (hg : g = g') (ha : a = a') (hb : b = b') :
    mulf (filled h 0xBA83126F#32) (addf (Host.divf (Host.divf (addf (mulf (filled h 0x3F666666#32) a) (mulf (filled h 0x3DCCCCCD#32) g)) (filled h 0x3F26BD02#32))
      (addf (Host.sqrt (Host.divf (addf (mulf (filled h 0x3F7FBE77#32) b) (mulf (filled h 0x3A83126F#32) (mulf g g))) (filled h 0x3C231ACC#32))) (filled h 0x322BCC77#32)))
      (mulf (filled h 0x3C23D70A#32) w)) = deltas w' g' a' b' := by
  subst hw hg ha hb; rfl

end Cert.Own.AdamVec

end
-- ==== Proof.AdamSmallMeans.lean ====
/- The first moments the small weights' optimiser call stores. -/
module

public import proofs.«01_k».proof.Proof.AdamSmallRun
public import proofs.«01_k».proof.Proof.AdamVec
public import Idealize.ShloMosaic.Lib.Pipeline.ValueKit
public import Idealize.ShloMosaic.Lib.Pointwise

@[expose] public section

set_option maxRecDepth 16384

noncomputable section

namespace Cert.Own.AdamSmall

open Cert.AdamSmallIdeal Cert.AdamSmallIdeal.Gen AdamSmallRun Idealize.ShloMosaic Idealize.ShloMosaic.TcCoe Idealize.SL.Sem

variable (m : (ℓ : Loc nD τ sig) → Buf (Elt Ideal) ℓ)

set_option maxHeartbeats 8000000 in
/-- The first moments the small weights' optimiser call stores. -/
theorem means (c : Dev nD) :
    (dats m 0 c).arrAt 45 cfg0.N = AdamVec.means (s := S16x512) (m ((c : Thread nD τ).loc main_arg9)) (m ((c : Thread nD τ).loc main_arg18))
    ∧ (dats m 0 c).arrAt 46 cfg0.N = AdamVec.means (s := S1x2048) (m ((c : Thread nD τ).loc main_arg10)) (m ((c : Thread nD τ).loc main_arg19))
    ∧ (dats m 0 c).arrAt 47 cfg0.N = AdamVec.means (s := S16x128) (m ((c : Thread nD τ).loc main_arg11)) (m ((c : Thread nD τ).loc main_arg20))
    ∧ (dats m 0 c).arrAt 48 cfg0.N = AdamVec.means (s := S1x512) (m ((c : Thread nD τ).loc main_arg12)) (m ((c : Thread nD τ).loc main_arg21))
    ∧ (dats m 0 c).arrAt 49 cfg0.N = AdamVec.means (s := S1x256) (m ((c : Thread nD τ).loc main_arg13)) (m ((c : Thread nD τ).loc main_arg22))
    ∧ (dats m 0 c).arrAt 50 cfg0.N = AdamVec.means (s := S4x64x256) (m ((c : Thread nD τ).loc main_arg14)) (m ((c : Thread nD τ).loc main_arg23))
    ∧ (dats m 0 c).arrAt 51 cfg0.N = AdamVec.means (s := S1x1024) (m ((c : Thread nD τ).loc main_arg15)) (m ((c : Thread nD τ).loc main_arg24))
    ∧ (dats m 0 c).arrAt 52 cfg0.N = AdamVec.means (s := S1x2048) (m ((c : Thread nD τ).loc main_arg16)) (m ((c : Thread nD τ).loc main_arg25))
    ∧ (dats m 0 c).arrAt 53 cfg0.N = AdamVec.means (s := S1x2048) (m ((c : Thread nD τ).loc main_arg17)) (m ((c : Thread nD τ).loc main_arg26)) := by
  refine ⟨?_, ?_, ?_, ?_, ?_, ?_, ?_, ?_, ?_⟩
  all_goals
    refine (dats m 0 c).arrAt_eq_of_covers _ _ (by decide +kernel) fun t hf j => ?_
    blk_simp
    simp only [after0_45, after0_46, after0_47, after0_48, after0_49, after0_50, after0_51, after0_52, after0_53]
    unfold AdamVec.means AdamRule.mean
    idx_vars j
    pointwise [k0_pay4, k0_pay7, k0_pay10, k0_pay13, k0_pay16, k0_pay19, k0_pay22, k0_pay26, k0_pay25, k0_pay1, k0_pay29, k0_pay30]
    blk_point [iblk, V]
  all_goals rfl

end Cert.Own.AdamSmall

end
-- ==== Proof.AdamSmallSquares.lean ====
/- The second moments the small weights' optimiser call stores. -/
module

public import proofs.«01_k».proof.Proof.AdamSmallRun
public import proofs.«01_k».proof.Proof.AdamVec
public import Idealize.ShloMosaic.Lib.Pipeline.ValueKit
public import Idealize.ShloMosaic.Lib.Pointwise

@[expose] public section

set_option maxRecDepth 16384

noncomputable section

namespace Cert.Own.AdamSmall

open Cert.AdamSmallIdeal Cert.AdamSmallIdeal.Gen AdamSmallRun Idealize.ShloMosaic Idealize.ShloMosaic.TcCoe Idealize.SL.Sem

variable (m : (ℓ : Loc nD τ sig) → Buf (Elt Ideal) ℓ)

set_option maxHeartbeats 8000000 in
/-- The second moments the small weights' optimiser call stores. -/
theorem squares (c : Dev nD) :
    (dats m 0 c).arrAt 54 cfg0.N = AdamVec.squares (s := S16x512) (m ((c : Thread nD τ).loc main_arg9)) (m ((c : Thread nD τ).loc main_arg27))
    ∧ (dats m 0 c).arrAt 55 cfg0.N = AdamVec.squares (s := S1x2048) (m ((c : Thread nD τ).loc main_arg10)) (m ((c : Thread nD τ).loc main_arg28))
    ∧ (dats m 0 c).arrAt 56 cfg0.N = AdamVec.squares (s := S16x128) (m ((c : Thread nD τ).loc main_arg11)) (m ((c : Thread nD τ).loc main_arg29))
    ∧ (dats m 0 c).arrAt 57 cfg0.N = AdamVec.squares (s := S1x512) (m ((c : Thread nD τ).loc main_arg12)) (m ((c : Thread nD τ).loc main_arg30))
    ∧ (dats m 0 c).arrAt 58 cfg0.N = AdamVec.squares (s := S1x256) (m ((c : Thread nD τ).loc main_arg13)) (m ((c : Thread nD τ).loc main_arg31))
    ∧ (dats m 0 c).arrAt 59 cfg0.N = AdamVec.squares (s := S4x64x256) (m ((c : Thread nD τ).loc main_arg14)) (m ((c : Thread nD τ).loc main_arg32))
    ∧ (dats m 0 c).arrAt 60 cfg0.N = AdamVec.squares (s := S1x1024) (m ((c : Thread nD τ).loc main_arg15)) (m ((c : Thread nD τ).loc main_arg33))
    ∧ (dats m 0 c).arrAt 61 cfg0.N = AdamVec.squares (s := S1x2048) (m ((c : Thread nD τ).loc main_arg16)) (m ((c : Thread nD τ).loc main_arg34))
    ∧ (dats m 0 c).arrAt 62 cfg0.N = AdamVec.squares (s := S1x2048) (m ((c : Thread nD τ).loc main_arg17)) (m ((c : Thread nD τ).loc main_arg35)) := by
  refine ⟨?_, ?_, ?_, ?_, ?_, ?_, ?_, ?_, ?_⟩
  all_goals
    refine (dats m 0 c).arrAt_eq_of_covers _ _ (by decide +kernel) fun t hf j => ?_
    blk_simp
    simp only [after0_54, after0_55, after0_56, after0_57, after0_58, after0_59, after0_60, after0_61, after0_62]
    unfold AdamVec.squares AdamRule.square
    idx_vars j
    pointwise [k0_pay5, k0_pay8, k0_pay11, k0_pay14, k0_pay17, k0_pay20, k0_pay23, k0_pay27, k0_pay2]
    blk_point [iblk, V]
  all_goals rfl

end Cert.Own.AdamSmall

end
-- ==== Proof.AdamSmallDeltas.lean ====
/- The changes of the first five small weights their optimiser call stores. -/
module

public import proofs.«01_k».proof.Proof.AdamSmallRun
public import proofs.«01_k».proof.Proof.AdamVec
public import Idealize.ShloMosaic.Lib.Pipeline.ValueKit
public import Idealize.ShloMosaic.Lib.Pointwise

@[expose] public section

set_option maxRecDepth 16384

noncomputable section

namespace Cert.Own.AdamSmall

open Cert.AdamSmallIdeal Cert.AdamSmallIdeal.Gen AdamSmallRun Idealize.ShloMosaic Idealize.ShloMosaic.TcCoe Idealize.SL.Sem

variable (m : (ℓ : Loc nD τ sig) → Buf (Elt Ideal) ℓ)

set_option maxHeartbeats 8000000 in
/-- The changes of the first five small weights their optimiser call stores. -/
theorem deltas (c : Dev nD) :
    (dats m 0 c).arrAt 36 cfg0.N = AdamVec.deltas (s := S16x512) (m ((c : Thread nD τ).loc main_arg0)) (m ((c : Thread nD τ).loc main_arg9)) (m ((c : Thread nD τ).loc main_arg18)) (m ((c : Thread nD τ).loc main_arg27))
    ∧ (dats m 0 c).arrAt 37 cfg0.N = AdamVec.deltas (s := S1x2048) (m ((c : Thread nD τ).loc main_arg1)) (m ((c : Thread nD τ).loc main_arg10)) (m ((c : Thread nD τ).loc main_arg19)) (m ((c : Thread nD τ).loc main_arg28))
    ∧ (dats m 0 c).arrAt 38 cfg0.N = AdamVec.deltas (s := S16x128) (m ((c : Thread nD τ).loc main_arg2)) (m ((c : Thread nD τ).loc main_arg11)) (m ((c : Thread nD τ).loc main_arg20)) (m ((c : Thread nD τ).loc main_arg29))
    ∧ (dats m 0 c).arrAt 39 cfg0.N = AdamVec.deltas (s := S1x512) (m ((c : Thread nD τ).loc main_arg3)) (m ((c : Thread nD τ).loc main_arg12)) (m ((c : Thread nD τ).loc main_arg21)) (m ((c : Thread nD τ).loc main_arg30))
    ∧ (dats m 0 c).arrAt 40 cfg0.N = AdamVec.deltas (s := S1x256) (m ((c : Thread nD τ).loc main_arg4)) (m ((c : Thread nD τ).loc main_arg13)) (m ((c : Thread nD τ).loc main_arg22)) (m ((c : Thread nD τ).loc main_arg31)) := by
  refine ⟨?_, ?_, ?_, ?_, ?_⟩
  all_goals
    refine (dats m 0 c).arrAt_eq_of_covers _ _ (by decide +kernel) fun t hf j => ?_
    blk_simp
    simp only [after0_36, after0_37, after0_38, after0_39, after0_40]
    unfold AdamVec.deltas AdamRule.delta AdamRule.mean AdamRule.square
    idx_vars j
    pointwise [k0_pay6, k0_pay4, k0_pay5, k0_pay9, k0_pay7, k0_pay8, k0_pay12, k0_pay10, k0_pay11, k0_pay15, k0_pay13, k0_pay14, k0_pay18, k0_pay16, k0_pay17]
    blk_point [iblk, V]
  all_goals rfl

end Cert.Own.AdamSmall

end
-- ==== Proof.AdamSmallDeltasRest.lean ====
/- The changes of the last four small weights their optimiser call stores. -/
module

public import proofs.«01_k».proof.Proof.AdamSmallRun
public import proofs.«01_k».proof.Proof.AdamVec
public import Idealize.ShloMosaic.Lib.Pipeline.ValueKit
public import Idealize.ShloMosaic.Lib.Pointwise

@[expose] public section

set_option maxRecDepth 16384

noncomputable section

namespace Cert.Own.AdamSmall

open Cert.AdamSmallIdeal Cert.AdamSmallIdeal.Gen AdamSmallRun Idealize.ShloMosaic Idealize.ShloMosaic.TcCoe Idealize.SL.Sem

variable (m : (ℓ : Loc nD τ sig) → Buf (Elt Ideal) ℓ)

set_option maxHeartbeats 8000000 in
/-- The changes of the last four small weights their optimiser call stores. -/
theorem deltas_rest (c : Dev nD) :
    (dats m 0 c).arrAt 41 cfg0.N = AdamVec.deltas (s := S4x64x256) (m ((c : Thread nD τ).loc main_arg5)) (m ((c : Thread nD τ).loc main_arg14)) (m ((c : Thread nD τ).loc main_arg23)) (m ((c : Thread nD τ).loc main_arg32))
    ∧ (dats m 0 c).arrAt 42 cfg0.N = AdamVec.deltas (s := S1x1024) (m ((c : Thread nD τ).loc main_arg6)) (m ((c : Thread nD τ).loc main_arg15)) (m ((c : Thread nD τ).loc main_arg24)) (m ((c : Thread nD τ).loc main_arg33))
    ∧ (dats m 0 c).arrAt 43 cfg0.N = AdamVec.deltas (s := S1x2048) (m ((c : Thread nD τ).loc main_arg7)) (m ((c : Thread nD τ).loc main_arg16)) (m ((c : Thread nD τ).loc main_arg25)) (m ((c : Thread nD τ).loc main_arg34))
    ∧ (dats m 0 c).arrAt 44 cfg0.N = AdamVec.deltas (s := S1x2048) (m ((c : Thread nD τ).loc main_arg8)) (m ((c : Thread nD τ).loc main_arg17)) (m ((c : Thread nD τ).loc main_arg26)) (m ((c : Thread nD τ).loc main_arg35)) := by
  refine ⟨?_, ?_, ?_, ?_⟩
  all_goals
    refine (dats m 0 c).arrAt_eq_of_covers _ _ (by decide +kernel) fun t hf j => ?_
    blk_simp
    simp only [after0_41, after0_42, after0_43, after0_44]
    unfold AdamVec.deltas AdamRule.delta AdamRule.mean AdamRule.square
    idx_vars j
    pointwise [k0_pay21, k0_pay19, k0_pay20, k0_pay24, k0_pay22, k0_pay23, k0_pay28, k0_pay26, k0_pay25, k0_pay27, k0_pay3, k0_pay1, k0_pay29, k0_pay30, k0_pay2]
    blk_point [iblk, V]
  all_goals rfl

end Cert.Own.AdamSmall

end
-- ==== Proof.AdamSmall.lean ====
/- The AdamW step of the nine small weights, in one call. -/
module

public import proofs.«01_k».proof.Defs
public import proofs.«01_k».proof.Proof.AdamSmallMeans
public import proofs.«01_k».proof.Proof.AdamSmallSquares
public import proofs.«01_k».proof.Proof.AdamSmallDeltas
public import proofs.«01_k».proof.Proof.AdamSmallDeltasRest
public import proofs.«01_k».proof.Proof.Gen.RefAdamSmallIdeal.Run

@[expose] public section

set_option maxRecDepth 16384

noncomputable section

namespace Cert.Own.AdamSmall

open Cert.AdamSmallIdeal Cert.AdamSmallIdeal.Gen AdamSmallRun Idealize.ShloMosaic Idealize.ShloMosaic.TcCoe Idealize.SL.Sem

set_option maxHeartbeats 4000000 in
theorem algebraic : algebraic_AdamSmallIdeal_RefAdamSmallIdeal := by
  intro m g m' g' _ hm
  refine ⟨fun c => (dats m 0 c).arrAt 36 cfg0.N, fun c => (dats m 0 c).arrAt 37 cfg0.N, fun c => (dats m 0 c).arrAt 38 cfg0.N, fun c => (dats m 0 c).arrAt 39 cfg0.N,
    fun c => (dats m 0 c).arrAt 40 cfg0.N, fun c => (dats m 0 c).arrAt 41 cfg0.N, fun c => (dats m 0 c).arrAt 42 cfg0.N, fun c => (dats m 0 c).arrAt 43 cfg0.N,
    fun c => (dats m 0 c).arrAt 44 cfg0.N, fun c => (dats m 0 c).arrAt 45 cfg0.N, fun c => (dats m 0 c).arrAt 46 cfg0.N, fun c => (dats m 0 c).arrAt 47 cfg0.N,
    fun c => (dats m 0 c).arrAt 48 cfg0.N, fun c => (dats m 0 c).arrAt 49 cfg0.N, fun c => (dats m 0 c).arrAt 50 cfg0.N, fun c => (dats m 0 c).arrAt 51 cfg0.N,
    fun c => (dats m 0 c).arrAt 52 cfg0.N, fun c => (dats m 0 c).arrAt 53 cfg0.N, fun c => (dats m 0 c).arrAt 54 cfg0.N, fun c => (dats m 0 c).arrAt 55 cfg0.N,
    fun c => (dats m 0 c).arrAt 56 cfg0.N, fun c => (dats m 0 c).arrAt 57 cfg0.N, fun c => (dats m 0 c).arrAt 58 cfg0.N, fun c => (dats m 0 c).arrAt 59 cfg0.N,
    fun c => (dats m 0 c).arrAt 60 cfg0.N, fun c => (dats m 0 c).arrAt 61 cfg0.N, fun c => (dats m 0 c).arrAt 62 cfg0.N,
    run_blocks m g, (θ_run _ _ _).mono (fun r h c => ?_) (Cert.RefAdamSmallIdeal.Value.run m' g')⟩
  obtain ⟨e0, e1, e2, e3, e4, e5, e6, e7, e8, e9, e10, e11, e12, e13, e14, e15, e16, e17, e18, e19, e20, e21, e22, e23, e24, e25, e26, e27, e28, e29, e30, e31, e32, e33,
    e34, e35⟩ := hm c
  obtain ⟨o0, o1, o2, o3, o4, o5, o6, o7, o8, o9, o10, o11, o12, o13, o14, o15, o16, o17, o18, o19, o20, o21, o22, o23, o24, o25, o26, kept⟩ := h c
  obtain ⟨d0, d1, d2, d3, d4⟩ := deltas m c
  obtain ⟨d5, d6, d7, d8⟩ := deltas_rest m c
  obtain ⟨a0, a1, a2, a3, a4, a5, a6, a7, a8⟩ := means m c
  obtain ⟨b0, b1, b2, b3, b4, b5, b6, b7, b8⟩ := squares m c
  exact ⟨o0.trans ((AdamVec.host_deltas _ e0 e9 e18 e27).trans d0.symm),
    o1.trans ((AdamVec.host_deltas _ e1 e10 e19 e28).trans d1.symm),
    o2.trans ((AdamVec.host_deltas _ e2 e11 e20 e29).trans d2.symm),
    o3.trans ((AdamVec.host_deltas _ e3 e12 e21 e30).trans d3.symm),
    o4.trans ((AdamVec.host_deltas _ e4 e13 e22 e31).trans d4.symm),
    o5.trans ((AdamVec.host_deltas _ e5 e14 e23 e32).trans d5.symm),
    o6.trans ((AdamVec.host_deltas _ e6 e15 e24 e33).trans d6.symm),
    o7.trans ((AdamVec.host_deltas _ e7 e16 e25 e34).trans d7.symm),
    o8.trans ((AdamVec.host_deltas _ e8 e17 e26 e35).trans d8.symm),
    o9.trans ((AdamVec.host_means _ e9 e18).trans a0.symm),
    o10.trans ((AdamVec.host_means _ e10 e19).trans a1.symm),
    o11.trans ((AdamVec.host_means _ e11 e20).trans a2.symm),
    o12.trans ((AdamVec.host_means _ e12 e21).trans a3.symm),
    o13.trans ((AdamVec.host_means _ e13 e22).trans a4.symm),
    o14.trans ((AdamVec.host_means _ e14 e23).trans a5.symm),
    o15.trans ((AdamVec.host_means _ e15 e24).trans a6.symm),
    o16.trans ((AdamVec.host_means _ e16 e25).trans a7.symm),
    o17.trans ((AdamVec.host_means _ e17 e26).trans a8.symm),
    o18.trans ((AdamVec.host_squares _ e9 e27).trans b0.symm),
    o19.trans ((AdamVec.host_squares _ e10 e28).trans b1.symm),
    o20.trans ((AdamVec.host_squares _ e11 e29).trans b2.symm),
    o21.trans ((AdamVec.host_squares _ e12 e30).trans b3.symm),
    o22.trans ((AdamVec.host_squares _ e13 e31).trans b4.symm),
    o23.trans ((AdamVec.host_squares _ e14 e32).trans b5.symm),
    o24.trans ((AdamVec.host_squares _ e15 e33).trans b6.symm),
    o25.trans ((AdamVec.host_squares _ e16 e34).trans b7.symm),
    o26.trans ((AdamVec.host_squares _ e17 e35).trans b8.symm), kept⟩

end Cert.Own.AdamSmall

end
-- ==== Proof.InProj.lean ====
/- The input projection: a grid point multiplies the rows by one device's columns of the weight, which the host places at a column offset of its own. -/
module

public import proofs.«01_k».proof.Defs
public import proofs.«01_k».proof.Proof.Gen.InProjIdeal.Value
public import proofs.«01_k».proof.Proof.Gen.RefInProjIdeal.Run
public import Idealize.ShloMosaic.Lib.Pipeline.ValueKit
public import Idealize.ShloMosaic.Lib.Pointwise

@[expose] public section

set_option maxRecDepth 16384

noncomputable section

namespace Cert.Own.InProj

open Cert.InProjIdeal Cert.InProjIdeal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![t.val, 0, 0] ∧ win0_2.index t = ![t.val, 0, 0] :=
  (by decide +kernel : ∀ t : Fin grid0.N, win0_0.index t = ![0, 0] ∧ win0_1.index t = ![t.val, 0, 0] ∧ win0_2.index t = ![t.val, 0, 0]) t

/-- The weight's columns, each device's at its offset, zero around them. -/
def placedAt (w : FVec Ideal S2048x4112 .bf16) (d : Fin 4) (r : Fin 2048) (q : Fin 1152) : EReal :=
  if h : 4 * d.val ≤ q.val ∧ q.val < 4 * d.val + 1028 then w (ix2 r ⟨1024 * d.val + q.val, by omega⟩) else 0

/-- The product, placed as the weight is. -/
def productAt (u : FVec Ideal S2176x2048 .bf16) (w : FVec Ideal S2048x4112 .bf16) (d : Fin 4) (r : Fin 2176) (q : Fin 1152) : EReal :=
  if h : 4 * d.val ≤ q.val ∧ q.val < 4 * d.val + 1028 then ∑ k : Fin 2048, u (ix2 r k) * w (ix2 k ⟨1024 * d.val + q.val, by omega⟩) else 0

theorem sum_placedAt (u : FVec Ideal S2176x2048 .bf16) (w : FVec Ideal S2048x4112 .bf16) (d : Fin 4) (r : Fin 2176) (q : Fin 1152) :
    (∑ k : Fin 2048, u (ix2 r k) * placedAt w d k q) = productAt u w d r q := by
  unfold placedAt productAt
  by_cases h : 4 * d.val ≤ q.val ∧ q.val < 4 * d.val + 1028
  · rw [dif_pos h]
    refine Finset.sum_congr rfl fun k _ => ?_
    rw [dif_pos h]
  · rw [dif_neg h]
    refine Finset.sum_eq_zero fun k _ => ?_
    rw [dif_neg h]
    exact mul_zero (u (ix2 r k) : EReal)

/-- One device's columns of the weight. -/
def columns (k : ℕ) (h : S4x2048x1028.Slices (![k, 0, 0] : Fin 3 → ℕ) S1x2048x1028) (w : FVec Ideal S2048x4112 .bf16) : FVec Ideal S2048x1028 .bf16 :=
  shapeCast S2048x1028 (extractStridedSlice S1x2048x1028 ![k, 0, 0] (transpose S4x2048x1028 [1, 0, 2] (shapeCast S2048x4x1028 w shapeCasts_S2048x4112_S2048x4x1028) transposes_S2048x4x1028_S4x2048x1028_1_0_2) h) shapeCasts_S1x2048x1028_S2048x1028

/-- … placed among zeros. -/
def piece (k lo hi : ℕ) (h : S4x2048x1028.Slices (![k, 0, 0] : Fin 3 → ℕ) S1x2048x1028) (p : S2048x1028.Pads (![0, lo] : Fin 2 → ℕ) ![0, hi] ![0, 0] S2048x1152) (w : FVec Ideal S2048x4112 .bf16) : FVec Ideal S1x2048x1152 .bf16 :=
  broadcastInDim S1x2048x1152 ![1, 2] bcast_S2048x1152_S1x2048x1152_1_2 (pad S2048x1152 ![0, lo] ![0, hi] ![0, 0] (columns k h w) (sitofp .bf16 (constantI S_ 32 0#32)) p h_S_)

theorem entry (c : Dev nD) (w : FVec Ideal S2048x4112 .bf16) (hw : m ((c : Thread nD τ).loc main_arg1) = w) :
    V m c main_v18 = fun i : S4x2048x1152.Idx => placedAt w (i 0) (i 1) (i 2) := by
  have h : (V m c main_v18 : FVec Ideal S4x2048x1152 .bf16) = concatenate S4x2048x1152 0
      [⟨S1x2048x1152, piece 0 0 124 slices_S4x2048x1028_S1x2048x1028_0_0_0 pads_S2048x1028_S2048x1152_000_01240 w⟩, ⟨S1x2048x1152, piece 1 4 120 slices_S4x2048x1028_S1x2048x1028_1_0_0 pads_S2048x1028_S2048x1152_000_41200 w⟩,
        ⟨S1x2048x1152, piece 2 8 116 slices_S4x2048x1028_S1x2048x1028_2_0_0 pads_S2048x1028_S2048x1152_000_81160 w⟩, ⟨S1x2048x1152, piece 3 12 112 slices_S4x2048x1028_S1x2048x1028_3_0_0 pads_S2048x1028_S2048x1152_000_121120 w⟩]
      concatenates_S1x2048x1152_S1x2048x1152_S1x2048x1152_S1x2048x1152_S4x2048x1152_d0 := by
    subst hw
    show StableHlo.after (List.flatten [hostOps0, hostOps0_1, hostOps0_2, hostOps0_3, hostOps0_4, hostOps0_5, hostOps0_6, hostOps0_7, hostOps0_8]) _ (Proc.devRef .tc main_v18) = _
    simp only [hostOps0, hostOps0_1, hostOps0_2, hostOps0_3, hostOps0_4, hostOps0_5, hostOps0_6, hostOps0_7, hostOps0_8, List.flatten_cons, List.flatten_nil, List.append_nil, List.cons_append, List.nil_append,
      StableHlo.TRef.binary, StableHlo.TRef.nullary, StableHlo.TRef.unary, StableHlo.TRef.toBuf, StableHlo.TRef.ofBuf, cast_eq]
    after_results <;> rfl
  rw [h]
  have z : (FloatOps.sitofp .bf16 (0#32 : BitVec 32) : Ideal .bf16) = (0 : EReal) := by
    show (((0#32 : BitVec 32).toInt : ℝ) : EReal) = 0
    simp
  funext i
  idx_vars i
  pointwise [piece, columns]
  change _ = placedAt w i0 i1 i2
  unfold placedAt
  rw [z]
  have := i0.isLt
  split_ifs <;> first | rfl | (exfalso; omega) | (refine congrArg w (congrArg (ix2 i1) (Fin.ext ?_)); dsimp only; omega)

theorem point (c : Dev nD) (u : FVec Ideal S2176x2048 .bf16) (p : FVec Ideal S4x2048x1152 .bf16)
    (hu : m ((c : Thread nD τ).loc main_arg0) = u) (hp : V m c main_v18 = p) (t : Fin cfg0.N) (j : S1x2176x1152.Idx) :
    k0_pay1 (F := Ideal) (iblk m c 0 t) (iblk m c 1 t) j = ∑ k : Fin 2048, u (ix2 (j 1) k) * p (ix3 ⟨t.val, t.isLt⟩ k (j 2)) := by
  obtain ⟨e0, e1, e2⟩ := idx t
  have : t.val < 4 := t.isLt
  idx_vars j
  pointwise [k0_pay1]
  subst hu hp
  blk_point [iblk, V, e0, e1]

theorem value (c : Dev nD) (u : FVec Ideal S2176x2048 .bf16) (w : FVec Ideal S2048x4112 .bf16)
    (hu : m ((c : Thread nD τ).loc main_arg0) = u) (hw : m ((c : Thread nD τ).loc main_arg1) = w) :
    (dats m 0 c).arrAt 2 cfg0.N = fun i : S4x2176x1152.Idx => productAt u w (i 0) (i 1) (i 2) := by
  refine (dats m 0 c).arrAt_eq_of_covers 2 _ (by decide +kernel) fun t hf j => ?_
  obtain ⟨e0, e1, e2⟩ := idx t
  have : t.val < 4 := t.isLt
  blk_simp
  rw [after0_2]
  frame_out
  refine (point m c u _ hu (entry m c w hw) t j).trans ((sum_placedAt u w _ _ _).trans ?_)
  idx_vars j
  refine congr (congrArg₂ (productAt u w) (Fin.ext ?_) (Fin.ext ?_)) (Fin.ext ?_)
  all_goals blk_simp [e2]

theorem algebraic : algebraic_InProjIdeal_RefInProjIdeal := by
  intro m g m' g' _ hm
  refine ⟨fun c => (dats m 0 c).arrAt 2 cfg0.N, Cert.InProjIdeal.Value.run_blocks m g,
    (θ_run _ _ _).mono (fun r h c => ⟨(h c).1.trans ?_, (h c).2⟩) (Cert.RefInProjIdeal.Value.run m' g')⟩
  rw [(hm c).1, (hm c).2]
  refine Eq.trans ?_ (value m c _ _ rfl rfl).symm
  have z : (FloatOps.sitofp .f32 (0#32 : BitVec 32) : Ideal .f32) = (0 : EReal) := by
    show (((0#32 : BitVec 32).toInt : ℝ) : EReal) = 0
    simp
  funext i
  idx_vars i
  pointwise
  change _ = productAt _ _ i0 i1 i2
  unfold productAt
  rw [z]
  have := i0.isLt
  split_ifs <;> first | rfl | (exfalso; omega) | exact Finset.sum_congr rfl fun k _ => congrArg (fun e : Fin 4112 => HMul.hMul (α := EReal)
    (m ((c : Thread nD τ).loc main_arg0) (ix2 i1 k)) (m ((c : Thread nD τ).loc main_arg1) (ix2 k e))) (Fin.ext (by dsimp only; omega))

end Cert.Own.InProj

end
-- ==== Proof.MlpUpFirst.lean ====
/- The first half of the MLP's first product: a grid point writes a block of columns of the activation and of its square. -/
module

public import proofs.«01_k».proof.Defs
public import proofs.«01_k».proof.Proof.Gen.MlpUpFirstIdeal.Value
public import proofs.«01_k».proof.Proof.Gen.RefMlpUpFirstIdeal.Run
public import Idealize.ShloMosaic.Lib.Pipeline.ValueKit
public import Idealize.ShloMosaic.Lib.Pointwise

@[expose] public section

set_option maxRecDepth 16384

noncomputable section

namespace Cert.Own.MlpUpFirst

open Cert.MlpUpFirstIdeal Cert.MlpUpFirstIdeal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![t.val / 2, 0, t.val % 2] ∧ win0_2.index t = ![0, t.val] ∧ win0_3.index t = ![0, t.val] :=
  (by decide +kernel : ∀ t : Fin grid0.N, win0_0.index t = ![0, 0] ∧ win0_1.index t = ![t.val / 2, 0, t.val % 2] ∧ win0_2.index t = ![0, t.val] ∧ win0_3.index t = ![0, t.val]) t

theorem entry (c : Dev nD) (w : FVec Ideal S2048x8192 .bf16) (hw : m ((c : Thread nD τ).loc main_arg1) = w) :
    V m c main_v1 = fun i : S4x2048x2048.Idx => w (ix2 (i 1) ⟨(i 0).val * 2048 + (i 2).val, by idx_bounds i; omega⟩) := by
  subst hw
  have h : (V m c main_v1 : FVec Ideal S4x2048x2048 .bf16) = transpose S4x2048x2048 [1, 0, 2]
      (shapeCast S2048x4x2048 (m ((c : Thread nD τ).loc main_arg1) : FVec Ideal S2048x8192 .bf16) shapeCasts_S2048x8192_S2048x4x2048) transposes_S2048x4x2048_S4x2048x2048_1_0_2 := by
    show StableHlo.after (List.flatten [hostOps0]) _ (Proc.devRef .tc main_v1) = _
    simp only [hostOps0, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
    rfl
  rw [h]
  funext i
  idx_vars i
  pointwise

/-- The activation of every column. -/
def act (n : FVec Ideal S2176x2048 .bf16) (w : FVec Ideal S2048x8192 .bf16) (i : S2176x8192.Idx) : EReal :=
  max (∑ k : Fin 2048, n (ix2 (i 0) k) * w (ix2 k (i 1))) 0

/-- One point's block of activations. -/
theorem point (c : Dev nD) (n : FVec Ideal S2176x2048 .bf16) (w : FVec Ideal S2048x8192 .bf16)
    (hn : m ((c : Thread nD τ).loc main_arg0) = n) (hw : m ((c : Thread nD τ).loc main_arg1) = w) (t : Fin cfg0.N) (j : S2176x1024.Idx) :
    k0_pay1 (F := Ideal) (iblk m c 0 t) (iblk m c 1 t) j
      = act n w (ix2 (j 0) ⟨t.val * 1024 + (j 1).val, by have : t.val < 4 := t.isLt; idx_bounds j; omega⟩) := by
  obtain ⟨e0, e1, e2, e3⟩ := idx t
  have : t.val < 4 := t.isLt
  unfold act
  idx_vars j
  pointwise [k0_pay1]
  subst hn
  blk_point [iblk, V, e0, e1]
  rw [entry m c w hw]
  dsimp only
  refine congrArg w (congrArg₂ ix2 (Fin.ext ?_) (Fin.ext ?_))
  · blk_simp [e1]
  · blk_simp [e1]
    show (t.val / 2 + 0) * 2048 + (t.val % 2 * 1024 + j1.val) = t.val * 1024 + j1.val
    omega

theorem value0 (c : Dev nD) (n : FVec Ideal S2176x2048 .bf16) (w : FVec Ideal S2048x8192 .bf16)
    (hn : m ((c : Thread nD τ).loc main_arg0) = n) (hw : m ((c : Thread nD τ).loc main_arg1) = w) (i : S2176x8192.Idx) :
    (i 1).val < 4096 → (dats m 0 c).arrAt 2 cfg0.N i = act n w i := by
  refine (dats m 0 c).arrAt_forall_of_coversWhere 2 (fun i v => (i (1 : Fin 2)).val < 4096 → v = act n w i) (fun β => β (1 : Fin 2) < 4) (by decide +kernel)
    (fun t hf j _ => ?_) (fun j hj hi => ?_) i
  · obtain ⟨e0, e1, e2, e3⟩ := idx t
    have : t.val < 4 := t.isLt
    blk_simp
    rw [after0_2]
    unfold outsAt0
    frame_out
    refine (point m c n w hn hw t j).trans (congrArg (act n w) ?_)
    idx_vars j
    refine (congrArg₂ ix2 (Fin.ext ?_) (Fin.ext ?_)).trans (eq_ix2 _).symm
    · blk_simp [e2]
    · blk_simp [e2]
  · blk_simp [Pipeline.Window.cell_apply] at hj hi
    omega

theorem value1 (c : Dev nD) (n : FVec Ideal S2176x2048 .bf16) (w : FVec Ideal S2048x8192 .bf16)
    (hn : m ((c : Thread nD τ).loc main_arg0) = n) (hw : m ((c : Thread nD τ).loc main_arg1) = w) (i : S2176x8192.Idx) :
    (i 1).val < 4096 → (dats m 0 c).arrAt 3 cfg0.N i = act n w i * act n w i := by
  refine (dats m 0 c).arrAt_forall_of_coversWhere 3 (fun i v => (i (1 : Fin 2)).val < 4096 → v = act n w i * act n w i) (fun β => β (1 : Fin 2) < 4) (by decide +kernel)
    (fun t hf j _ => ?_) (fun j hj hi => ?_) i
  · obtain ⟨e0, e1, e2, e3⟩ := idx t
    have : t.val < 4 := t.isLt
    blk_simp
    rw [after0_3]
    unfold outsAt0
    frame_out
    refine (congrArg (fun x : EReal => x * x) ((point m c n w hn hw t j).trans (congrArg (act n w) ?_)))
    idx_vars j
    refine (congrArg₂ ix2 (Fin.ext ?_) (Fin.ext ?_)).trans (eq_ix2 _).symm
    · blk_simp [e3]
    · blk_simp [e3]
  · blk_simp [Pipeline.Window.cell_apply] at hj hi
    omega

/-- The columns the statement speaks of are those below the middle one. -/
theorem column [Cert.On_first_half.Facts] (n : FVec Ideal S2176x2048 .bf16) (w : FVec Ideal S2048x8192 .bf16) (i : S2176x8192.Idx)
    (h : (Cert.On_first_half.fn (F := Ideal) n w).1 i = 1#1) : (i 1).val < 4096 := by
  have h1 : (BitVec.ofNat 32 (i 1).val).slt 4096#32 = true := by
    by_contra hn
    have : (Cert.On_first_half.fn (F := Ideal) n w).1 i = 0#1 := by
      show BitVec.ofBool ((BitVec.ofNat 32 (i 1).val).slt 4096#32) = 0#1
      rw [Bool.not_eq_true _ |>.mp hn]
      rfl
    rw [this] at h
    exact absurd h (by decide)
  have hb : (i 1).val < 8192 := (i 1).isLt
  rw [BitVec.slt_iff_toInt_lt] at h1
  have e : (BitVec.ofNat 32 (i 1).val).toInt = ((i 1).val : ℤ) := by
    rw [BitVec.toInt_eq_toNat_of_lt] <;> rw [BitVec.toNat_ofNat, Nat.mod_eq_of_lt (by omega)]
    omega
  have e' : (4096#32 : BitVec 32).toInt = 4096 := by decide
  omega

theorem algebraic [Cert.On_first_half.Facts] : algebraic_MlpUpFirstIdeal_RefMlpUpFirstIdeal_on_first_half := by
  intro m g m' g' _ hm
  refine ⟨fun c => (dats m 0 c).arrAt 2 cfg0.N, fun c => (dats m 0 c).arrAt 3 cfg0.N,
    (θ_run _ _ _).mono (fun r h c => ⟨fun i _ => congrFun (h c).1 i, fun i _ => congrFun (h c).2.1 i, (h c).2.2.2⟩) (Cert.MlpUpFirstIdeal.Value.run_blocks m g),
    (θ_run _ _ _).mono (fun r h c => ⟨fun i hi => (congrFun (h c).1 i).trans ?_, fun i hi => (congrFun (h c).2.1 i).trans ?_, (h c).2.2⟩) (Cert.RefMlpUpFirstIdeal.Value.run m' g')⟩
  · rw [(hm c).1, (hm c).2]
    refine Eq.trans ?_ (value0 m c _ _ rfl rfl i (column (m ((c : Thread nD τ).loc main_arg0)) (m ((c : Thread nD τ).loc main_arg1)) i hi)).symm
    clear hi
    unfold act
    idx_vars i
    pointwise
  · rw [(hm c).1, (hm c).2]
    refine Eq.trans ?_ (value1 m c _ _ rfl rfl i (column (m ((c : Thread nD τ).loc main_arg0)) (m ((c : Thread nD τ).loc main_arg1)) i hi)).symm
    clear hi
    unfold act
    idx_vars i
    pointwise

end Cert.Own.MlpUpFirst

end
-- ==== Proof.MlpUp.lean ====
/- The second half of the MLP's first product: a grid point writes a block of columns of both results over what the first half left. -/
module

public import proofs.«01_k».proof.Defs
public import proofs.«01_k».proof.Proof.Gen.MlpUpIdeal.Value
public import proofs.«01_k».proof.Proof.Gen.RefMlpUpIdeal.Run
public import Idealize.ShloMosaic.Lib.Pipeline.ValueKit
public import Idealize.ShloMosaic.Lib.Pointwise

@[expose] public section

set_option maxRecDepth 16384

noncomputable section

namespace Cert.Own.MlpUp

open Cert.MlpUpIdeal Cert.MlpUpIdeal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![2 + t.val / 2, 0, t.val % 2] ∧ win0_2.index t = ![0, 4 + t.val] ∧ win0_3.index t = ![0, 4 + t.val] :=
  (by decide +kernel : ∀ t : Fin grid0.N, win0_0.index t = ![0, 0] ∧ win0_1.index t = ![2 + t.val / 2, 0, t.val % 2] ∧ win0_2.index t = ![0, 4 + t.val] ∧ win0_3.index t = ![0, 4 + t.val]) t

theorem entry (c : Dev nD) (w : FVec Ideal S2048x8192 .bf16) (hw : m ((c : Thread nD τ).loc main_arg1) = w) :
    V m c main_v1 = fun i : S4x2048x2048.Idx => w (ix2 (i 1) ⟨(i 0).val * 2048 + (i 2).val, by idx_bounds i; omega⟩) := by
  subst hw
  have h : (V m c main_v1 : FVec Ideal S4x2048x2048 .bf16) = transpose S4x2048x2048 [1, 0, 2]
      (shapeCast S2048x4x2048 (m ((c : Thread nD τ).loc main_arg1) : FVec Ideal S2048x8192 .bf16) shapeCasts_S2048x8192_S2048x4x2048) transposes_S2048x4x2048_S4x2048x2048_1_0_2 := by
    show StableHlo.after (List.flatten [hostOps0, hostOps0_1, hostOps0_2]) _ (Proc.devRef .tc main_v1) = _
    simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
    rfl
  rw [h]
  funext i
  idx_vars i
  pointwise

/-- What the first half is told to have left: the activation of every column. -/
def act (n : FVec Ideal S2176x2048 .bf16) (w : FVec Ideal S2048x8192 .bf16) (i : S2176x8192.Idx) : EReal :=
  max (∑ k : Fin 2048, n (ix2 (i 0) k) * w (ix2 k (i 1))) 0

theorem entry0 (c : Dev nD) (n : FVec Ideal S2176x2048 .bf16) (w : FVec Ideal S2048x8192 .bf16)
    (hn : m ((c : Thread nD τ).loc main_arg0) = n) (hw : m ((c : Thread nD τ).loc main_arg1) = w) (i : S2176x8192.Idx) :
    (V m c main_v10_0 : FVec Ideal S2176x8192 .bf16) i = act n w i := by
  subst hn hw
  have h : (V m c main_v10_0 : FVec Ideal S2176x8192 .bf16) = truncf (F := Ideal) .bf16 (maximumf (Host.dotGeneral dot_S2176x2048_S2048x8192_S2176x8192_1_0_0_1_n_n none (extf .f32 (m ((c : Thread nD τ).loc main_arg0) : FVec Ideal S2176x2048 .bf16) bitsLt_bf16_f32) (extf .f32 (m ((c : Thread nD τ).loc main_arg1) : FVec Ideal S2048x8192 .bf16) bitsLt_bf16_f32)) (broadcastInDim S2176x8192 ![] bcast_S_S2176x8192 (constant S_ .f32 0x00000000#32))) bitsLt_bf16_f32 := by
    show StableHlo.after (List.flatten [hostOps0, hostOps0_1, hostOps0_2]) _ (Proc.devRef .tc main_v10_0) = _
    simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
    rfl
  rw [h]
  unfold act
  idx_vars i
  pointwise

theorem entry1 (c : Dev nD) (n : FVec Ideal S2176x2048 .bf16) (w : FVec Ideal S2048x8192 .bf16)
    (hn : m ((c : Thread nD τ).loc main_arg0) = n) (hw : m ((c : Thread nD τ).loc main_arg1) = w) (i : S2176x8192.Idx) :
    (V m c main_v10_1 : FVec Ideal S2176x8192 .bf16) i = act n w i * act n w i := by
  subst hn hw
  have h : ∃ x : FVec Ideal S2176x8192 .f32, x = maximumf (Host.dotGeneral dot_S2176x2048_S2048x8192_S2176x8192_1_0_0_1_n_n none (extf .f32 (m ((c : Thread nD τ).loc main_arg0) : FVec Ideal S2176x2048 .bf16) bitsLt_bf16_f32) (extf .f32 (m ((c : Thread nD τ).loc main_arg1) : FVec Ideal S2048x8192 .bf16) bitsLt_bf16_f32)) (broadcastInDim S2176x8192 ![] bcast_S_S2176x8192 (constant S_ .f32 0x00000000#32)) ∧
      (V m c main_v10_1 : FVec Ideal S2176x8192 .bf16) = truncf (F := Ideal) .bf16 (mulf x x) bitsLt_bf16_f32 := by
    refine ⟨_, rfl, ?_⟩
    show StableHlo.after (List.flatten [hostOps0, hostOps0_1, hostOps0_2]) _ (Proc.devRef .tc main_v10_1) = _
    simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
    rfl
  obtain ⟨x, hx, h⟩ := h
  rw [h, hx]
  unfold act
  idx_vars i
  pointwise

/-- One point's block of activations. -/
theorem point (c : Dev nD) (n : FVec Ideal S2176x2048 .bf16) (w : FVec Ideal S2048x8192 .bf16)
    (hn : m ((c : Thread nD τ).loc main_arg0) = n) (hw : m ((c : Thread nD τ).loc main_arg1) = w) (t : Fin cfg0.N) (j : S2176x1024.Idx) :
    k0_pay1 (F := Ideal) (iblk m c 0 t) (iblk m c 1 t) j
      = act n w (ix2 (j 0) ⟨(4 + t.val) * 1024 + (j 1).val, by have : t.val < 4 := t.isLt; idx_bounds j; omega⟩) := by
  obtain ⟨e0, e1, e2, e3⟩ := idx t
  have : t.val < 4 := t.isLt
  unfold act
  idx_vars j
  pointwise [k0_pay1]
  subst hn
  blk_point [iblk, V, e0, e1]
  rw [entry m c w hw]
  dsimp only
  refine congrArg w (congrArg₂ ix2 (Fin.ext ?_) (Fin.ext ?_))
  · blk_simp [e1]
  · blk_simp [e1]
    show (2 + t.val / 2 + 0) * 2048 + (t.val % 2 * 1024 + j1.val) = (4 + t.val) * 1024 + j1.val
    omega

theorem value0 (c : Dev nD) (n : FVec Ideal S2176x2048 .bf16) (w : FVec Ideal S2048x8192 .bf16)
    (hn : m ((c : Thread nD τ).loc main_arg0) = n) (hw : m ((c : Thread nD τ).loc main_arg1) = w) :
    (dats m 0 c).arrAt 2 cfg0.N = act n w := by
  refine (dats m 0 c).arrAt_eq_of_coversWhere_of_agree 2 _ (fun β => 4 ≤ β (1 : Fin 2)) (by decide +kernel) (fun t hf j => ?_) (fun j hj => entry0 m c n w hn hw _)
  obtain ⟨e0, e1, e2, e3⟩ := idx t
  have : t.val < 4 := t.isLt
  blk_simp
  rw [after0_2]
  unfold outsAt0
  frame_out
  refine (point m c n w hn hw t j).trans (congrArg (act n w) ?_)
  idx_vars j
  refine (congrArg₂ ix2 (Fin.ext ?_) (Fin.ext ?_)).trans (eq_ix2 _).symm
  · blk_simp [e2]
  · blk_simp [e2]

theorem value1 (c : Dev nD) (n : FVec Ideal S2176x2048 .bf16) (w : FVec Ideal S2048x8192 .bf16)
    (hn : m ((c : Thread nD τ).loc main_arg0) = n) (hw : m ((c : Thread nD τ).loc main_arg1) = w) :
    (dats m 0 c).arrAt 3 cfg0.N = fun i : S2176x8192.Idx => act n w i * act n w i := by
  refine (dats m 0 c).arrAt_eq_of_coversWhere_of_agree 3 _ (fun β => 4 ≤ β (1 : Fin 2)) (by decide +kernel) (fun t hf j => ?_) (fun j hj => entry1 m c n w hn hw _)
  obtain ⟨e0, e1, e2, e3⟩ := idx t
  have : t.val < 4 := t.isLt
  blk_simp
  rw [after0_3]
  unfold outsAt0
  frame_out
  refine (congrArg (fun x : EReal => x * x) ((point m c n w hn hw t j).trans (congrArg (act n w) ?_)))
  idx_vars j
  refine (congrArg₂ ix2 (Fin.ext ?_) (Fin.ext ?_)).trans (eq_ix2 _).symm
  · blk_simp [e3]
  · blk_simp [e3]

theorem algebraic : algebraic_MlpUpIdeal_RefMlpUpIdeal := by
  intro m g m' g' _ hm
  refine ⟨fun c => (dats m 0 c).arrAt 2 cfg0.N, fun c => (dats m 0 c).arrAt 3 cfg0.N,
    (θ_run _ _ _).mono (fun r h c => ⟨(h c).1, (h c).2.1, (h c).2.2.2⟩) (Cert.MlpUpIdeal.Value.run_blocks m g),
    (θ_run _ _ _).mono (fun r h c => ⟨(h c).1.trans ?_, (h c).2.1.trans ?_, (h c).2.2⟩) (Cert.RefMlpUpIdeal.Value.run m' g')⟩
  · rw [(hm c).1, (hm c).2]
    refine Eq.trans ?_ (value0 m c _ _ rfl rfl).symm
    funext i
    unfold act
    idx_vars i
    pointwise
  · rw [(hm c).1, (hm c).2]
    refine Eq.trans ?_ (value1 m c _ _ rfl rfl).symm
    funext i
    unfold act
    idx_vars i
    pointwise

end Cert.Own.MlpUp

end
-- ==== Proof.lean ====
/- The calls of the training step that carry matrix products and gradients: for each, every run of the program as
   written, of the program over the reals and of the reference finishes with the arguments unchanged, and the program over
   the reals computes what its reference computes. -/
module

public import proofs.«01_k».proof.Defs
public import proofs.«01_k».proof.Proof.Gen.GradW2
public import proofs.«01_k».proof.Proof.Gen.GradW2.Skeleton
public import proofs.«01_k».proof.Proof.Gen.GradW2.Launch
public import proofs.«01_k».proof.Proof.Gen.GradW2.Points
public import proofs.«01_k».proof.Proof.Gen.GradW2.Frame
public import proofs.«01_k».proof.Proof.Gen.GradW2Ideal
public import proofs.«01_k».proof.Proof.Gen.GradW2Ideal.Skeleton
public import proofs.«01_k».proof.Proof.Gen.GradW2Ideal.Launch
public import proofs.«01_k».proof.Proof.Gen.GradW2Ideal.Points
public import proofs.«01_k».proof.Proof.Gen.GradW2Ideal.Frame
public import proofs.«01_k».proof.Proof.Gen.RefGradW2Ideal
public import proofs.«01_k».proof.Proof.Gen.GradW2Ideal.Value
public import proofs.«01_k».proof.Proof.Gen.RefGradW2Ideal.Run
public import proofs.«01_k».proof.Proof.Gen.MlpDz
public import proofs.«01_k».proof.Proof.Gen.MlpDz.Skeleton
public import proofs.«01_k».proof.Proof.Gen.MlpDz.Launch
public import proofs.«01_k».proof.Proof.Gen.MlpDz.Points
public import proofs.«01_k».proof.Proof.Gen.MlpDz.Frame
public import proofs.«01_k».proof.Proof.Gen.MlpDzIdeal
public import proofs.«01_k».proof.Proof.Gen.MlpDzIdeal.Skeleton
public import proofs.«01_k».proof.Proof.Gen.MlpDzIdeal.Launch
public import proofs.«01_k».proof.Proof.Gen.MlpDzIdeal.Points
public import proofs.«01_k».proof.Proof.Gen.MlpDzIdeal.Frame
public import proofs.«01_k».proof.Proof.Gen.RefMlpDzIdeal
public import proofs.«01_k».proof.Proof.Gen.MlpDzIdeal.Value
public import proofs.«01_k».proof.Proof.Gen.RefMlpDzIdeal.Run
public import proofs.«01_k».proof.Proof.Gen.GradW1
public import proofs.«01_k».proof.Proof.Gen.GradW1.Skeleton
public import proofs.«01_k».proof.Proof.Gen.GradW1.Launch
public import proofs.«01_k».proof.Proof.Gen.GradW1.Points
public import proofs.«01_k».proof.Proof.Gen.GradW1.Frame
public import proofs.«01_k».proof.Proof.Gen.GradW1Ideal
public import proofs.«01_k».proof.Proof.Gen.GradW1Ideal.Skeleton
public import proofs.«01_k».proof.Proof.Gen.GradW1Ideal.Launch
public import proofs.«01_k».proof.Proof.Gen.GradW1Ideal.Points
public import proofs.«01_k».proof.Proof.Gen.GradW1Ideal.Frame
public import proofs.«01_k».proof.Proof.Gen.RefGradW1Ideal
public import proofs.«01_k».proof.Proof.Gen.GradW1Ideal.Value
public import proofs.«01_k».proof.Proof.Gen.RefGradW1Ideal.Run
public import proofs.«01_k».proof.Proof.Gen.MlpDn
public import proofs.«01_k».proof.Proof.Gen.MlpDn.Skeleton
public import proofs.«01_k».proof.Proof.Gen.MlpDn.Launch
public import proofs.«01_k».proof.Proof.Gen.MlpDn.Points
public import proofs.«01_k».proof.Proof.Gen.MlpDn.Frame
public import proofs.«01_k».proof.Proof.Gen.MlpDnIdeal
public import proofs.«01_k».proof.Proof.Gen.MlpDnIdeal.Skeleton
public import proofs.«01_k».proof.Proof.Gen.MlpDnIdeal.Launch
public import proofs.«01_k».proof.Proof.Gen.MlpDnIdeal.Points
public import proofs.«01_k».proof.Proof.Gen.MlpDnIdeal.Frame
public import proofs.«01_k».proof.Proof.Gen.RefMlpDnIdeal
public import proofs.«01_k».proof.Proof.Gen.RefMlpDnIdeal.Run
public import proofs.«01_k».proof.Proof.Gen.Mixed
public import proofs.«01_k».proof.Proof.Gen.Mixed.Skeleton
public import proofs.«01_k».proof.Proof.Gen.Mixed.Launch
public import proofs.«01_k».proof.Proof.Gen.Mixed.Points
public import proofs.«01_k».proof.Proof.Gen.Mixed.Frame
public import proofs.«01_k».proof.Proof.Gen.MixedIdeal
public import proofs.«01_k».proof.Proof.Gen.MixedIdeal.Skeleton
public import proofs.«01_k».proof.Proof.Gen.MixedIdeal.Launch
public import proofs.«01_k».proof.Proof.Gen.MixedIdeal.Points
public import proofs.«01_k».proof.Proof.Gen.MixedIdeal.Frame
public import proofs.«01_k».proof.Proof.Gen.RefMixedIdeal
public import proofs.«01_k».proof.Proof.Gen.MixedIdeal.Value
public import proofs.«01_k».proof.Proof.Gen.RefMixedIdeal.Run
public import proofs.«01_k».proof.Proof.Gen.GradWout
public import proofs.«01_k».proof.Proof.Gen.GradWout.Skeleton
public import proofs.«01_k».proof.Proof.Gen.GradWout.Launch
public import proofs.«01_k».proof.Proof.Gen.GradWout.Points
public import proofs.«01_k».proof.Proof.Gen.GradWout.Frame
public import proofs.«01_k».proof.Proof.Gen.GradWoutIdeal
public import proofs.«01_k».proof.Proof.Gen.GradWoutIdeal.Skeleton
public import proofs.«01_k».proof.Proof.Gen.GradWoutIdeal.Launch
public import proofs.«01_k».proof.Proof.Gen.GradWoutIdeal.Points
public import proofs.«01_k».proof.Proof.Gen.GradWoutIdeal.Frame
public import proofs.«01_k».proof.Proof.Gen.RefGradWoutIdeal
public import proofs.«01_k».proof.Proof.Gen.GradWoutIdeal.Value
public import proofs.«01_k».proof.Proof.Gen.RefGradWoutIdeal.Run
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.RefInGradIdeal
public import proofs.«01_k».proof.Proof.Gen.InGradIdeal.Value
public import proofs.«01_k».proof.Proof.Gen.RefInGradIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.RefOutProjIdeal
public import proofs.«01_k».proof.Proof.Gen.OutProjIdeal.Value
public import proofs.«01_k».proof.Proof.Gen.RefOutProjIdeal.Run
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.RefMlpDownIdeal
public import proofs.«01_k».proof.Proof.Gen.RefMlpDownIdeal.Run
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.RefNormBwdIdeal
public import proofs.«01_k».proof.Proof.Gen.NormBwdIdeal.Value
public import proofs.«01_k».proof.Proof.Gen.RefNormBwdIdeal.Run
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.RefAdamWIdeal
public import proofs.«01_k».proof.Proof.Gen.AdamWIdeal.Value
public import proofs.«01_k».proof.Proof.Gen.RefAdamWIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.RefAdamInIdeal
public import proofs.«01_k».proof.Proof.Gen.AdamInIdeal.Value
public import proofs.«01_k».proof.Proof.Gen.RefAdamInIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.RefAdamOutIdeal
public import proofs.«01_k».proof.Proof.Gen.AdamOutIdeal.Value
public import proofs.«01_k».proof.Proof.Gen.RefAdamOutIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.RefAdamSmallIdeal
public import proofs.«01_k».proof.Proof.Gen.RefAdamSmallIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.RefInProjIdeal
public import proofs.«01_k».proof.Proof.Gen.InProjIdeal.Value
public import proofs.«01_k».proof.Proof.Gen.RefInProjIdeal.Run
public import proofs.«01_k».proof.Proof.Gen.MlpUpFirst
public import proofs.«01_k».proof.Proof.Gen.MlpUpFirst.Skeleton
public import proofs.«01_k».proof.Proof.Gen.MlpUpFirst.Launch
public import proofs.«01_k».proof.Proof.Gen.MlpUpFirst.Points
public import proofs.«01_k».proof.Proof.Gen.MlpUpFirst.Frame
public import proofs.«01_k».proof.Proof.Gen.MlpUpFirstIdeal
public import proofs.«01_k».proof.Proof.Gen.MlpUpFirstIdeal.Skeleton
public import proofs.«01_k».proof.Proof.Gen.MlpUpFirstIdeal.Launch
public import proofs.«01_k».proof.Proof.Gen.MlpUpFirstIdeal.Points
public import proofs.«01_k».proof.Proof.Gen.MlpUpFirstIdeal.Frame
public import proofs.«01_k».proof.Proof.Gen.RefMlpUpFirstIdeal
public import proofs.«01_k».proof.Proof.Gen.MlpUpFirstIdeal.Value
public import proofs.«01_k».proof.Proof.Gen.RefMlpUpFirstIdeal.Run
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.RefMlpUpIdeal
public import proofs.«01_k».proof.Proof.Gen.MlpUpIdeal.Value
public import proofs.«01_k».proof.Proof.Gen.RefMlpUpIdeal.Run
public import proofs.«01_k».proof.Proof.GradW2
public import proofs.«01_k».proof.Proof.MlpDz
public import proofs.«01_k».proof.Proof.GradW1
public import proofs.«01_k».proof.Proof.MlpDn
public import proofs.«01_k».proof.Proof.Mixed
public import proofs.«01_k».proof.Proof.GradWout
public import proofs.«01_k».proof.Proof.InGrad
public import proofs.«01_k».proof.Proof.OutProj
public import proofs.«01_k».proof.Proof.MlpDown
public import proofs.«01_k».proof.Proof.NormBwd
public import proofs.«01_k».proof.Proof.AdamW
public import proofs.«01_k».proof.Proof.AdamIn
public import proofs.«01_k».proof.Proof.AdamOut
public import proofs.«01_k».proof.Proof.AdamSmall
public import proofs.«01_k».proof.Proof.AdamSmallRun
public import proofs.«01_k».proof.Proof.AdamSmallBitsRun
public import proofs.«01_k».proof.Proof.InProj
public import proofs.«01_k».proof.Proof.MlpUpFirst
public import proofs.«01_k».proof.Proof.MlpUp
public import Idealize.ShloMosaic.Adequacy
public import Idealize.ShloMosaic.Init

@[expose] public section

noncomputable section

namespace Cert.Proof

open Idealize.ShloMosaic Idealize.SL.Sem

/-- The side condition that the mask of the first half states. -/
instance halves : Cert.On_first_half.Facts := ⟨by decide⟩

set_option maxHeartbeats 2000000 in
theorem claim : Cert.Claim :=
  ⟨Cert.GradW2.Gen.facts, Cert.GradW2Ideal.Gen.facts, Cert.RefGradW2Ideal.Gen.facts,
    Cert.MlpDz.Gen.facts, Cert.MlpDzIdeal.Gen.facts, Cert.RefMlpDzIdeal.Gen.facts,
    Cert.GradW1.Gen.facts, Cert.GradW1Ideal.Gen.facts, Cert.RefGradW1Ideal.Gen.facts,
    Cert.MlpDn.Gen.facts, Cert.MlpDnIdeal.Gen.facts, Cert.RefMlpDnIdeal.Gen.facts,
    Cert.Mixed.Gen.facts, Cert.MixedIdeal.Gen.facts, Cert.RefMixedIdeal.Gen.facts,
    Cert.GradWout.Gen.facts, Cert.GradWoutIdeal.Gen.facts, Cert.RefGradWoutIdeal.Gen.facts,
    Cert.InGrad.Gen.facts, Cert.InGradIdeal.Gen.facts, Cert.RefInGradIdeal.Gen.facts,
    Cert.OutProj.Gen.facts, Cert.OutProjIdeal.Gen.facts, Cert.RefOutProjIdeal.Gen.facts,
    Cert.MlpDown.Gen.facts, Cert.MlpDownIdeal.Gen.facts, Cert.RefMlpDownIdeal.Gen.facts,
    Cert.NormBwd.Gen.facts, Cert.NormBwdIdeal.Gen.facts, Cert.RefNormBwdIdeal.Gen.facts,
    Cert.AdamW.Gen.facts, Cert.AdamWIdeal.Gen.facts, Cert.RefAdamWIdeal.Gen.facts,
    Cert.AdamIn.Gen.facts, Cert.AdamInIdeal.Gen.facts, Cert.RefAdamInIdeal.Gen.facts,
    Cert.AdamOut.Gen.facts, Cert.AdamOutIdeal.Gen.facts, Cert.RefAdamOutIdeal.Gen.facts,
    Cert.AdamSmall.Gen.facts, Cert.AdamSmallIdeal.Gen.facts, Cert.RefAdamSmallIdeal.Gen.facts,
    Cert.InProj.Gen.facts, Cert.InProjIdeal.Gen.facts, Cert.RefInProjIdeal.Gen.facts,
    Cert.MlpUpFirst.Gen.facts, Cert.MlpUpFirstIdeal.Gen.facts, Cert.RefMlpUpFirstIdeal.Gen.facts,
    Cert.MlpUp.Gen.facts, Cert.MlpUpIdeal.Gen.facts, Cert.RefMlpUpIdeal.Gen.facts,
    halves,
    fun m ρ _ => Cert.GradW2.Gen.frame m ρ, fun m ρ _ => Cert.GradW2Ideal.Gen.frame m ρ,
    fun m ρ _ => (θ_run _ _ _).mono (fun r h => ⟨fun c => (h c).2, sem_eq_zero_of_no_sems (by decide) r.2⟩) (Cert.RefGradW2Ideal.Value.run m ρ),
    fun m ρ _ => Cert.MlpDz.Gen.frame m ρ, fun m ρ _ => Cert.MlpDzIdeal.Gen.frame m ρ,
    fun m ρ _ => (θ_run _ _ _).mono (fun r h => ⟨fun c => (h c).2, sem_eq_zero_of_no_sems (by decide) r.2⟩) (Cert.RefMlpDzIdeal.Value.run m ρ),
    fun m ρ _ => Cert.GradW1.Gen.frame m ρ, fun m ρ _ => Cert.GradW1Ideal.Gen.frame m ρ,
    fun m ρ _ => (θ_run _ _ _).mono (fun r h => ⟨fun c => (h c).2, sem_eq_zero_of_no_sems (by decide) r.2⟩) (Cert.RefGradW1Ideal.Value.run m ρ),
    fun m ρ _ => Cert.MlpDn.Gen.frame m ρ, fun m ρ _ => Cert.MlpDnIdeal.Gen.frame m ρ,
    fun m ρ _ => (θ_run _ _ _).mono (fun r h => ⟨fun c => (h c).2, sem_eq_zero_of_no_sems (by decide) r.2⟩) (Cert.RefMlpDnIdeal.Value.run m ρ),
    fun m ρ _ => Cert.Mixed.Gen.frame m ρ, fun m ρ _ => Cert.MixedIdeal.Gen.frame m ρ,
    fun m ρ _ => (θ_run _ _ _).mono (fun r h => ⟨fun c => (h c).2, sem_eq_zero_of_no_sems (by decide) r.2⟩) (Cert.RefMixedIdeal.Value.run m ρ),
    fun m ρ _ => Cert.GradWout.Gen.frame m ρ, fun m ρ _ => Cert.GradWoutIdeal.Gen.frame m ρ,
    fun m ρ _ => (θ_run _ _ _).mono (fun r h => ⟨fun c => (h c).2, sem_eq_zero_of_no_sems (by decide) r.2⟩) (Cert.RefGradWoutIdeal.Value.run m ρ),
    fun m ρ _ => Cert.InGrad.Gen.frame m ρ, fun m ρ _ => Cert.InGradIdeal.Gen.frame m ρ,
    fun m ρ _ => (θ_run _ _ _).mono (fun r h => ⟨fun c => (h c).2, sem_eq_zero_of_no_sems (by decide) r.2⟩) (Cert.RefInGradIdeal.Value.run m ρ),
    fun m ρ _ => Cert.OutProj.Gen.frame m ρ, fun m ρ _ => Cert.OutProjIdeal.Gen.frame m ρ,
    fun m ρ _ => (θ_run _ _ _).mono (fun r h => ⟨fun c => (h c).2, sem_eq_zero_of_no_sems (by decide) r.2⟩) (Cert.RefOutProjIdeal.Value.run m ρ),
    fun m ρ _ => Cert.MlpDown.Gen.frame m ρ, fun m ρ _ => Cert.MlpDownIdeal.Gen.frame m ρ,
    fun m ρ _ => (θ_run _ _ _).mono (fun r h => ⟨fun c => (h c).2, sem_eq_zero_of_no_sems (by decide) r.2⟩) (Cert.RefMlpDownIdeal.Value.run m ρ),
    fun m ρ _ => Cert.NormBwd.Gen.frame m ρ, fun m ρ _ => Cert.NormBwdIdeal.Gen.frame m ρ,
    fun m ρ _ => (θ_run _ _ _).mono (fun r h => ⟨fun c => (h c).2.2, sem_eq_zero_of_no_sems (by decide) r.2⟩) (Cert.RefNormBwdIdeal.Value.run m ρ),
    fun m ρ _ => Cert.AdamW.Gen.frame m ρ, fun m ρ _ => Cert.AdamWIdeal.Gen.frame m ρ,
    fun m ρ _ => (θ_run _ _ _).mono (fun r h => ⟨fun c => (h c).2.2.2.2, sem_eq_zero_of_no_sems (by decide) r.2⟩) (Cert.RefAdamWIdeal.Value.run m ρ),
    fun m ρ _ => Cert.AdamIn.Gen.frame m ρ, fun m ρ _ => Cert.AdamInIdeal.Gen.frame m ρ,
    fun m ρ _ => (θ_run _ _ _).mono (fun r h => ⟨fun c => (h c).2.2.2.2, sem_eq_zero_of_no_sems (by decide) r.2⟩) (Cert.RefAdamInIdeal.Value.run m ρ),
    fun m ρ _ => Cert.AdamOut.Gen.frame m ρ, fun m ρ _ => Cert.AdamOutIdeal.Gen.frame m ρ,
    fun m ρ _ => (θ_run _ _ _).mono (fun r h => ⟨fun c => (h c).2.2.2.2, sem_eq_zero_of_no_sems (by decide) r.2⟩) (Cert.RefAdamOutIdeal.Value.run m ρ),
    fun m ρ _ => Cert.Own.AdamSmallBitsRun.frame m ρ, fun m ρ _ => Cert.Own.AdamSmallRun.frame m ρ,
    fun m ρ _ => (θ_run _ _ _).mono (fun r h => ⟨fun c => (h c).2.2.2.2.2.2.2.2.2.2.2.2.2.2.2.2.2.2.2.2.2.2.2.2.2.2.2, sem_eq_zero_of_no_sems (by decide) r.2⟩) (Cert.RefAdamSmallIdeal.Value.run m ρ),
    fun m ρ _ => Cert.InProj.Gen.frame m ρ, fun m ρ _ => Cert.InProjIdeal.Gen.frame m ρ,
    fun m ρ _ => (θ_run _ _ _).mono (fun r h => ⟨fun c => (h c).2, sem_eq_zero_of_no_sems (by decide) r.2⟩) (Cert.RefInProjIdeal.Value.run m ρ),
    fun m ρ _ => Cert.MlpUpFirst.Gen.frame m ρ, fun m ρ _ => Cert.MlpUpFirstIdeal.Gen.frame m ρ,
    fun m ρ _ => (θ_run _ _ _).mono (fun r h => ⟨fun c => (h c).2.2, sem_eq_zero_of_no_sems (by decide) r.2⟩) (Cert.RefMlpUpFirstIdeal.Value.run m ρ),
    fun m ρ _ => Cert.MlpUp.Gen.frame m ρ, fun m ρ _ => Cert.MlpUpIdeal.Gen.frame m ρ,
    fun m ρ _ => (θ_run _ _ _).mono (fun r h => ⟨fun c => (h c).2.2, sem_eq_zero_of_no_sems (by decide) r.2⟩) (Cert.RefMlpUpIdeal.Value.run m ρ),
    trivial, Cert.Own.GradW2.algebraic,
    trivial, Cert.Own.MlpDz.algebraic,
    trivial, Cert.Own.GradW1.algebraic,
    trivial, Cert.Own.MlpDn.algebraic,
    trivial, Cert.Own.Mixed.algebraic,
    trivial, Cert.Own.GradWout.algebraic,
    trivial, Cert.Own.InGrad.algebraic,
    trivial, Cert.Own.OutProj.algebraic,
    trivial, Cert.Own.MlpDown.algebraic,
    trivial, Cert.Own.NormBwd.algebraic,
    trivial, Cert.Own.AdamW.algebraic,
    trivial, Cert.Own.AdamIn.algebraic,
    trivial, Cert.Own.AdamOut.algebraic,
    trivial, Cert.Own.AdamSmall.algebraic,
    trivial, Cert.Own.InProj.algebraic,
    trivial, Cert.Own.MlpUpFirst.algebraic,
    trivial, Cert.Own.MlpUp.algebraic⟩

end Cert.Proof

end
